-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v96)) (v1 : (c : Dev Cert.KernelIdeal.nD) → Buf (Elt Ideal) ((c.tc : Thread Cert.KernelIdeal.nD Cert.KernelIdeal.τ).loc Cert.KernelIdeal.main_values_13)) (v2 : (c : Dev Cert.KernelIdeal.nD) → Buf (Elt Ideal) ((c.tc : Thread Cert.KernelIdeal.nD Cert.KernelIdeal.τ).loc Cert.KernelIdeal.main_v103)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v96) = v0 c
          ∧ r.2.mem ((c.tc : Thread Cert.KernelIdeal.nD Cert.KernelIdeal.τ).loc Cert.KernelIdeal.main_values_13) = v1 c
          ∧ r.2.mem ((c.tc : Thread Cert.KernelIdeal.nD Cert.KernelIdeal.τ).loc Cert.KernelIdeal.main_v103) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v175) = v0 c
          ∧ r.2.mem ((c.tc : Thread Cert.ReferenceIdeal.nD Cert.ReferenceIdeal.τ).loc Cert.ReferenceIdeal.main_values_31) = v1 c
          ∧ r.2.mem ((c.tc : Thread Cert.ReferenceIdeal.nD Cert.ReferenceIdeal.τ).loc Cert.ReferenceIdeal.main_v182) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S20000x81 : Shape := ⟨2, ![20000, 81]⟩
abbrev S20000x320 : Shape := ⟨2, ![20000, 320]⟩
abbrev S20000x4 : Shape := ⟨2, ![20000, 4]⟩
abbrev S4 : Shape := ⟨1, ![4]⟩
abbrev S1 : Shape := ⟨1, ![1]⟩
abbrev S_ : Shape := ⟨0, ![]⟩
abbrev S20000x80 : Shape := ⟨2, ![20000, 80]⟩
abbrev S2000x81 : Shape := ⟨2, ![2000, 81]⟩
abbrev S2000x80 : Shape := ⟨2, ![2000, 80]⟩
abbrev S2000 : Shape := ⟨1, ![2000]⟩
abbrev S2000x1 : Shape := ⟨2, ![2000, 1]⟩
abbrev S1600000 : Shape := ⟨1, ![1600000]⟩
abbrev S2000x4 : Shape := ⟨2, ![2000, 4]⟩
abbrev S1600000x4 : Shape := ⟨2, ![1600000, 4]⟩
abbrev S2048 : Shape := ⟨1, ![2048]⟩
abbrev S2048x4 : Shape := ⟨2, ![2048, 4]⟩
abbrev S1x128 : Shape := ⟨2, ![1, 128]⟩
abbrev S2 : Shape := ⟨1, ![2]⟩
abbrev S2048x1 : Shape := ⟨2, ![2048, 1]⟩
abbrev S8x256 : Shape := ⟨2, ![8, 256]⟩
abbrev S1x1 : Shape := ⟨2, ![1, 1]⟩
abbrev S1x8x256 : Shape := ⟨3, ![1, 8, 256]⟩
abbrev S1x1x1 : Shape := ⟨3, ![1, 1, 1]⟩
abbrev S100 : Shape := ⟨1, ![100]⟩
abbrev S100x1 : Shape := ⟨2, ![100, 1]⟩
abbrev S100x4 : Shape := ⟨2, ![100, 4]⟩

abbrev nBuf : Space → Nat
  | .hbm => 175
  | .vmem => 33
  | .smem => 0
  | _ => 0

abbrev hbmTy0_0 (i : Nat) : BufTy := match i % 128 with
  | 0 => ⟨S20000x81, .f32⟩
  | 1 => ⟨S20000x320, .f32⟩
  | 2 => ⟨S20000x4, .f32⟩
  | 3 => ⟨S4, .i32⟩
  | 4 => ⟨S1, .i32⟩
  | 5 => ⟨S_, .i32⟩
  | 6 => ⟨S_, .f32⟩
  | 7 => ⟨S1, .i32⟩
  | 8 => ⟨S_, .i32⟩
  | 9 => ⟨S_, .f32⟩
  | 10 => ⟨S20000x80, .f32⟩
  | 11 => ⟨S1600000, .f32⟩
  | 12 => ⟨S2000, .f32⟩
  | 13 => ⟨S2000, .i32⟩
  | 14 => ⟨S_, .i32⟩
  | 15 => ⟨S_, .i32⟩
  | 16 => ⟨S2000, .i32⟩
  | 17 => ⟨S2000, .i32⟩
  | 18 => ⟨S2000, .i32⟩
  | 19 => ⟨S_, .i32⟩
  | 20 => ⟨S2000, .i32⟩
  | 21 => ⟨S2000, .i1⟩
  | 22 => ⟨S2000, .i32⟩
  | 23 => ⟨S2000, .i32⟩
  | 24 => ⟨S_, .i32⟩
  | 25 => ⟨S2000, .i32⟩
  | 26 => ⟨S2000, .i1⟩
  | 27 => ⟨S2000, .i1⟩
  | 28 => ⟨S_, .i32⟩
  | 29 => ⟨S2000, .i32⟩
  | 30 => ⟨S2000, .i32⟩
  | 31 => ⟨S2000, .i32⟩
  | 32 => ⟨S_, .i32⟩
  | 33 => ⟨S_, .i32⟩
  | 34 => ⟨S_, .i32⟩
  | 35 => ⟨S_, .i1⟩
  | 36 => ⟨S_, .i32⟩
  | 37 => ⟨S_, .i32⟩
  | 38 => ⟨S2000, .i32⟩
  | 39 => ⟨S2000, .i32⟩
  | 40 => ⟨S_, .i32⟩
  | 41 => ⟨S2000, .i32⟩
  | 42 => ⟨S2000, .i1⟩
  | 43 => ⟨S_, .i32⟩
  | 44 => ⟨S2000, .i32⟩
  | 45 => ⟨S2000, .i1⟩
  | 46 => ⟨S_, .i32⟩
  | 47 => ⟨S_, .i1⟩
  | 48 => ⟨S2000, .i1⟩
  | 49 => ⟨S2000, .i1⟩
  | 50 => ⟨S2000, .i1⟩
  | 51 => ⟨S2000, .i32⟩
  | 52 => ⟨S2000, .i32⟩
  | 53 => ⟨S2000, .i32⟩
  | 54 => ⟨S_, .i32⟩
  | 55 => ⟨S2000, .i32⟩
  | 56 => ⟨S2000, .i1⟩
  | 57 => ⟨S_, .i32⟩
  | 58 => ⟨S2000, .i32⟩
  | 59 => ⟨S2000, .i32⟩
  | 60 => ⟨S2000, .i32⟩
  | 61 => ⟨S2000x1, .i32⟩
  | 62 => ⟨S2000x4, .f32⟩
  | 63 => ⟨S1600000x4, .f32⟩
  | 64 => ⟨S_, .i32⟩
  | 65 => ⟨S2000, .i32⟩
  | 66 => ⟨S2000, .i1⟩
  | 67 => ⟨S_, .i32⟩
  | 68 => ⟨S2000, .i32⟩
  | 69 => ⟨S2000, .i32⟩
  | 70 => ⟨S2000, .i32⟩
  | 71 => ⟨S2000x1, .i32⟩
  | 72 => ⟨S2000x4, .f32⟩
  | 73 => ⟨S_, .f32⟩
  | 74 => ⟨S_, .f32⟩
  | 75 => ⟨S2048, .f32⟩
  | 76 => ⟨S2000, .f32⟩
  | 77 => ⟨S_, .i32⟩
  | 78 => ⟨S_, .f32⟩
  | 79 => ⟨S2048, .f32⟩
  | 80 => ⟨S_, .i32⟩
  | 81 => ⟨S_, .f32⟩
  | 82 => ⟨S2048x4, .f32⟩
  | 83 => ⟨S_, .i32⟩
  | 84 => ⟨S_, .f32⟩
  | 85 => ⟨S2048x4, .f32⟩
  | 86 => ⟨S_, .f32⟩
  | 87 => ⟨S1x128, .f32⟩
  | 88 => ⟨S_, .i32⟩
  | 89 => ⟨S1, .i32⟩
  | 90 => ⟨S_, .i32⟩
  | 91 => ⟨S1, .i32⟩
  | 92 => ⟨S2, .i32⟩
  | 93 => ⟨S1x128, .f32⟩
  | 94 => ⟨S_, .i32⟩
  | 95 => ⟨S1, .i32⟩
  | 96 => ⟨S_, .i32⟩
  | 97 => ⟨S1, .i32⟩
  | 98 => ⟨S2, .i32⟩
  | 99 => ⟨S1x128, .f32⟩
  | 100 => ⟨S2048x1, .f32⟩
  | 101 => ⟨S2048, .f32⟩
  | 102 => ⟨S2048x1, .f32⟩
  | 103 => ⟨S2048, .f32⟩
  | 104 => ⟨S2048x1, .f32⟩
  | 105 => ⟨S2048, .f32⟩
  | 106 => ⟨S2048x1, .f32⟩
  | 107 => ⟨S2048, .f32⟩
  | 108 => ⟨S2048x1, .f32⟩
  | 109 => ⟨S2048, .f32⟩
  | 110 => ⟨S2048x1, .f32⟩
  | 111 => ⟨S2048, .f32⟩
  | 112 => ⟨S2048x1, .f32⟩
  | 113 => ⟨S2048, .f32⟩
  | 114 => ⟨S2048x1, .f32⟩
  | 115 => ⟨S2048, .f32⟩
  | 116 => ⟨S8x256, .f32⟩
  | 117 => ⟨S8x256, .f32⟩
  | 118 => ⟨S8x256, .f32⟩
  | 119 => ⟨S8x256, .f32⟩
  | 120 => ⟨S8x256, .f32⟩
  | 121 => ⟨S8x256, .f32⟩
  | 122 => ⟨S8x256, .f32⟩
  | 123 => ⟨S8x256, .f32⟩
  | 124 => ⟨S8x256, .f32⟩
  | 125 => ⟨S8x256, .f32⟩
  | 126 => ⟨S2048x1, .f32⟩
  | 127 => ⟨S2048x1, .f32⟩
  | _ => ⟨S20000x81, .f32⟩

abbrev hbmTy0_1 (i : Nat) : BufTy := match i % 128 with
  | 0 => ⟨S2048x1, .f32⟩
  | 1 => ⟨S2048x1, .f32⟩
  | 2 => ⟨S2048x1, .f32⟩
  | 3 => ⟨S2048x1, .f32⟩
  | 4 => ⟨S2048x1, .f32⟩
  | 5 => ⟨S2048x1, .f32⟩
  | 6 => ⟨S2048x1, .f32⟩
  | 7 => ⟨S8x256, .f32⟩
  | 8 => ⟨S8x256, .f32⟩
  | 9 => ⟨S8x256, .f32⟩
  | 10 => ⟨S8x256, .f32⟩
  | 11 => ⟨S8x256, .f32⟩
  | 12 => ⟨S2048, .f32⟩
  | 13 => ⟨S2000, .f32⟩
  | 14 => ⟨S100, .f32⟩
  | 15 => ⟨S100, .i32⟩
  | 16 => ⟨S2048, .f32⟩
  | 17 => ⟨S2000, .f32⟩
  | 18 => ⟨S2048, .f32⟩
  | 19 => ⟨S2000, .f32⟩
  | 20 => ⟨S2048, .f32⟩
  | 21 => ⟨S2000, .f32⟩
  | 22 => ⟨S2048, .f32⟩
  | 23 => ⟨S2000, .f32⟩
  | 24 => ⟨S2000x1, .f32⟩
  | 25 => ⟨S2000x1, .f32⟩
  | 26 => ⟨S2000x1, .f32⟩
  | 27 => ⟨S2000x1, .f32⟩
  | 28 => ⟨S2000x4, .f32⟩
  | 29 => ⟨S_, .i32⟩
  | 30 => ⟨S100, .i32⟩
  | 31 => ⟨S100, .i1⟩
  | 32 => ⟨S_, .i32⟩
  | 33 => ⟨S100, .i32⟩
  | 34 => ⟨S100, .i32⟩
  | 35 => ⟨S100, .i32⟩
  | 36 => ⟨S100x1, .i32⟩
  | 37 => ⟨S100x4, .f32⟩
  | 38 => ⟨S_, .i32⟩
  | 39 => ⟨S100, .i32⟩
  | 40 => ⟨S100, .i1⟩
  | 41 => ⟨S_, .i32⟩
  | 42 => ⟨S100, .i32⟩
  | 43 => ⟨S100, .i32⟩
  | 44 => ⟨S100, .i32⟩
  | 45 => ⟨S100x1, .i32⟩
  | 46 => ⟨S100, .i32⟩
  | _ => ⟨S20000x81, .f32⟩

abbrev hbmTy (i : Nat) : BufTy := match i / 128 with
  | 0 => hbmTy0_0 i
  | 1 => hbmTy0_1 i
  | _ => ⟨S20000x81, .f32⟩

abbrev bufTy : (tb : Table) → Fin (tcTables nBuf tb) → BufTy
  | .hbm, ⟨i, _⟩ => hbmTy i
  | .local _ .vmem, ⟨0, _⟩ => ⟨S2000x81, .f32⟩
  | .local _ .vmem, ⟨1, _⟩ => ⟨S2000x81, .f32⟩
  | .local _ .vmem, ⟨2, _⟩ => ⟨S2000x80, .f32⟩
  | .local _ .vmem, ⟨3, _⟩ => ⟨S2000x80, .f32⟩
  | .local _ .vmem, ⟨4, _⟩ => ⟨S1x128, .f32⟩
  | .local _ .vmem, ⟨5, _⟩ => ⟨S8x256, .f32⟩
  | .local _ .vmem, ⟨6, _⟩ => ⟨S8x256, .f32⟩
  | .local _ .vmem, ⟨7, _⟩ => ⟨S8x256, .f32⟩
  | .local _ .vmem, ⟨8, _⟩ => ⟨S8x256, .f32⟩
  | .local _ .vmem, ⟨9, _⟩ => ⟨S8x256, .f32⟩
  | .local _ .vmem, ⟨10, _⟩ => ⟨S8x256, .f32⟩
  | .local _ .vmem, ⟨11, _⟩ => ⟨S8x256, .f32⟩
  | .local _ .vmem, ⟨12, _⟩ => ⟨S8x256, .f32⟩
  | .local _ .vmem, ⟨13, _⟩ => ⟨S8x256, .f32⟩
  | .local _ .vmem, ⟨14, _⟩ => ⟨S8x256, .f32⟩
  | .local _ .vmem, ⟨15, _⟩ => ⟨S2048x1, .f32⟩
  | .local _ .vmem, ⟨16, _⟩ => ⟨S2048x1, .f32⟩
  | .local _ .vmem, ⟨17, _⟩ => ⟨S2048x1, .f32⟩
  | .local _ .vmem, ⟨18, _⟩ => ⟨S2048x1, .f32⟩
  | .local _ .vmem, ⟨19, _⟩ => ⟨S2048x1, .f32⟩
  | .local _ .vmem, ⟨20, _⟩ => ⟨S2048x1, .f32⟩
  | .local _ .vmem, ⟨21, _⟩ => ⟨S2048x1, .f32⟩
  | .local _ .vmem, ⟨22, _⟩ => ⟨S2048x1, .f32⟩
  | .local _ .vmem, ⟨23, _⟩ => ⟨S2048x1, .f32⟩
  | .local _ .vmem, ⟨24, _⟩ => ⟨S8x256, .f32⟩
  | .local _ .vmem, ⟨25, _⟩ => ⟨S8x256, .f32⟩
  | .local _ .vmem, ⟨26, _⟩ => ⟨S8x256, .f32⟩
  | .local _ .vmem, ⟨27, _⟩ => ⟨S8x256, .f32⟩
  | .local _ .vmem, ⟨28, _⟩ => ⟨S8x256, .f32⟩
  | .local _ .vmem, ⟨29, _⟩ => ⟨S2048x1, .f32⟩
  | .local _ .vmem, ⟨30, _⟩ => ⟨S2048x1, .f32⟩
  | .local _ .vmem, ⟨31, _⟩ => ⟨S2048x1, .f32⟩
  | .local _ .vmem, ⟨32, _⟩ => ⟨S2048x1, .f32⟩
  | _, _ => ⟨S20000x81, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_values : Ref sig .tc := ⟨.hbm, 12, rfl⟩
abbrev main_indices : Ref sig .tc := ⟨.hbm, 13, rfl⟩
abbrev main_c : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_c : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_c_0 : Ref sig .tc := ⟨.hbm, 28, rfl⟩
abbrev main_call0_v12 : Ref sig .tc := ⟨.hbm, 29, rfl⟩
abbrev main_call0_v13 : Ref sig .tc := ⟨.hbm, 30, rfl⟩
abbrev main_v8 : Ref sig .tc := ⟨.hbm, 31, rfl⟩
abbrev main_c_0 : Ref sig .tc := ⟨.hbm, 32, rfl⟩
abbrev main_call1_v0 : Ref sig .tc := ⟨.hbm, 33, rfl⟩
abbrev main_call1_c : Ref sig .tc := ⟨.hbm, 34, rfl⟩
abbrev main_call1_v1 : Ref sig .tc := ⟨.hbm, 35, rfl⟩
abbrev main_call1_c_0 : Ref sig .tc := ⟨.hbm, 36, rfl⟩
abbrev main_call1_v2 : Ref sig .tc := ⟨.hbm, 37, rfl⟩
abbrev main_call1_v3 : Ref sig .tc := ⟨.hbm, 38, rfl⟩
abbrev main_call1_v4 : Ref sig .tc := ⟨.hbm, 39, rfl⟩
abbrev main_call1_c_1 : Ref sig .tc := ⟨.hbm, 40, rfl⟩
abbrev main_call1_v5 : Ref sig .tc := ⟨.hbm, 41, rfl⟩
abbrev main_call1_v6 : Ref sig .tc := ⟨.hbm, 42, rfl⟩
abbrev main_call1_c_2 : Ref sig .tc := ⟨.hbm, 43, rfl⟩
abbrev main_call1_v7 : Ref sig .tc := ⟨.hbm, 44, rfl⟩
abbrev main_call1_v8 : Ref sig .tc := ⟨.hbm, 45, rfl⟩
abbrev main_call1_c_3 : Ref sig .tc := ⟨.hbm, 46, rfl⟩
abbrev main_call1_v9 : Ref sig .tc := ⟨.hbm, 47, rfl⟩
abbrev main_call1_v10 : Ref sig .tc := ⟨.hbm, 48, rfl⟩
abbrev main_call1_v11 : Ref sig .tc := ⟨.hbm, 49, rfl⟩
abbrev main_call1_v12 : Ref sig .tc := ⟨.hbm, 50, rfl⟩
abbrev main_call1_v13 : Ref sig .tc := ⟨.hbm, 51, rfl⟩
abbrev main_call1_v14 : Ref sig .tc := ⟨.hbm, 52, rfl⟩
abbrev main_v9 : Ref sig .tc := ⟨.hbm, 53, rfl⟩
abbrev main_c_1 : Ref sig .tc := ⟨.hbm, 54, rfl⟩
abbrev main_v10 : Ref sig .tc := ⟨.hbm, 55, rfl⟩
abbrev main_v11 : Ref sig .tc := ⟨.hbm, 56, rfl⟩
abbrev main_c_2 : Ref sig .tc := ⟨.hbm, 57, rfl⟩
abbrev main_v12 : Ref sig .tc := ⟨.hbm, 58, rfl⟩
abbrev main_v13 : Ref sig .tc := ⟨.hbm, 59, rfl⟩
abbrev main_v14 : Ref sig .tc := ⟨.hbm, 60, rfl⟩
abbrev main_v15 : Ref sig .tc := ⟨.hbm, 61, rfl⟩
abbrev main_v16 : Ref sig .tc := ⟨.hbm, 62, rfl⟩
abbrev main_v17 : Ref sig .tc := ⟨.hbm, 63, rfl⟩
abbrev main_c_3 : Ref sig .tc := ⟨.hbm, 64, rfl⟩
abbrev main_v18 : Ref sig .tc := ⟨.hbm, 65, rfl⟩
abbrev main_v19 : Ref sig .tc := ⟨.hbm, 66, rfl⟩
abbrev main_c_4 : Ref sig .tc := ⟨.hbm, 67, rfl⟩
abbrev main_v20 : Ref sig .tc := ⟨.hbm, 68, rfl⟩
abbrev main_v21 : Ref sig .tc := ⟨.hbm, 69, rfl⟩
abbrev main_v22 : Ref sig .tc := ⟨.hbm, 70, rfl⟩
abbrev main_v23 : Ref sig .tc := ⟨.hbm, 71, rfl⟩
abbrev main_v24 : Ref sig .tc := ⟨.hbm, 72, rfl⟩
abbrev main_cst : Ref sig .tc := ⟨.hbm, 73, rfl⟩
abbrev main_call2_v0 : Ref sig .tc := ⟨.hbm, 74, rfl⟩
abbrev main_v25 : Ref sig .tc := ⟨.hbm, 75, rfl⟩
abbrev main_v26 : Ref sig .tc := ⟨.hbm, 76, rfl⟩
abbrev main_c_5 : Ref sig .tc := ⟨.hbm, 77, rfl⟩
abbrev main_call3_v0 : Ref sig .tc := ⟨.hbm, 78, rfl⟩
abbrev main_v27 : Ref sig .tc := ⟨.hbm, 79, rfl⟩
abbrev main_c_6 : Ref sig .tc := ⟨.hbm, 80, rfl⟩
abbrev main_call4_v0 : Ref sig .tc := ⟨.hbm, 81, rfl⟩
abbrev main_v28 : Ref sig .tc := ⟨.hbm, 82, rfl⟩
abbrev main_c_7 : Ref sig .tc := ⟨.hbm, 83, rfl⟩
abbrev main_call5_v0 : Ref sig .tc := ⟨.hbm, 84, rfl⟩
abbrev main_v29 : Ref sig .tc := ⟨.hbm, 85, rfl⟩
abbrev main_cst_8 : Ref sig .tc := ⟨.hbm, 86, rfl⟩
abbrev main_v30 : Ref sig .tc := ⟨.hbm, 87, rfl⟩
abbrev main_c_9 : Ref sig .tc := ⟨.hbm, 88, rfl⟩
abbrev main_v31 : Ref sig .tc := ⟨.hbm, 89, rfl⟩
abbrev main_c_10 : Ref sig .tc := ⟨.hbm, 90, rfl⟩
abbrev main_v32 : Ref sig .tc := ⟨.hbm, 91, rfl⟩
abbrev main_v33 : Ref sig .tc := ⟨.hbm, 92, rfl⟩
abbrev main_v34 : Ref sig .tc := ⟨.hbm, 93, rfl⟩
abbrev main_c_11 : Ref sig .tc := ⟨.hbm, 94, rfl⟩
abbrev main_v35 : Ref sig .tc := ⟨.hbm, 95, rfl⟩
abbrev main_c_12 : Ref sig .tc := ⟨.hbm, 96, rfl⟩
abbrev main_v36 : Ref sig .tc := ⟨.hbm, 97, rfl⟩
abbrev main_v37 : Ref sig .tc := ⟨.hbm, 98, rfl⟩
abbrev main_v38 : Ref sig .tc := ⟨.hbm, 99, rfl⟩
abbrev main_v39 : Ref sig .tc := ⟨.hbm, 100, rfl⟩
abbrev main_v40 : Ref sig .tc := ⟨.hbm, 101, rfl⟩
abbrev main_v41 : Ref sig .tc := ⟨.hbm, 102, rfl⟩
abbrev main_v42 : Ref sig .tc := ⟨.hbm, 103, rfl⟩
abbrev main_v43 : Ref sig .tc := ⟨.hbm, 104, rfl⟩
abbrev main_v44 : Ref sig .tc := ⟨.hbm, 105, rfl⟩
abbrev main_v45 : Ref sig .tc := ⟨.hbm, 106, rfl⟩
abbrev main_v46 : Ref sig .tc := ⟨.hbm, 107, rfl⟩
abbrev main_v47 : Ref sig .tc := ⟨.hbm, 108, rfl⟩
abbrev main_v48 : Ref sig .tc := ⟨.hbm, 109, rfl⟩
abbrev main_v49 : Ref sig .tc := ⟨.hbm, 110, rfl⟩
abbrev main_v50 : Ref sig .tc := ⟨.hbm, 111, rfl⟩
abbrev main_v51 : Ref sig .tc := ⟨.hbm, 112, rfl⟩
abbrev main_v52 : Ref sig .tc := ⟨.hbm, 113, rfl⟩
abbrev main_v53 : Ref sig .tc := ⟨.hbm, 114, rfl⟩
abbrev main_v54 : Ref sig .tc := ⟨.hbm, 115, rfl⟩
abbrev main_v55 : Ref sig .tc := ⟨.hbm, 116, rfl⟩
abbrev main_v56 : Ref sig .tc := ⟨.hbm, 117, rfl⟩
abbrev main_v57 : Ref sig .tc := ⟨.hbm, 118, rfl⟩
abbrev main_v58 : Ref sig .tc := ⟨.hbm, 119, rfl⟩
abbrev main_v59 : Ref sig .tc := ⟨.hbm, 120, rfl⟩
abbrev main_v60 : Ref sig .tc := ⟨.hbm, 121, rfl⟩
abbrev main_v61 : Ref sig .tc := ⟨.hbm, 122, rfl⟩
abbrev main_v62 : Ref sig .tc := ⟨.hbm, 123, rfl⟩
abbrev main_v63 : Ref sig .tc := ⟨.hbm, 124, rfl⟩
abbrev main_v64 : Ref sig .tc := ⟨.hbm, 125, rfl⟩
abbrev main_v65 : Ref sig .tc := ⟨.hbm, 126, rfl⟩
abbrev main_v66 : Ref sig .tc := ⟨.hbm, 127, rfl⟩
abbrev main_v67 : Ref sig .tc := ⟨.hbm, 128, rfl⟩
abbrev main_v68 : Ref sig .tc := ⟨.hbm, 129, rfl⟩
abbrev main_v69 : Ref sig .tc := ⟨.hbm, 130, rfl⟩
abbrev main_v70 : Ref sig .tc := ⟨.hbm, 131, rfl⟩
abbrev main_v71 : Ref sig .tc := ⟨.hbm, 132, rfl⟩
abbrev main_v72 : Ref sig .tc := ⟨.hbm, 133, rfl⟩
abbrev main_v73 : Ref sig .tc := ⟨.hbm, 134, rfl⟩
abbrev main_v74_0 : Ref sig .tc := ⟨.hbm, 135, rfl⟩
abbrev main_v74_1 : Ref sig .tc := ⟨.hbm, 136, rfl⟩
abbrev main_v74_2 : Ref sig .tc := ⟨.hbm, 137, rfl⟩
abbrev main_v74_3 : Ref sig .tc := ⟨.hbm, 138, rfl⟩
abbrev main_v74_4 : Ref sig .tc := ⟨.hbm, 139, rfl⟩
abbrev main_v75 : Ref sig .tc := ⟨.hbm, 140, rfl⟩
abbrev main_v76 : Ref sig .tc := ⟨.hbm, 141, rfl⟩
abbrev main_values_13 : Ref sig .tc := ⟨.hbm, 142, rfl⟩
abbrev main_indices_14 : Ref sig .tc := ⟨.hbm, 143, rfl⟩
abbrev main_v77 : Ref sig .tc := ⟨.hbm, 144, rfl⟩
abbrev main_v78 : Ref sig .tc := ⟨.hbm, 145, rfl⟩
abbrev main_v79 : Ref sig .tc := ⟨.hbm, 146, rfl⟩
abbrev main_v80 : Ref sig .tc := ⟨.hbm, 147, rfl⟩
abbrev main_v81 : Ref sig .tc := ⟨.hbm, 148, rfl⟩
abbrev main_v82 : Ref sig .tc := ⟨.hbm, 149, rfl⟩
abbrev main_v83 : Ref sig .tc := ⟨.hbm, 150, rfl⟩
abbrev main_v84 : Ref sig .tc := ⟨.hbm, 151, rfl⟩
abbrev main_v85 : Ref sig .tc := ⟨.hbm, 152, rfl⟩
abbrev main_v86 : Ref sig .tc := ⟨.hbm, 153, rfl⟩
abbrev main_v87 : Ref sig .tc := ⟨.hbm, 154, rfl⟩
abbrev main_v88 : Ref sig .tc := ⟨.hbm, 155, rfl⟩
abbrev main_v89 : Ref sig .tc := ⟨.hbm, 156, rfl⟩
abbrev main_c_15 : Ref sig .tc := ⟨.hbm, 157, rfl⟩
abbrev main_v90 : Ref sig .tc := ⟨.hbm, 158, rfl⟩
abbrev main_v91 : Ref sig .tc := ⟨.hbm, 159, rfl⟩
abbrev main_c_16 : Ref sig .tc := ⟨.hbm, 160, rfl⟩
abbrev main_v92 : Ref sig .tc := ⟨.hbm, 161, rfl⟩
abbrev main_v93 : Ref sig .tc := ⟨.hbm, 162, rfl⟩
abbrev main_v94 : Ref sig .tc := ⟨.hbm, 163, rfl⟩
abbrev main_v95 : Ref sig .tc := ⟨.hbm, 164, rfl⟩
abbrev main_v96 : Ref sig .tc := ⟨.hbm, 165, rfl⟩
abbrev main_c_17 : Ref sig .tc := ⟨.hbm, 166, rfl⟩
abbrev main_v97 : Ref sig .tc := ⟨.hbm, 167, rfl⟩
abbrev main_v98 : Ref sig .tc := ⟨.hbm, 168, rfl⟩
abbrev main_c_18 : Ref sig .tc := ⟨.hbm, 169, rfl⟩
abbrev main_v99 : Ref sig .tc := ⟨.hbm, 170, rfl⟩
abbrev main_v100 : Ref sig .tc := ⟨.hbm, 171, rfl⟩
abbrev main_v101 : Ref sig .tc := ⟨.hbm, 172, rfl⟩
abbrev main_v102 : Ref sig .tc := ⟨.hbm, 173, rfl⟩
abbrev main_v103 : Ref sig .tc := ⟨.hbm, 174, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg1_0 : Ref sig .tc := ⟨.vmem, 5, rfl⟩
abbrev cc1_stg2_0 : Ref sig .tc := ⟨.vmem, 6, rfl⟩
abbrev cc1_stg3_0 : Ref sig .tc := ⟨.vmem, 7, rfl⟩
abbrev cc1_stg4_0 : Ref sig .tc := ⟨.vmem, 8, rfl⟩
abbrev cc1_stg5_0 : Ref sig .tc := ⟨.vmem, 9, rfl⟩
abbrev cc1_stg6_0 : Ref sig .tc := ⟨.vmem, 10, rfl⟩
abbrev cc1_stg7_0 : Ref sig .tc := ⟨.vmem, 11, rfl⟩
abbrev cc1_stg8_0 : Ref sig .tc := ⟨.vmem, 12, rfl⟩
abbrev cc1_stg9_0 : Ref sig .tc := ⟨.vmem, 13, rfl⟩
abbrev cc1_stg10_0 : Ref sig .tc := ⟨.vmem, 14, rfl⟩
abbrev cc1_stg11_0 : Ref sig .tc := ⟨.vmem, 15, rfl⟩
abbrev cc1_stg12_0 : Ref sig .tc := ⟨.vmem, 16, rfl⟩
abbrev cc1_stg13_0 : Ref sig .tc := ⟨.vmem, 17, rfl⟩
abbrev cc1_stg14_0 : Ref sig .tc := ⟨.vmem, 18, rfl⟩
abbrev cc1_stg15_0 : Ref sig .tc := ⟨.vmem, 19, rfl⟩
abbrev cc1_stg16_0 : Ref sig .tc := ⟨.vmem, 20, rfl⟩
abbrev cc1_stg17_0 : Ref sig .tc := ⟨.vmem, 21, rfl⟩
abbrev cc1_stg18_0 : Ref sig .tc := ⟨.vmem, 22, rfl⟩
abbrev cc1_stg19_0 : Ref sig .tc := ⟨.vmem, 23, rfl⟩
abbrev cc1_stg20_0 : Ref sig .tc := ⟨.vmem, 24, rfl⟩
abbrev cc1_stg21_0 : Ref sig .tc := ⟨.vmem, 25, rfl⟩
abbrev cc1_stg22_0 : Ref sig .tc := ⟨.vmem, 26, rfl⟩
abbrev cc1_stg23_0 : Ref sig .tc := ⟨.vmem, 27, rfl⟩
abbrev cc1_stg24_0 : Ref sig .tc := ⟨.vmem, 28, rfl⟩
abbrev cc1_scratch0 : Ref sig .tc := ⟨.vmem, 29, rfl⟩
abbrev cc1_scratch1 : Ref sig .tc := ⟨.vmem, 30, rfl⟩
abbrev cc1_scratch2 : Ref sig .tc := ⟨.vmem, 31, rfl⟩
abbrev cc1_scratch3 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem1_0 : DmaSem sig := 5
abbrev cc1_sem2_0 : DmaSem sig := 6
abbrev cc1_sem3_0 : DmaSem sig := 7
abbrev cc1_sem4_0 : DmaSem sig := 8
abbrev cc1_sem5_0 : DmaSem sig := 9
abbrev cc1_sem6_0 : DmaSem sig := 10
abbrev cc1_sem7_0 : DmaSem sig := 11
abbrev cc1_sem8_0 : DmaSem sig := 12
abbrev cc1_sem9_0 : DmaSem sig := 13
abbrev cc1_sem10_0 : DmaSem sig := 14
abbrev cc1_sem11_0 : DmaSem sig := 15
abbrev cc1_sem12_0 : DmaSem sig := 16
abbrev cc1_sem13_0 : DmaSem sig := 17
abbrev cc1_sem14_0 : DmaSem sig := 18
abbrev cc1_sem15_0 : DmaSem sig := 19
abbrev cc1_sem16_0 : DmaSem sig := 20
abbrev cc1_sem17_0 : DmaSem sig := 21
abbrev cc1_sem18_0 : DmaSem sig := 22
abbrev cc1_sem19_0 : DmaSem sig := 23
abbrev cc1_sem20_0 : DmaSem sig := 24
abbrev cc1_sem21_0 : DmaSem sig := 25
abbrev cc1_sem22_0 : DmaSem sig := 26
abbrev cc1_sem23_0 : DmaSem sig := 27
abbrev cc1_sem24_0 : DmaSem sig := 28

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x81 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x80 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := .none

@[reducible] def k1_t1_loop : Scf.Loop 32 :=
  let c0_i32 : BitVec 32 := 0#32
  let c2000_i32 : BitVec 32 := 2000#32
  let v235 : BitVec 32 := Scalar.addi c0_i32 c2000_i32
  let c1_i32 : BitVec 32 := 1#32
  ⟨c0_i32, v235, c1_i32⟩
def k1_off1 (k1_t1 : Fin k1_t1_loop.trips) : Fin 2 → Nat :=
  let c0_i32 : BitVec 32 := 0#32
  let c1_i32 : BitVec 32 := 1#32
  let arg29 : BitVec 32 := Scf.iv c0_i32 c1_i32 k1_t1
  let v242 : Index := Scalar.indexCast arg29
  let c0_104 : Index := 0#32
  ![v242.toNat, 0]
abbrev stage1_0 : Fin 1 → Memref sig .tc .vmem S1x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S8x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S8x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S8x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S8x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev stage1_5 : Fin 1 → Memref sig .tc .vmem S8x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))

abbrev stage1_6 : Fin 1 → Memref sig .tc .vmem S8x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))

abbrev stage1_7 : Fin 1 → Memref sig .tc .vmem S8x256 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))

abbrev stage1_8 : Fin 1 → Memref sig .tc .vmem S8x256 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))

abbrev stage1_9 : Fin 1 → Memref sig .tc .vmem S8x256 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))

abbrev stage1_10 : Fin 1 → Memref sig .tc .vmem S8x256 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))

abbrev stage1_11 : Fin 1 → Memref sig .tc .vmem S2048x1 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))

abbrev stage1_12 : Fin 1 → Memref sig .tc .vmem S2048x1 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))

abbrev stage1_13 : Fin 1 → Memref sig .tc .vmem S2048x1 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))

abbrev stage1_14 : Fin 1 → Memref sig .tc .vmem S2048x1 .f32 := fun | 0 => Memref.whole cc1_stg14_0 | ⟨_ + 1, h⟩ => absurd h (Nat.not_lt.2 (Nat.le_add_left _ _))
abbrev sem1_14 : Fin 1 → DmaSem sig := fun | 0 => cc1_sem14_0 | ⟨_ + 1, h⟩ => absurd h (Nat.not_lt.2 (Nat.le_add_left _ _))

abbrev stage1_15 : Fin 1 → Memref sig .tc .vmem S2048x1 .f32 := fun | 0 => Memref.whole cc1_stg15_0 | ⟨_ + 1, h⟩ => absurd h (Nat.not_lt.2 (Nat.le_add_left _ _))
abbrev sem1_15 : Fin 1 → DmaSem sig := fun | 0 => cc1_sem15_0 | ⟨_ + 1, h⟩ => absurd h (Nat.not_lt.2 (Nat.le_add_left _ _))

abbrev stage1_16 : Fin 1 → Memref sig .tc .vmem S2048x1 .f32 := fun | 0 => Memref.whole cc1_stg16_0 | ⟨_ + 1, h⟩ => absurd h (Nat.not_lt.2 (Nat.le_add_left _ _))
abbrev sem1_16 : Fin 1 → DmaSem sig := fun | 0 => cc1_sem16_0 | ⟨_ + 1, h⟩ => absurd h (Nat.not_lt.2 (Nat.le_add_left _ _))

abbrev stage1_17 : Fin 1 → Memref sig .tc .vmem S2048x1 .f32 := fun | 0 => Memref.whole cc1_stg17_0 | ⟨_ + 1, h⟩ => absurd h (Nat.not_lt.2 (Nat.le_add_left _ _))
abbrev sem1_17 : Fin 1 → DmaSem sig := fun | 0 => cc1_sem17_0 | ⟨_ + 1, h⟩ => absurd h (Nat.not_lt.2 (Nat.le_add_left _ _))

abbrev stage1_18 : Fin 1 → Memref sig .tc .vmem S2048x1 .f32 := fun | 0 => Memref.whole cc1_stg18_0 | ⟨_ + 1, h⟩ => absurd h (Nat.not_lt.2 (Nat.le_add_left _ _))
abbrev sem1_18 : Fin 1 → DmaSem sig := fun | 0 => cc1_sem18_0 | ⟨_ + 1, h⟩ => absurd h (Nat.not_lt.2 (Nat.le_add_left _ _))

abbrev stage1_19 : Fin 1 → Memref sig .tc .vmem S2048x1 .f32 := fun | 0 => Memref.whole cc1_stg19_0 | ⟨_ + 1, h⟩ => absurd h (Nat.not_lt.2 (Nat.le_add_left _ _))
abbrev sem1_19 : Fin 1 → DmaSem sig := fun | 0 => cc1_sem19_0 | ⟨_ + 1, h⟩ => absurd h (Nat.not_lt.2 (Nat.le_add_left _ _))

abbrev stage1_20 : Fin 1 → Memref sig .tc .vmem S8x256 .f32 := fun | 0 => Memref.whole cc1_stg20_0 | ⟨_ + 1, h⟩ => absurd h (Nat.not_lt.2 (Nat.le_add_left _ _))
abbrev sem1_20 : Fin 1 → DmaSem sig := fun | 0 => cc1_sem20_0 | ⟨_ + 1, h⟩ => absurd h (Nat.not_lt.2 (Nat.le_add_left _ _))

abbrev stage1_21 : Fin 1 → Memref sig .tc .vmem S8x256 .f32 := fun | 0 => Memref.whole cc1_stg21_0 | ⟨_ + 1, h⟩ => absurd h (Nat.not_lt.2 (Nat.le_add_left _ _))
abbrev sem1_21 : Fin 1 → DmaSem sig := fun | 0 => cc1_sem21_0 | ⟨_ + 1, h⟩ => absurd h (Nat.not_lt.2 (Nat.le_add_left _ _))

abbrev stage1_22 : Fin 1 → Memref sig .tc .vmem S8x256 .f32 := fun | 0 => Memref.whole cc1_stg22_0 | ⟨_ + 1, h⟩ => absurd h (Nat.not_lt.2 (Nat.le_add_left _ _))
abbrev sem1_22 : Fin 1 → DmaSem sig := fun | 0 => cc1_sem22_0 | ⟨_ + 1, h⟩ => absurd h (Nat.not_lt.2 (Nat.le_add_left _ _))

abbrev stage1_23 : Fin 1 → Memref sig .tc .vmem S8x256 .f32 := fun | 0 => Memref.whole cc1_stg23_0 | ⟨_ + 1, h⟩ => absurd h (Nat.not_lt.2 (Nat.le_add_left _ _))
abbrev sem1_23 : Fin 1 → DmaSem sig := fun | 0 => cc1_sem23_0 | ⟨_ + 1, h⟩ => absurd h (Nat.not_lt.2 (Nat.le_add_left _ _))

abbrev stage1_24 : Fin 1 → Memref sig .tc .vmem S8x256 .f32 := fun | 0 => Memref.whole cc1_stg24_0 | ⟨_ + 1, h⟩ => absurd h (Nat.not_lt.2 (Nat.le_add_left _ _))
abbrev sem1_24 : Fin 1 → DmaSem sig := fun | 0 => cc1_sem24_0 | ⟨_ + 1, h⟩ => absurd h (Nat.not_lt.2 (Nat.le_add_left _ _))
-- ==== ReferenceIdeal.lean ====
abbrev S20000x81 : Shape := ⟨2, ![20000, 81]⟩
abbrev S20000x320 : Shape := ⟨2, ![20000, 320]⟩
abbrev S20000x4 : Shape := ⟨2, ![20000, 4]⟩
abbrev S4 : Shape := ⟨1, ![4]⟩
abbrev S1 : Shape := ⟨1, ![1]⟩
abbrev S_ : Shape := ⟨0, ![]⟩
abbrev S20000 : Shape := ⟨1, ![20000]⟩
abbrev S20000x1 : Shape := ⟨2, ![20000, 1]⟩
abbrev S20000x80 : Shape := ⟨2, ![20000, 80]⟩
abbrev S20000x80x4 : Shape := ⟨3, ![20000, 80, 4]⟩
abbrev S1x1x4 : Shape := ⟨3, ![1, 1, 4]⟩
abbrev S20000x80x1 : Shape := ⟨3, ![20000, 80, 1]⟩
abbrev S1600000 : Shape := ⟨1, ![1600000]⟩
abbrev S1600000x4 : Shape := ⟨2, ![1600000, 4]⟩
abbrev S2000 : Shape := ⟨1, ![2000]⟩
abbrev S2000x1 : Shape := ⟨2, ![2000, 1]⟩
abbrev S2000x4 : Shape := ⟨2, ![2000, 4]⟩
abbrev S1x2000 : Shape := ⟨2, ![1, 2000]⟩
abbrev S2000x2000 : Shape := ⟨2, ![2000, 2000]⟩
abbrev S100 : Shape := ⟨1, ![100]⟩
abbrev S100x1 : Shape := ⟨2, ![100, 1]⟩
abbrev S100x4 : Shape := ⟨2, ![100, 4]⟩

abbrev nBuf : Space → Nat
  | .hbm => 327
  | .vmem => 0
  | .smem => 0
  | _ => 0

abbrev hbmTy0_0 (i : Nat) : BufTy := match i % 128 with
  | 0 => ⟨S20000x81, .f32⟩
  | 1 => ⟨S20000x320, .f32⟩
  | 2 => ⟨S20000x4, .f32⟩
  | 3 => ⟨S4, .i32⟩
  | 4 => ⟨S4, .f32⟩
  | 5 => ⟨S4, .f32⟩
  | 6 => ⟨S1, .i32⟩
  | 7 => ⟨S_, .i32⟩
  | 8 => ⟨S_, .f32⟩
  | 9 => ⟨S1, .i32⟩
  | 10 => ⟨S_, .i32⟩
  | 11 => ⟨S_, .f32⟩
  | 12 => ⟨S_, .f32⟩
  | 13 => ⟨S20000, .f32⟩
  | 14 => ⟨S_, .f32⟩
  | 15 => ⟨S20000, .f32⟩
  | 16 => ⟨S20000, .f32⟩
  | 17 => ⟨S20000x1, .f32⟩
  | 18 => ⟨S20000x81, .f32⟩
  | 19 => ⟨S20000x81, .f32⟩
  | 20 => ⟨S20000x81, .f32⟩
  | 21 => ⟨S_, .f32⟩
  | 22 => ⟨S20000, .f32⟩
  | 23 => ⟨S20000x1, .f32⟩
  | 24 => ⟨S20000x81, .f32⟩
  | 25 => ⟨S20000x81, .f32⟩
  | 26 => ⟨S20000x80, .f32⟩
  | 27 => ⟨S20000x80x4, .f32⟩
  | 28 => ⟨S1x1x4, .f32⟩
  | 29 => ⟨S20000x80x4, .f32⟩
  | 30 => ⟨S20000x80x4, .f32⟩
  | 31 => ⟨S1x1x4, .f32⟩
  | 32 => ⟨S20000x80x4, .f32⟩
  | 33 => ⟨S20000x80x4, .f32⟩
  | 34 => ⟨S20000x80x1, .f32⟩
  | 35 => ⟨S20000x80, .f32⟩
  | 36 => ⟨S20000x80x1, .f32⟩
  | 37 => ⟨S20000x80, .f32⟩
  | 38 => ⟨S20000x80x1, .f32⟩
  | 39 => ⟨S20000x80, .f32⟩
  | 40 => ⟨S20000x80x1, .f32⟩
  | 41 => ⟨S20000x80, .f32⟩
  | 42 => ⟨S_, .f32⟩
  | 43 => ⟨S_, .f32⟩
  | 44 => ⟨S_, .f32⟩
  | 45 => ⟨S20000x80, .f32⟩
  | 46 => ⟨S20000x80, .f32⟩
  | 47 => ⟨S_, .f32⟩
  | 48 => ⟨S20000x80, .f32⟩
  | 49 => ⟨S20000x80, .f32⟩
  | 50 => ⟨S_, .f32⟩
  | 51 => ⟨S_, .f32⟩
  | 52 => ⟨S_, .f32⟩
  | 53 => ⟨S20000x80, .f32⟩
  | 54 => ⟨S20000x80, .f32⟩
  | 55 => ⟨S_, .f32⟩
  | 56 => ⟨S20000x80, .f32⟩
  | 57 => ⟨S20000x80, .f32⟩
  | 58 => ⟨S20000x1, .f32⟩
  | 59 => ⟨S20000, .f32⟩
  | 60 => ⟨S20000x1, .f32⟩
  | 61 => ⟨S20000, .f32⟩
  | 62 => ⟨S20000, .f32⟩
  | 63 => ⟨S_, .f32⟩
  | 64 => ⟨S20000, .f32⟩
  | 65 => ⟨S20000, .f32⟩
  | 66 => ⟨S20000x1, .f32⟩
  | 67 => ⟨S20000x1, .f32⟩
  | 68 => ⟨S20000, .f32⟩
  | 69 => ⟨S20000x1, .f32⟩
  | 70 => ⟨S20000, .f32⟩
  | 71 => ⟨S20000, .f32⟩
  | 72 => ⟨S_, .f32⟩
  | 73 => ⟨S20000, .f32⟩
  | 74 => ⟨S20000, .f32⟩
  | 75 => ⟨S20000x1, .f32⟩
  | 76 => ⟨S20000x1, .f32⟩
  | 77 => ⟨S20000, .f32⟩
  | 78 => ⟨S20000x1, .f32⟩
  | 79 => ⟨S20000, .f32⟩
  | 80 => ⟨S20000, .f32⟩
  | 81 => ⟨S20000x1, .f32⟩
  | 82 => ⟨S20000x1, .f32⟩
  | 83 => ⟨S20000, .f32⟩
  | 84 => ⟨S20000x1, .f32⟩
  | 85 => ⟨S20000, .f32⟩
  | 86 => ⟨S20000, .f32⟩
  | 87 => ⟨S20000x1, .f32⟩
  | 88 => ⟨S20000x80, .f32⟩
  | 89 => ⟨S20000x80, .f32⟩
  | 90 => ⟨S20000x80, .f32⟩
  | 91 => ⟨S20000x80, .f32⟩
  | 92 => ⟨S20000x80, .f32⟩
  | 93 => ⟨S20000x80, .f32⟩
  | 94 => ⟨S20000x80, .f32⟩
  | 95 => ⟨S20000x80, .f32⟩
  | 96 => ⟨S20000x80, .f32⟩
  | 97 => ⟨S20000x80, .f32⟩
  | 98 => ⟨S20000x80, .f32⟩
  | 99 => ⟨S20000x80, .f32⟩
  | 100 => ⟨S20000x80, .f32⟩
  | 101 => ⟨S20000x80, .f32⟩
  | 102 => ⟨S_, .f32⟩
  | 103 => ⟨S20000x80, .f32⟩
  | 104 => ⟨S20000x80, .f32⟩
  | 105 => ⟨S20000x80, .f32⟩
  | 106 => ⟨S_, .f32⟩
  | 107 => ⟨S_, .f32⟩
  | 108 => ⟨S20000x80, .f32⟩
  | 109 => ⟨S20000x80, .f32⟩
  | 110 => ⟨S20000x80, .f32⟩
  | 111 => ⟨S20000x80, .f32⟩
  | 112 => ⟨S_, .f32⟩
  | 113 => ⟨S20000x80, .f32⟩
  | 114 => ⟨S20000x80, .f32⟩
  | 115 => ⟨S20000x80, .f32⟩
  | 116 => ⟨S_, .f32⟩
  | 117 => ⟨S_, .f32⟩
  | 118 => ⟨S20000x80, .f32⟩
  | 119 => ⟨S20000x80, .f32⟩
  | 120 => ⟨S20000x80, .f32⟩
  | 121 => ⟨S20000x80, .f32⟩
  | 122 => ⟨S_, .f32⟩
  | 123 => ⟨S20000x80, .f32⟩
  | 124 => ⟨S20000x80, .f32⟩
  | 125 => ⟨S20000x80, .f32⟩
  | 126 => ⟨S_, .f32⟩
  | 127 => ⟨S_, .f32⟩
  | _ => ⟨S20000x81, .f32⟩

abbrev hbmTy0_1 (i : Nat) : BufTy := match i % 128 with
  | 0 => ⟨S20000x80, .f32⟩
  | 1 => ⟨S20000x80, .f32⟩
  | 2 => ⟨S20000x80, .f32⟩
  | 3 => ⟨S20000x80, .f32⟩
  | 4 => ⟨S_, .f32⟩
  | 5 => ⟨S20000x80, .f32⟩
  | 6 => ⟨S20000x80, .f32⟩
  | 7 => ⟨S20000x80, .f32⟩
  | 8 => ⟨S_, .f32⟩
  | 9 => ⟨S_, .f32⟩
  | 10 => ⟨S20000x80, .f32⟩
  | 11 => ⟨S20000x80, .f32⟩
  | 12 => ⟨S20000x80, .f32⟩
  | 13 => ⟨S20000x80, .f32⟩
  | 14 => ⟨S20000x80x1, .f32⟩
  | 15 => ⟨S20000x80x1, .f32⟩
  | 16 => ⟨S20000x80x1, .f32⟩
  | 17 => ⟨S20000x80x1, .f32⟩
  | 18 => ⟨S20000x80x4, .f32⟩
  | 19 => ⟨S1600000, .f32⟩
  | 20 => ⟨S1600000x4, .f32⟩
  | 21 => ⟨S_, .f32⟩
  | 22 => ⟨S1600000, .f32⟩
  | 23 => ⟨S1600000, .i1⟩
  | 24 => ⟨S_, .f32⟩
  | 25 => ⟨S_, .f32⟩
  | 26 => ⟨S1600000, .f32⟩
  | 27 => ⟨S1600000, .f32⟩
  | 28 => ⟨S2000, .f32⟩
  | 29 => ⟨S2000, .i32⟩
  | 30 => ⟨S_, .i32⟩
  | 31 => ⟨S2000, .i32⟩
  | 32 => ⟨S2000, .i1⟩
  | 33 => ⟨S_, .i32⟩
  | 34 => ⟨S2000, .i32⟩
  | 35 => ⟨S2000, .i32⟩
  | 36 => ⟨S2000, .i32⟩
  | 37 => ⟨S2000x1, .i32⟩
  | 38 => ⟨S2000x4, .f32⟩
  | 39 => ⟨S_, .i32⟩
  | 40 => ⟨S_, .i32⟩
  | 41 => ⟨S_, .i32⟩
  | 42 => ⟨S_, .i1⟩
  | 43 => ⟨S_, .i32⟩
  | 44 => ⟨S_, .i32⟩
  | 45 => ⟨S2000, .i32⟩
  | 46 => ⟨S2000, .i32⟩
  | 47 => ⟨S_, .i32⟩
  | 48 => ⟨S2000, .i32⟩
  | 49 => ⟨S2000, .i1⟩
  | 50 => ⟨S_, .i32⟩
  | 51 => ⟨S2000, .i32⟩
  | 52 => ⟨S2000, .i1⟩
  | 53 => ⟨S_, .i32⟩
  | 54 => ⟨S_, .i1⟩
  | 55 => ⟨S2000, .i1⟩
  | 56 => ⟨S2000, .i1⟩
  | 57 => ⟨S2000, .i1⟩
  | 58 => ⟨S2000, .i32⟩
  | 59 => ⟨S2000, .i32⟩
  | 60 => ⟨S2000, .i32⟩
  | 61 => ⟨S_, .f32⟩
  | 62 => ⟨S2000, .f32⟩
  | 63 => ⟨S2000, .i1⟩
  | 64 => ⟨S_, .f32⟩
  | 65 => ⟨S_, .f32⟩
  | 66 => ⟨S_, .f32⟩
  | 67 => ⟨S_, .f32⟩
  | 68 => ⟨S2000, .f32⟩
  | 69 => ⟨S2000x1, .f32⟩
  | 70 => ⟨S2000x1, .f32⟩
  | 71 => ⟨S2000x1, .f32⟩
  | 72 => ⟨S2000x4, .f32⟩
  | 73 => ⟨S2000x4, .f32⟩
  | 74 => ⟨S2000x1, .f32⟩
  | 75 => ⟨S2000, .f32⟩
  | 76 => ⟨S2000x1, .f32⟩
  | 77 => ⟨S2000, .f32⟩
  | 78 => ⟨S2000x1, .f32⟩
  | 79 => ⟨S2000, .f32⟩
  | 80 => ⟨S2000x1, .f32⟩
  | 81 => ⟨S2000, .f32⟩
  | 82 => ⟨S2000, .f32⟩
  | 83 => ⟨S2000, .f32⟩
  | 84 => ⟨S2000, .f32⟩
  | 85 => ⟨S2000x1, .f32⟩
  | 86 => ⟨S1x2000, .f32⟩
  | 87 => ⟨S2000x2000, .f32⟩
  | 88 => ⟨S2000x2000, .f32⟩
  | 89 => ⟨S2000x2000, .f32⟩
  | 90 => ⟨S2000x1, .f32⟩
  | 91 => ⟨S1x2000, .f32⟩
  | 92 => ⟨S2000x2000, .f32⟩
  | 93 => ⟨S2000x2000, .f32⟩
  | 94 => ⟨S2000x2000, .f32⟩
  | 95 => ⟨S2000x1, .f32⟩
  | 96 => ⟨S1x2000, .f32⟩
  | 97 => ⟨S2000x2000, .f32⟩
  | 98 => ⟨S2000x2000, .f32⟩
  | 99 => ⟨S2000x2000, .f32⟩
  | 100 => ⟨S2000x1, .f32⟩
  | 101 => ⟨S1x2000, .f32⟩
  | 102 => ⟨S2000x2000, .f32⟩
  | 103 => ⟨S2000x2000, .f32⟩
  | 104 => ⟨S2000x2000, .f32⟩
  | 105 => ⟨S2000x2000, .f32⟩
  | 106 => ⟨S_, .f32⟩
  | 107 => ⟨S_, .f32⟩
  | 108 => ⟨S2000x2000, .f32⟩
  | 109 => ⟨S2000x2000, .f32⟩
  | 110 => ⟨S2000x2000, .f32⟩
  | 111 => ⟨S_, .f32⟩
  | 112 => ⟨S_, .f32⟩
  | 113 => ⟨S2000x2000, .f32⟩
  | 114 => ⟨S2000x2000, .f32⟩
  | 115 => ⟨S2000x2000, .f32⟩
  | 116 => ⟨S2000x1, .f32⟩
  | 117 => ⟨S1x2000, .f32⟩
  | 118 => ⟨S2000x2000, .f32⟩
  | 119 => ⟨S2000x2000, .f32⟩
  | 120 => ⟨S2000x2000, .f32⟩
  | 121 => ⟨S2000x2000, .f32⟩
  | 122 => ⟨S_, .f32⟩
  | 123 => ⟨S2000x2000, .f32⟩
  | 124 => ⟨S2000x2000, .f32⟩
  | 125 => ⟨S2000x2000, .f32⟩
  | 126 => ⟨S2000, .i32⟩
  | 127 => ⟨S_, .i32⟩
  | _ => ⟨S20000x81, .f32⟩

abbrev hbmTy0_2 (i : Nat) : BufTy := match i % 128 with
  | 0 => ⟨S_, .i32⟩
  | 1 => ⟨S2000x2000, .f32⟩
  | 2 => ⟨S2000, .i32⟩
  | 3 => ⟨S_, .i32⟩
  | 4 => ⟨S_, .i32⟩
  | 5 => ⟨S2000, .i1⟩
  | 6 => ⟨S_, .i32⟩
  | 7 => ⟨S_, .i1⟩
  | 8 => ⟨S_, .i32⟩
  | 9 => ⟨S_, .i32⟩
  | 10 => ⟨S_, .i32⟩
  | 11 => ⟨S_, .i32⟩
  | 12 => ⟨S_, .i1⟩
  | 13 => ⟨S_, .i32⟩
  | 14 => ⟨S_, .i32⟩
  | 15 => ⟨S_, .i32⟩
  | 16 => ⟨S_, .i32⟩
  | 17 => ⟨S_, .i32⟩
  | 18 => ⟨S_, .i1⟩
  | 19 => ⟨S_, .i32⟩
  | 20 => ⟨S_, .i32⟩
  | 21 => ⟨S_, .i32⟩
  | 22 => ⟨S_, .i32⟩
  | 23 => ⟨S_, .i32⟩
  | 24 => ⟨S1x2000, .f32⟩
  | 25 => ⟨S2000, .f32⟩
  | 26 => ⟨S_, .f32⟩
  | 27 => ⟨S2000, .f32⟩
  | 28 => ⟨S2000, .i1⟩
  | 29 => ⟨S_, .i32⟩
  | 30 => ⟨S2000, .i32⟩
  | 31 => ⟨S2000, .i1⟩
  | 32 => ⟨S2000, .i1⟩
  | 33 => ⟨S_, .i32⟩
  | 34 => ⟨S_, .i1⟩
  | 35 => ⟨S_, .i32⟩
  | 36 => ⟨S_, .i32⟩
  | 37 => ⟨S_, .i32⟩
  | 38 => ⟨S_, .i32⟩
  | 39 => ⟨S1, .i1⟩
  | 40 => ⟨S_, .i1⟩
  | 41 => ⟨S2000, .i1⟩
  | 42 => ⟨S2000, .i1⟩
  | 43 => ⟨S2000, .i1⟩
  | 44 => ⟨S2000, .i1⟩
  | 45 => ⟨S_, .i32⟩
  | 46 => ⟨S_, .i32⟩
  | 47 => ⟨S_, .f32⟩
  | 48 => ⟨S_, .f32⟩
  | 49 => ⟨S2000, .f32⟩
  | 50 => ⟨S2000, .f32⟩
  | 51 => ⟨S100, .f32⟩
  | 52 => ⟨S100, .i32⟩
  | 53 => ⟨S_, .i32⟩
  | 54 => ⟨S100, .i32⟩
  | 55 => ⟨S100, .i1⟩
  | 56 => ⟨S_, .i32⟩
  | 57 => ⟨S100, .i32⟩
  | 58 => ⟨S100, .i32⟩
  | 59 => ⟨S100, .i32⟩
  | 60 => ⟨S100x1, .i32⟩
  | 61 => ⟨S100x4, .f32⟩
  | 62 => ⟨S_, .i32⟩
  | 63 => ⟨S100, .i32⟩
  | 64 => ⟨S100, .i1⟩
  | 65 => ⟨S_, .i32⟩
  | 66 => ⟨S100, .i32⟩
  | 67 => ⟨S100, .i32⟩
  | 68 => ⟨S100, .i32⟩
  | 69 => ⟨S100x1, .i32⟩
  | 70 => ⟨S100, .i32⟩
  | _ => ⟨S20000x81, .f32⟩

abbrev hbmTy (i : Nat) : BufTy := match i / 128 with
  | 0 => hbmTy0_0 i
  | 1 => hbmTy0_1 i
  | 2 => hbmTy0_2 i
  | _ => ⟨S20000x81, .f32⟩

abbrev bufTy : (tb : Table) → Fin (tcTables nBuf tb) → BufTy
  | .hbm, ⟨i, _⟩ => hbmTy i
  | _, _ => ⟨S20000x81, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_cst_0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_cst_4 : Ref sig .tc := ⟨.hbm, 42, rfl⟩
abbrev main_cst_5 : Ref sig .tc := ⟨.hbm, 43, rfl⟩
abbrev main_call0_v0 : Ref sig .tc := ⟨.hbm, 44, rfl⟩
abbrev main_call0_v1 : Ref sig .tc := ⟨.hbm, 45, rfl⟩
abbrev main_call0_v2 : Ref sig .tc := ⟨.hbm, 46, rfl⟩
abbrev main_call0_v3 : Ref sig .tc := ⟨.hbm, 47, rfl⟩
abbrev main_call0_v4 : Ref sig .tc := ⟨.hbm, 48, rfl⟩
abbrev main_v33 : Ref sig .tc := ⟨.hbm, 49, rfl⟩
abbrev main_cst_6 : Ref sig .tc := ⟨.hbm, 50, rfl⟩
abbrev main_cst_7 : Ref sig .tc := ⟨.hbm, 51, rfl⟩
abbrev main_call1_v0 : Ref sig .tc := ⟨.hbm, 52, rfl⟩
abbrev main_call1_v1 : Ref sig .tc := ⟨.hbm, 53, rfl⟩
abbrev main_call1_v2 : Ref sig .tc := ⟨.hbm, 54, rfl⟩
abbrev main_call1_v3 : Ref sig .tc := ⟨.hbm, 55, rfl⟩
abbrev main_call1_v4 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_cst_8 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_cst_9 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_cst_10 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_cst_11 : Ref sig .tc := ⟨.hbm, 106, rfl⟩
abbrev main_call2_v0 : Ref sig .tc := ⟨.hbm, 107, rfl⟩
abbrev main_call2_v1 : Ref sig .tc := ⟨.hbm, 108, rfl⟩
abbrev main_call2_v2 : Ref sig .tc := ⟨.hbm, 109, rfl⟩
abbrev main_call2_v3 : Ref sig .tc := ⟨.hbm, 110, rfl⟩
abbrev main_v80 : Ref sig .tc := ⟨.hbm, 111, rfl⟩
abbrev main_cst_12 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_cst_13 : Ref sig .tc := ⟨.hbm, 116, rfl⟩
abbrev main_call3_v0 : Ref sig .tc := ⟨.hbm, 117, rfl⟩
abbrev main_call3_v1 : Ref sig .tc := ⟨.hbm, 118, rfl⟩
abbrev main_call3_v2 : Ref sig .tc := ⟨.hbm, 119, rfl⟩
abbrev main_call3_v3 : Ref sig .tc := ⟨.hbm, 120, rfl⟩
abbrev main_v84 : Ref sig .tc := ⟨.hbm, 121, rfl⟩
abbrev main_cst_14 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_cst_15 : Ref sig .tc := ⟨.hbm, 126, rfl⟩
abbrev main_call4_v0 : Ref sig .tc := ⟨.hbm, 127, rfl⟩
abbrev main_call4_v1 : Ref sig .tc := ⟨.hbm, 128, rfl⟩
abbrev main_call4_v2 : Ref sig .tc := ⟨.hbm, 129, rfl⟩
abbrev main_call4_v3 : Ref sig .tc := ⟨.hbm, 130, rfl⟩
abbrev main_v88 : Ref sig .tc := ⟨.hbm, 131, rfl⟩
abbrev main_cst_16 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_cst_17 : Ref sig .tc := ⟨.hbm, 136, rfl⟩
abbrev main_call5_v0 : Ref sig .tc := ⟨.hbm, 137, rfl⟩
abbrev main_call5_v1 : Ref sig .tc := ⟨.hbm, 138, rfl⟩
abbrev main_call5_v2 : Ref sig .tc := ⟨.hbm, 139, rfl⟩
abbrev main_call5_v3 : Ref sig .tc := ⟨.hbm, 140, rfl⟩
abbrev main_v92 : Ref sig .tc := ⟨.hbm, 141, rfl⟩
abbrev main_v93 : Ref sig .tc := ⟨.hbm, 142, rfl⟩
abbrev main_v94 : Ref sig .tc := ⟨.hbm, 143, rfl⟩
abbrev main_v95 : Ref sig .tc := ⟨.hbm, 144, rfl⟩
abbrev main_v96 : Ref sig .tc := ⟨.hbm, 145, rfl⟩
abbrev main_v97 : Ref sig .tc := ⟨.hbm, 146, rfl⟩
abbrev main_v98 : Ref sig .tc := ⟨.hbm, 147, rfl⟩
abbrev main_v99 : Ref sig .tc := ⟨.hbm, 148, rfl⟩
abbrev main_cst_18 : Ref sig .tc := ⟨.hbm, 149, rfl⟩
abbrev main_v100 : Ref sig .tc := ⟨.hbm, 150, rfl⟩
abbrev main_v101 : Ref sig .tc := ⟨.hbm, 151, rfl⟩
abbrev main_cst_19 : Ref sig .tc := ⟨.hbm, 152, rfl⟩
abbrev main_call6_v0 : Ref sig .tc := ⟨.hbm, 153, rfl⟩
abbrev main_call6_v1 : Ref sig .tc := ⟨.hbm, 154, rfl⟩
abbrev main_v102 : Ref sig .tc := ⟨.hbm, 155, rfl⟩
abbrev main_values : Ref sig .tc := ⟨.hbm, 156, rfl⟩
abbrev main_indices : Ref sig .tc := ⟨.hbm, 157, rfl⟩
abbrev main_c : Ref sig .tc := ⟨.hbm, 158, rfl⟩
abbrev main_v103 : Ref sig .tc := ⟨.hbm, 159, rfl⟩
abbrev main_v104 : Ref sig .tc := ⟨.hbm, 160, rfl⟩
abbrev main_c_20 : Ref sig .tc := ⟨.hbm, 161, rfl⟩
abbrev main_v105 : Ref sig .tc := ⟨.hbm, 162, rfl⟩
abbrev main_v106 : Ref sig .tc := ⟨.hbm, 163, rfl⟩
abbrev main_v107 : Ref sig .tc := ⟨.hbm, 164, rfl⟩
abbrev main_v108 : Ref sig .tc := ⟨.hbm, 165, rfl⟩
abbrev main_v109 : Ref sig .tc := ⟨.hbm, 166, rfl⟩
abbrev main_c_21 : Ref sig .tc := ⟨.hbm, 167, rfl⟩
abbrev main_call7_v0 : Ref sig .tc := ⟨.hbm, 168, rfl⟩
abbrev main_call7_c : Ref sig .tc := ⟨.hbm, 169, rfl⟩
abbrev main_call7_v1 : Ref sig .tc := ⟨.hbm, 170, rfl⟩
abbrev main_call7_c_0 : Ref sig .tc := ⟨.hbm, 171, rfl⟩
abbrev main_call7_v2 : Ref sig .tc := ⟨.hbm, 172, rfl⟩
abbrev main_call7_v3 : Ref sig .tc := ⟨.hbm, 173, rfl⟩
abbrev main_call7_v4 : Ref sig .tc := ⟨.hbm, 174, rfl⟩
abbrev main_call7_c_1 : Ref sig .tc := ⟨.hbm, 175, rfl⟩
abbrev main_call7_v5 : Ref sig .tc := ⟨.hbm, 176, rfl⟩
abbrev main_call7_v6 : Ref sig .tc := ⟨.hbm, 177, rfl⟩
abbrev main_call7_c_2 : Ref sig .tc := ⟨.hbm, 178, rfl⟩
abbrev main_call7_v7 : Ref sig .tc := ⟨.hbm, 179, rfl⟩
abbrev main_call7_v8 : Ref sig .tc := ⟨.hbm, 180, rfl⟩
abbrev main_call7_c_3 : Ref sig .tc := ⟨.hbm, 181, rfl⟩
abbrev main_call7_v9 : Ref sig .tc := ⟨.hbm, 182, rfl⟩
abbrev main_call7_v10 : Ref sig .tc := ⟨.hbm, 183, rfl⟩
abbrev main_call7_v11 : Ref sig .tc := ⟨.hbm, 184, rfl⟩
abbrev main_call7_v12 : Ref sig .tc := ⟨.hbm, 185, rfl⟩
abbrev main_call7_v13 : Ref sig .tc := ⟨.hbm, 186, rfl⟩
abbrev main_call7_v14 : Ref sig .tc := ⟨.hbm, 187, rfl⟩
abbrev main_v110 : Ref sig .tc := ⟨.hbm, 188, rfl⟩
abbrev main_cst_22 : Ref sig .tc := ⟨.hbm, 189, rfl⟩
abbrev main_v111 : Ref sig .tc := ⟨.hbm, 190, rfl⟩
abbrev main_v112 : Ref sig .tc := ⟨.hbm, 191, rfl⟩
abbrev main_cst_23 : Ref sig .tc := ⟨.hbm, 192, rfl⟩
abbrev main_v113 : Ref sig .tc := ⟨.hbm, 193, rfl⟩
abbrev main_cst_24 : Ref sig .tc := ⟨.hbm, 194, rfl⟩
abbrev main_v114 : Ref sig .tc := ⟨.hbm, 195, rfl⟩
abbrev main_v115 : Ref sig .tc := ⟨.hbm, 196, rfl⟩
abbrev main_v116 : Ref sig .tc := ⟨.hbm, 197, rfl⟩
abbrev main_v117 : Ref sig .tc := ⟨.hbm, 198, rfl⟩
abbrev main_v118 : Ref sig .tc := ⟨.hbm, 199, rfl⟩
abbrev main_v119 : Ref sig .tc := ⟨.hbm, 200, rfl⟩
abbrev main_v120 : Ref sig .tc := ⟨.hbm, 201, rfl⟩
abbrev main_v121 : Ref sig .tc := ⟨.hbm, 202, rfl⟩
abbrev main_v122 : Ref sig .tc := ⟨.hbm, 203, rfl⟩
abbrev main_v123 : Ref sig .tc := ⟨.hbm, 204, rfl⟩
abbrev main_v124 : Ref sig .tc := ⟨.hbm, 205, rfl⟩
abbrev main_v125 : Ref sig .tc := ⟨.hbm, 206, rfl⟩
abbrev main_v126 : Ref sig .tc := ⟨.hbm, 207, rfl⟩
abbrev main_v127 : Ref sig .tc := ⟨.hbm, 208, rfl⟩
abbrev main_v128 : Ref sig .tc := ⟨.hbm, 209, rfl⟩
abbrev main_v129 : Ref sig .tc := ⟨.hbm, 210, rfl⟩
abbrev main_v130 : Ref sig .tc := ⟨.hbm, 211, rfl⟩
abbrev main_v131 : Ref sig .tc := ⟨.hbm, 212, rfl⟩
abbrev main_v132 : Ref sig .tc := ⟨.hbm, 213, rfl⟩
abbrev main_v133 : Ref sig .tc := ⟨.hbm, 214, rfl⟩
abbrev main_v134 : Ref sig .tc := ⟨.hbm, 215, rfl⟩
abbrev main_v135 : Ref sig .tc := ⟨.hbm, 216, rfl⟩
abbrev main_v136 : Ref sig .tc := ⟨.hbm, 217, rfl⟩
abbrev main_v137 : Ref sig .tc := ⟨.hbm, 218, rfl⟩
abbrev main_v138 : Ref sig .tc := ⟨.hbm, 219, rfl⟩
abbrev main_v139 : Ref sig .tc := ⟨.hbm, 220, rfl⟩
abbrev main_v140 : Ref sig .tc := ⟨.hbm, 221, rfl⟩
abbrev main_v141 : Ref sig .tc := ⟨.hbm, 222, rfl⟩
abbrev main_v142 : Ref sig .tc := ⟨.hbm, 223, rfl⟩
abbrev main_v143 : Ref sig .tc := ⟨.hbm, 224, rfl⟩
abbrev main_v144 : Ref sig .tc := ⟨.hbm, 225, rfl⟩
abbrev main_v145 : Ref sig .tc := ⟨.hbm, 226, rfl⟩
abbrev main_v146 : Ref sig .tc := ⟨.hbm, 227, rfl⟩
abbrev main_v147 : Ref sig .tc := ⟨.hbm, 228, rfl⟩
abbrev main_v148 : Ref sig .tc := ⟨.hbm, 229, rfl⟩
abbrev main_v149 : Ref sig .tc := ⟨.hbm, 230, rfl⟩
abbrev main_v150 : Ref sig .tc := ⟨.hbm, 231, rfl⟩
abbrev main_v151 : Ref sig .tc := ⟨.hbm, 232, rfl⟩
abbrev main_v152 : Ref sig .tc := ⟨.hbm, 233, rfl⟩
abbrev main_cst_25 : Ref sig .tc := ⟨.hbm, 234, rfl⟩
abbrev main_call8_v0 : Ref sig .tc := ⟨.hbm, 235, rfl⟩
abbrev main_call8_v1 : Ref sig .tc := ⟨.hbm, 236, rfl⟩
abbrev main_v153 : Ref sig .tc := ⟨.hbm, 237, rfl⟩
abbrev main_v154 : Ref sig .tc := ⟨.hbm, 238, rfl⟩
abbrev main_cst_26 : Ref sig .tc := ⟨.hbm, 239, rfl⟩
abbrev main_call9_v0 : Ref sig .tc := ⟨.hbm, 240, rfl⟩
abbrev main_call9_v1 : Ref sig .tc := ⟨.hbm, 241, rfl⟩
abbrev main_v155 : Ref sig .tc := ⟨.hbm, 242, rfl⟩
abbrev main_v156 : Ref sig .tc := ⟨.hbm, 243, rfl⟩
abbrev main_v157 : Ref sig .tc := ⟨.hbm, 244, rfl⟩
abbrev main_v158 : Ref sig .tc := ⟨.hbm, 245, rfl⟩
abbrev main_v159 : Ref sig .tc := ⟨.hbm, 246, rfl⟩
abbrev main_v160 : Ref sig .tc := ⟨.hbm, 247, rfl⟩
abbrev main_v161 : Ref sig .tc := ⟨.hbm, 248, rfl⟩
abbrev main_v162 : Ref sig .tc := ⟨.hbm, 249, rfl⟩
abbrev main_cst_27 : Ref sig .tc := ⟨.hbm, 250, rfl⟩
abbrev main_v163 : Ref sig .tc := ⟨.hbm, 251, rfl⟩
abbrev main_v164 : Ref sig .tc := ⟨.hbm, 252, rfl⟩
abbrev main_v165 : Ref sig .tc := ⟨.hbm, 253, rfl⟩
abbrev main_v166 : Ref sig .tc := ⟨.hbm, 254, rfl⟩
abbrev main_c_28 : Ref sig .tc := ⟨.hbm, 255, rfl⟩
abbrev main_c_29 : Ref sig .tc := ⟨.hbm, 256, rfl⟩
abbrev main_v167_0 : Ref sig .tc := ⟨.hbm, 257, rfl⟩
abbrev main_v167_1 : Ref sig .tc := ⟨.hbm, 258, rfl⟩
abbrev main_v167_2 : Ref sig .tc := ⟨.hbm, 259, rfl⟩
abbrev main_v167_3 : Ref sig .tc := ⟨.hbm, 260, rfl⟩
abbrev main_v167_4 : Ref sig .tc := ⟨.hbm, 261, rfl⟩
abbrev main_while0c_c_41 : Ref sig .tc := ⟨.hbm, 262, rfl⟩
abbrev main_while0c_v183 : Ref sig .tc := ⟨.hbm, 263, rfl⟩
abbrev main_while0b_c_41 : Ref sig .tc := ⟨.hbm, 264, rfl⟩
abbrev main_while0b_v183 : Ref sig .tc := ⟨.hbm, 265, rfl⟩
abbrev main_while0b_v184 : Ref sig .tc := ⟨.hbm, 266, rfl⟩
abbrev main_while0b_c_42 : Ref sig .tc := ⟨.hbm, 267, rfl⟩
abbrev main_while0b_v185 : Ref sig .tc := ⟨.hbm, 268, rfl⟩
abbrev main_while0b_c_43 : Ref sig .tc := ⟨.hbm, 269, rfl⟩
abbrev main_while0b_v186 : Ref sig .tc := ⟨.hbm, 270, rfl⟩
abbrev main_while0b_v187 : Ref sig .tc := ⟨.hbm, 271, rfl⟩
abbrev main_while0b_c_44 : Ref sig .tc := ⟨.hbm, 272, rfl⟩
abbrev main_while0b_c_45 : Ref sig .tc := ⟨.hbm, 273, rfl⟩
abbrev main_while0b_v188 : Ref sig .tc := ⟨.hbm, 274, rfl⟩
abbrev main_while0b_c_46 : Ref sig .tc := ⟨.hbm, 275, rfl⟩
abbrev main_while0b_c_47 : Ref sig .tc := ⟨.hbm, 276, rfl⟩
abbrev main_while0b_v189 : Ref sig .tc := ⟨.hbm, 277, rfl⟩
abbrev main_while0b_c_48 : Ref sig .tc := ⟨.hbm, 278, rfl⟩
abbrev main_while0b_v190 : Ref sig .tc := ⟨.hbm, 279, rfl⟩
abbrev main_while0b_v191 : Ref sig .tc := ⟨.hbm, 280, rfl⟩
abbrev main_while0b_v192 : Ref sig .tc := ⟨.hbm, 281, rfl⟩
abbrev main_while0b_cst_49 : Ref sig .tc := ⟨.hbm, 282, rfl⟩
abbrev main_while0b_v193 : Ref sig .tc := ⟨.hbm, 283, rfl⟩
abbrev main_while0b_v194 : Ref sig .tc := ⟨.hbm, 284, rfl⟩
abbrev main_while0b_v195 : Ref sig .tc := ⟨.hbm, 285, rfl⟩
abbrev main_while0b_v196 : Ref sig .tc := ⟨.hbm, 286, rfl⟩
abbrev main_while0b_v197 : Ref sig .tc := ⟨.hbm, 287, rfl⟩
abbrev main_while0b_v198 : Ref sig .tc := ⟨.hbm, 288, rfl⟩
abbrev main_while0b_c_50 : Ref sig .tc := ⟨.hbm, 289, rfl⟩
abbrev main_while0b_v199 : Ref sig .tc := ⟨.hbm, 290, rfl⟩
abbrev main_while0b_v200 : Ref sig .tc := ⟨.hbm, 291, rfl⟩
abbrev main_while0b_c_51 : Ref sig .tc := ⟨.hbm, 292, rfl⟩
abbrev main_while0b_v201 : Ref sig .tc := ⟨.hbm, 293, rfl⟩
abbrev main_while0b_v202 : Ref sig .tc := ⟨.hbm, 294, rfl⟩
abbrev main_while0b_v203 : Ref sig .tc := ⟨.hbm, 295, rfl⟩
abbrev main_while0b_v204 : Ref sig .tc := ⟨.hbm, 296, rfl⟩
abbrev main_while0b_v205 : Ref sig .tc := ⟨.hbm, 297, rfl⟩
abbrev main_while0b_v206 : Ref sig .tc := ⟨.hbm, 298, rfl⟩
abbrev main_while0b_v207 : Ref sig .tc := ⟨.hbm, 299, rfl⟩
abbrev main_while0b_v208 : Ref sig .tc := ⟨.hbm, 300, rfl⟩
abbrev main_while0b_c_52 : Ref sig .tc := ⟨.hbm, 301, rfl⟩
abbrev main_while0b_v209 : Ref sig .tc := ⟨.hbm, 302, rfl⟩
abbrev main_cst_30 : Ref sig .tc := ⟨.hbm, 303, rfl⟩
abbrev main_call10_v0 : Ref sig .tc := ⟨.hbm, 304, rfl⟩
abbrev main_call10_v1 : Ref sig .tc := ⟨.hbm, 305, rfl⟩
abbrev main_v168 : Ref sig .tc := ⟨.hbm, 306, rfl⟩
abbrev main_values_31 : Ref sig .tc := ⟨.hbm, 307, rfl⟩
abbrev main_indices_32 : Ref sig .tc := ⟨.hbm, 308, rfl⟩
abbrev main_c_33 : Ref sig .tc := ⟨.hbm, 309, rfl⟩
abbrev main_v169 : Ref sig .tc := ⟨.hbm, 310, rfl⟩
abbrev main_v170 : Ref sig .tc := ⟨.hbm, 311, rfl⟩
abbrev main_c_34 : Ref sig .tc := ⟨.hbm, 312, rfl⟩
abbrev main_v171 : Ref sig .tc := ⟨.hbm, 313, rfl⟩
abbrev main_v172 : Ref sig .tc := ⟨.hbm, 314, rfl⟩
abbrev main_v173 : Ref sig .tc := ⟨.hbm, 315, rfl⟩
abbrev main_v174 : Ref sig .tc := ⟨.hbm, 316, rfl⟩
abbrev main_v175 : Ref sig .tc := ⟨.hbm, 317, rfl⟩
abbrev main_c_35 : Ref sig .tc := ⟨.hbm, 318, rfl⟩
abbrev main_v176 : Ref sig .tc := ⟨.hbm, 319, rfl⟩
abbrev main_v177 : Ref sig .tc := ⟨.hbm, 320, rfl⟩
abbrev main_c_36 : Ref sig .tc := ⟨.hbm, 321, rfl⟩
abbrev main_v178 : Ref sig .tc := ⟨.hbm, 322, rfl⟩
abbrev main_v179 : Ref sig .tc := ⟨.hbm, 323, rfl⟩
abbrev main_v180 : Ref sig .tc := ⟨.hbm, 324, rfl⟩
abbrev main_v181 : Ref sig .tc := ⟨.hbm, 325, rfl⟩
abbrev main_v182 : Ref sig .tc := ⟨.hbm, 326, rfl⟩

abbrev nD : Nat := 1
abbrev τ : Topo := Topo.v7x

variable {F : FTy → Type} [FloatOps F]

abbrev main_while0_count : Scf.Loop 32 := ⟨0#32, 2000#32, 1#32⟩
-- ==== Proof.RefFrame.lean ====
/- The reference program: what a buffer no stretch writes holds at the end, and the frame. -/
module

public import proofs.«01_k».proof.Defs
public import proofs.«01_k».proof.Proof.Gen.ReferenceIdeal
public import proofs.«01_k».proof.Proof.Gen.ReferenceIdeal.Run
public import Idealize.ShloMosaic.Lib.Quiescent

@[expose] public section

set_option maxRecDepth 16384

noncomputable section

namespace Cert.RefSide

open Idealize.ShloMosaic Idealize.ShloMosaic.TcCoe Idealize.ShloMosaic.StableHlo
open Idealize.SL.Sem
open Cert.ReferenceIdeal Cert.ReferenceIdeal.Gen Cert.ReferenceIdeal.Value

variable {F : FTy → Type} [FloatOps F]

/-- What the first stretch after the loop writes. -/
abbrev post0W : List (Ref sig .tc) := [main_cst_30]
/-- The first stretch after the loop writes only those. -/
theorem post0_writes : (hostOps0_21 : List (HloOp τ sig (Elt F))).Forall fun op =>
    op.writes ⊆ (post0W.map (Proc.devRef (τ := τ) .tc)).toFinset := StableHlo.forall_writes_sub_of_map rfl

/-- What the second stretch after the loop writes. -/
abbrev post1W : List (Ref sig .tc) := [main_call10_v0, main_call10_v1, main_v168]
/-- The second stretch after the loop writes only those. -/
theorem post1_writes : (hostOps0_22 : List (HloOp τ sig (Elt F))).Forall fun op =>
    op.writes ⊆ (post1W.map (Proc.devRef (τ := τ) .tc)).toFinset := StableHlo.forall_writes_sub_of_map rfl

/-- What the last stretch writes. -/
abbrev post2W : List (Ref sig .tc) :=
  [main_values_31, main_indices_32, main_c_33, main_v169, main_v170, main_c_34, main_v171, main_v172, main_v173,
    main_v174, main_v175, main_c_35, main_v176, main_v177, main_c_36, main_v178, main_v179, main_v180, main_v181, main_v182]
/-- The last stretch writes only those. -/
theorem post2_writes : (hostOps0_23 : List (HloOp τ sig (Elt F))).Forall fun op =>
    op.writes ⊆ (post2W.map (Proc.devRef (τ := τ) .tc)).toFinset := StableHlo.forall_writes_sub_of_map rfl

/-- What the stretches before the loop write. -/
abbrev preW : List (Ref sig .tc) :=
  hostOps0_W ++ hostOps0_1_W ++ hostOps0_2_W ++ hostOps0_3_W ++ hostOps0_4_W ++ hostOps0_5_W ++ hostOps0_6_W ++ hostOps0_7_W
    ++ hostOps0_8_W ++ hostOps0_9_W ++ hostOps0_10_W ++ hostOps0_11_W ++ hostOps0_12_W ++ hostOps0_13_W ++ hostOps0_14_W
    ++ hostOps0_15_W ++ hostOps0_16_W ++ hostOps0_17_W ++ hostOps0_18_W ++ hostOps0_19_W ++ hostOps0_20_W

/-- A buffer the stretches before the loop do not write is the launch's at the loop's entry. -/
theorem pre_keep (V : Valuation τ sig (Elt F)) (r : Ref sig .tc) (h : r ∉ preW) :
    afterL preI V (Proc.devRef .tc r) = V (Proc.devRef .tc r) := by
  simp only [preW, List.mem_append, not_or] at h
  obtain ⟨⟨⟨⟨⟨⟨⟨⟨⟨⟨⟨⟨⟨⟨⟨⟨⟨⟨⟨⟨h0, h1⟩, h2⟩, h3⟩, h4⟩, h5⟩, h6⟩, h7⟩, h8⟩, h9⟩, h10⟩, h11⟩, h12⟩, h13⟩, h14⟩, h15⟩, h16⟩, h17⟩, h18⟩, h19⟩, h20⟩ := h
  simp only [preI, afterL_cons, afterL_nil]
  rw [after_of_writes_sub _ _ hostOps0_20_writes h20, after_of_writes_sub _ _ hostOps0_19_writes h19,
    after_of_writes_sub _ _ hostOps0_18_writes h18, after_of_writes_sub _ _ hostOps0_17_writes h17,
    after_of_writes_sub _ _ hostOps0_16_writes h16, after_of_writes_sub _ _ hostOps0_15_writes h15,
    after_of_writes_sub _ _ hostOps0_14_writes h14, after_of_writes_sub _ _ hostOps0_13_writes h13,
    after_of_writes_sub _ _ hostOps0_12_writes h12, after_of_writes_sub _ _ hostOps0_11_writes h11,
    after_of_writes_sub _ _ hostOps0_10_writes h10, after_of_writes_sub _ _ hostOps0_9_writes h9,
    after_of_writes_sub _ _ hostOps0_8_writes h8, after_of_writes_sub _ _ hostOps0_7_writes h7,
    after_of_writes_sub _ _ hostOps0_6_writes h6, after_of_writes_sub _ _ hostOps0_5_writes h5,
    after_of_writes_sub _ _ hostOps0_4_writes h4, after_of_writes_sub _ _ hostOps0_3_writes h3,
    after_of_writes_sub _ _ hostOps0_2_writes h2, after_of_writes_sub _ _ hostOps0_1_writes h1,
    after_of_writes_sub _ _ hostOps0_writes h0]

/-- A buffer neither the loop's condition nor its body writes is, after any number of trips, what it was at the entry. -/
theorem trips_keep (W : Dev nD → Valuation τ sig (Elt F)) (r : Ref sig .tc) (hc : r ∉ condOps_W) (hb : r ∉ while0Ops0_W)
    (c : Dev nD) : ∀ n, atTrip condOps bodyI W n c (Proc.devRef .tc r) = W c (Proc.devRef .tc r)
  | 0 => rfl
  | n + 1 => by
    rw [atTrip_succ]
    simp only [bodyI, afterL_cons, afterL_nil]
    rw [after_of_writes_sub _ _ while0Ops0_writes hb, after_of_writes_sub _ _ condOps_writes hc]
    exact trips_keep W r hc hb c n

/-- A buffer the stretches after the loop do not write is what the loop left. -/
theorem post_keep (V : Valuation τ sig (Elt F)) (r : Ref sig .tc) (h : r ∉ post0W ++ post1W ++ post2W) :
    afterL postI V (Proc.devRef .tc r) = V (Proc.devRef .tc r) := by
  simp only [List.mem_append, not_or] at h
  obtain ⟨⟨h0, h1⟩, h2⟩ := h
  simp only [postI, afterL_cons, afterL_nil]
  rw [after_of_writes_sub _ _ post2_writes h2, after_of_writes_sub _ _ post1_writes h1,
    after_of_writes_sub _ _ post0_writes h0]

variable (m : (ℓ : Loc nD τ sig) → Buf (Elt F) ℓ) (ρ : Dev nD → PrngReg)

/-- A buffer that nothing writes holds at the end what it held at the launch. -/
theorem final_keep (c : Dev nD) (r : Ref sig .tc) (h0 : r ∉ preW) (hc : r ∉ condOps_W) (hb : r ∉ while0Ops0_W)
    (h1 : r ∉ post0W ++ post1W ++ post2W) :
    finalContents condOps preI bodyI postI 2000 m c (Proc.devRef .tc r) = m ((c.tc : Thread nD τ).loc r) := by
  unfold finalContents
  rw [post_keep _ _ h1, after_of_writes_sub _ _ condOps_writes hc, trips_keep _ _ hc hb, entryContents, pre_keep _ _ h0]

/-- The reference ends with its results the fold's and its arguments unchanged, every counter at zero. -/
theorem run : θ_run (defs (F := F)) (onTc (τ := τ) (main (F := F))) ⟨m, fun _ => 0, ρ⟩
    (fun r => (∀ c : Dev nD,
      r.2.mem ((c.tc : Thread nD τ).loc main_v175) = finalContents condOps preI bodyI postI 2000 m c (Proc.devRef .tc main_v175)
      ∧ r.2.mem ((c.tc : Thread nD τ).loc main_values_31)
          = finalContents condOps preI bodyI postI 2000 m c (Proc.devRef .tc main_values_31)
      ∧ r.2.mem ((c.tc : Thread nD τ).loc main_v182) = finalContents condOps preI bodyI postI 2000 m c (Proc.devRef .tc main_v182)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).2 (fun r h => ⟨fun c => ⟨h c main_v175 rfl, h c main_values_31 rfl, h c main_v182 rfl,
    (h c main_arg0 rfl).trans (final_keep m c main_arg0 (by decide) (by decide) (by decide) (by decide)),
    (h c main_arg1 rfl).trans (final_keep m c main_arg1 (by decide) (by decide) (by decide) (by decide)),
    (h c main_arg2 rfl).trans (final_keep m c main_arg2 (by decide) (by decide) (by decide) (by decide)),
    (h c main_arg3 rfl).trans (final_keep m c main_arg3 (by decide) (by decide) (by decide) (by decide))⟩,
    sem_eq_zero_of_no_sems (by decide) r.2⟩) (run_fold m ρ)

end Cert.RefSide

end
-- ==== Proof.KernelRun.lean ====
/- The idealized kernel's run: besides the frame, each result ends as the last stretch of host operations leaves it. -/
module

public import proofs.«01_k».proof.Defs
public import proofs.«01_k».proof.Proof.Gen.KernelIdeal
public import proofs.«01_k».proof.Proof.Gen.KernelIdeal.Frame

@[expose] public section

set_option maxRecDepth 16384

noncomputable section

namespace Cert.KernelIdeal.Launched

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch rule's implicit arguments are found by unifying its conclusion with this one
set_option backward.isDefEq.respectTransparency.types false in
/-- Every execution ends with the three results at the contents after the last stretch (`W17`) and the arguments as launched. -/
theorem run : θ_run defs (onTc (τ := τ) (main (F := F))) ⟨m, fun _ => 0, ρ⟩ (fun r => ∀ c : Dev nD,
      r.2.mem ((c.tc : Thread nD τ).loc main_v96) = W17 m ρ c (Proc.devRef .tc main_v96)
      ∧ r.2.mem ((c.tc : Thread nD τ).loc main_values_13) = W17 m ρ c (Proc.devRef .tc main_values_13)
      ∧ r.2.mem ((c.tc : Thread nD τ).loc main_v103) = W17 m ρ c (Proc.devRef .tc main_v103)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W17 m ρ c b)
    (hfin := fun c s' => by
      iintro ⟨⟨Hh, -⟩, HSI⟩
      unfold StableHlo.held
      imodintro
      iapply (pointsTo_read_all (Pipeline.ucRefs τ sig) (fun b => (((c : Thread nD τ)).1, b)) (W17 m ρ c) s')
      isplitl [Hh] <;> iassumption)
    (hQ := fun s h hz => fun c =>
      ⟨h c _ (mem_uc main_v96 (by decide)), h c _ (mem_uc main_values_13 (by decide)), h c _ (mem_uc main_v103 (by decide)),
       (h c _ (mem_uc main_arg0 (by decide))).trans (W17_main_arg0 m ρ c),
       (h c _ (mem_uc main_arg1 (by decide))).trans (W17_main_arg1 m ρ c),
       (h c _ (mem_uc main_arg2 (by decide))).trans (W17_main_arg2 m ρ c),
       (h c _ (mem_uc main_arg3 (by decide))).trans (W17_main_arg3 m ρ c)⟩)

end Cert.KernelIdeal.Launched

end
-- ==== Proof.Spec.lean ====
module
public import Idealize.ShloMosaic.PureOps.Ideal
@[expose] public section
noncomputable section

/-! # The scalar functions both programs compute

Each definition is one formula on extended reals.  The kernel and the reference are both read
down to these formulas, element by element, and compared there. -/

namespace Cert.Spec
open Idealize.ShloMosaic

/-- The constant one half. -/
abbrev half : EReal := Ideal.ofBits .f32 0x3F000000#32
/-- The constant minus one. -/
abbrev negOne : EReal := Ideal.ofBits .f32 0xBF800000#32
/-- The least score that counts. -/
abbrev thr : EReal := Ideal.ofBits .f32 0x3D4CCCCD#32
/-- The small number added to a union of areas. -/
abbrev eps : EReal := Ideal.ofBits .f32 0x358637BD#32

/-- The softmax of a row of 81 class scores at class `j`, the largest score taken out first. -/
def soft (x : Fin 81 → EReal) (j : Fin 80) : EReal :=
  Ideal.div (Ideal.exp (x ⟨j.val, by omega⟩ - Finset.fold max (Ideal.ofBits .f32 0xFF800000#32) x Finset.univ))
    (∑ k, Ideal.exp (x k - Finset.fold max (Ideal.ofBits .f32 0xFF800000#32) x Finset.univ))

/-- A score that counts is itself, any other is minus one. -/
def mask (p : EReal) : EReal := if thr < p then p else negOne

/-- The factor by which a raw size delta stretches a side. -/
def stretch (d : EReal) : EReal :=
  Ideal.exp (min (Ideal.ofBits .f32 0x40845349#32)
    (max (Ideal.ofBits .f32 0xC0845349#32) (d * Ideal.ofBits .f32 0x3E4CCCCD#32)))

/-- The centre of a decoded side `[a, b]` under the raw centre delta `d`. -/
def centre (a b d : EReal) : EReal :=
  (a + b) * half + (b - a) * (d * Ideal.ofBits .f32 0x3DCCCCCD#32)

/-- The lower end of a decoded side, clipped to `[0, w]`. -/
def decLo (w a b d s : EReal) : EReal :=
  min w (max 0 (centre a b d - (b - a) * stretch s * half))

/-- The upper end of a decoded side, clipped to `[0, w]`. -/
def decHi (w a b d s : EReal) : EReal :=
  min w (max 0 (centre a b d + (b - a) * stretch s * half))

/-- The intersection of two boxes. -/
def inter (ax1 ay1 ax2 ay2 bx1 by1 bx2 by2 : EReal) : EReal :=
  max (min ax2 bx2 - max ax1 bx1) 0 * max (min ay2 by2 - max ay1 by1) 0

/-- The overlap of two boxes whose areas are `aa` and `ab`: intersection over union. -/
def overlap (aa ab ax1 ay1 ax2 ay2 bx1 by1 bx2 by2 : EReal) : EReal :=
  Ideal.div (inter ax1 ay1 ax2 ay2 bx1 by1 bx2 by2)
    (aa + ab - inter ax1 ay1 ax2 ay2 bx1 by1 bx2 by2 + eps)

/-- Whether candidate `r` survives the first `k` steps of the suppression, given the scores and the
pairwise overlaps.  Step `k` removes every later candidate that overlaps candidate `k` by more than
one half, provided candidate `k` itself is still there. -/
def keep (sc : ℕ → EReal) (ov : ℕ → ℕ → EReal) : ℕ → ℕ → Prop
  | 0, r => thr < sc r
  | k + 1, r => keep sc ov k r ∧ ¬ (half < ov k r ∧ k < r ∧ keep sc ov k k)

/-- Survival among the first `N` candidates depends only on their scores and on the overlaps of an
earlier candidate with a later one. -/
theorem keep_congr {N : ℕ} {sc sc' : ℕ → EReal} {ov ov' : ℕ → ℕ → EReal}
    (hs : ∀ r < N, sc r = sc' r) (ho : ∀ k r, k < r → r < N → ov k r = ov' k r) :
    ∀ k ≤ N, ∀ r < N, (keep sc ov k r ↔ keep sc' ov' k r) := by
  intro k
  induction k with
  | zero => intro _ r hr; simp only [keep, hs r hr]
  | succ k ih =>
    intro hk r hr
    simp only [keep]
    rw [ih (by omega) r hr, ih (by omega) k (by omega)]
    refine and_congr_right fun _ => not_congr ?_
    constructor
    · rintro ⟨h1, h2, h3⟩; exact ⟨ho k r h2 hr ▸ h1, h2, h3⟩
    · rintro ⟨h1, h2, h3⟩; exact ⟨(ho k r h2 hr).symm ▸ h1, h2, h3⟩

end Cert.Spec
-- ==== Proof.Suppress.lean ====
module
public import proofs.«01_k».proof.Proof.Gen.KernelIdeal.Frame
public import Idealize.ShloMosaic.Lib.Pointwise
public import proofs.«01_k».proof.Proof.Spec
@[expose] public section
set_option maxRecDepth 16384
noncomputable section
/-! # The suppression region's arithmetic, element by element

The region's body read at one entry: the decoded boxes, the boxes shifted apart by label, and one
step of the suppression loop. -/

namespace Cert.KernelSide
open Idealize.ShloMosaic Idealize.ShloMosaic.TcCoe Idealize.ShloMosaic.Tactic
open Cert.KernelIdeal Cert.KernelIdeal.Gen
/-- The origin of a rank-two array is the zero offset. -/
theorem hz : (![0, 0] : Fin 2 → Nat) = fun _ => 0 := funext fun a => by fin_cases a <;> rfl
open Cert.Spec

/-- One entry of the decoded `x1` array. -/
theorem dec_x1_at (W : EReal) (a b d s : Vec Ideal S8x256 .f32) (i0 : Fin 8) (i1 : Fin 256) :
    (k1_pay18 (F := Ideal) W (k1_pay4 a) (k1_pay6 b) (k1_pay8 d) (k1_pay10 s) (ix2 i0 i1) : EReal)
      = decLo W (a (ix2 i0 i1)) (b (ix2 i0 i1)) (d (ix2 i0 i1)) (s (ix2 i0 i1)) := by
  unfold decLo centre stretch
  pointwise [k1_pay18, k1_pay14, k1_pay16, k1_pay12, k1_pay4, k1_pay6, k1_pay8, k1_pay10, shapeCast_self]

/-- One entry of the decoded `y1` array. -/
theorem dec_y1_at (W : EReal) (a b d s : Vec Ideal S8x256 .f32) (i0 : Fin 8) (i1 : Fin 256) :
    (k1_pay19 (F := Ideal) W (k1_pay5 a) (k1_pay7 b) (k1_pay9 d) (k1_pay11 s) (FloatOps.ofBits .f32 3229897545#32) (FloatOps.ofBits .f32 1082413897#32) (ix2 i0 i1) : EReal)
      = decLo W (a (ix2 i0 i1)) (b (ix2 i0 i1)) (d (ix2 i0 i1)) (s (ix2 i0 i1)) := by
  unfold decLo centre stretch
  pointwise [k1_pay19, k1_pay15, k1_pay17, k1_pay13, k1_pay5, k1_pay7, k1_pay9, k1_pay11, shapeCast_self]

/-- One entry of the decoded `x2` array. -/
theorem dec_x2_at (W : EReal) (a b d s : Vec Ideal S8x256 .f32) (i0 : Fin 8) (i1 : Fin 256) :
    (k1_pay20 (F := Ideal) W (k1_pay4 a) (k1_pay6 b) (k1_pay8 d) (k1_pay10 s) (ix2 i0 i1) : EReal)
      = decHi W (a (ix2 i0 i1)) (b (ix2 i0 i1)) (d (ix2 i0 i1)) (s (ix2 i0 i1)) := by
  unfold decHi centre stretch
  pointwise [k1_pay20, k1_pay14, k1_pay16, k1_pay12, k1_pay4, k1_pay6, k1_pay8, k1_pay10, shapeCast_self]

/-- One entry of the decoded `y2` array. -/
theorem dec_y2_at (W : EReal) (a b d s : Vec Ideal S8x256 .f32) (i0 : Fin 8) (i1 : Fin 256) :
    (k1_pay21 (F := Ideal) W (k1_pay5 a) (k1_pay7 b) (k1_pay9 d) (k1_pay11 s) (FloatOps.ofBits .f32 3229897545#32) (FloatOps.ofBits .f32 1082413897#32) (ix2 i0 i1) : EReal)
      = decHi W (a (ix2 i0 i1)) (b (ix2 i0 i1)) (d (ix2 i0 i1)) (s (ix2 i0 i1)) := by
  unfold decHi centre stretch
  pointwise [k1_pay21, k1_pay15, k1_pay17, k1_pay13, k1_pay5, k1_pay7, k1_pay9, k1_pay11, shapeCast_self]

/-- One entry of the shifted `x1` column. -/
theorem col_x1_at (W off : EReal) (a b d s l : Vec Ideal S2048x1 .f32) (r : Fin 2048) :
    (k1_pay49 (F := Ideal) W off (k1_pay29 a) (k1_pay31 b) (k1_pay33 d) (k1_pay35 s) (k1_pay37 a b) l (ix2 r 0) : EReal)
      = decLo W (a (ix2 r 0)) (b (ix2 r 0)) (d (ix2 r 0)) (s (ix2 r 0)) + l (ix2 r 0) * off := by
  unfold decLo centre stretch
  pointwise [k1_pay49, k1_pay45, k1_pay46, k1_pay47, k1_pay48, k1_pay37, k1_pay38, k1_pay39, k1_pay40, k1_pay41, k1_pay42, k1_pay43, k1_pay44, k1_pay29, k1_pay31, k1_pay33, k1_pay35, k1_pay29, k1_pay30, k1_pay31, k1_pay32, shapeCast_self]

/-- One entry of the shifted `y1` column. -/
theorem col_y1_at (W off : EReal) (a b d s l : Vec Ideal S2048x1 .f32) (r : Fin 2048) :
    (k1_pay50 (F := Ideal) off (k1_pay45 (F := Ideal) W (k1_pay30 a) (k1_pay32 b) (k1_pay34 d) (k1_pay36 s) (k1_pay38 a b) (FloatOps.ofBits .f32 1056964608#32)) (k1_pay48 l) (ix2 r 0) : EReal)
      = decLo W (a (ix2 r 0)) (b (ix2 r 0)) (d (ix2 r 0)) (s (ix2 r 0)) + l (ix2 r 0) * off := by
  unfold decLo centre stretch
  pointwise [k1_pay50, k1_pay45, k1_pay46, k1_pay47, k1_pay48, k1_pay37, k1_pay38, k1_pay39, k1_pay40, k1_pay41, k1_pay42, k1_pay43, k1_pay44, k1_pay30, k1_pay32, k1_pay34, k1_pay36, k1_pay29, k1_pay30, k1_pay31, k1_pay32, shapeCast_self]

/-- One entry of the shifted `x2` column. -/
theorem col_x2_at (W off : EReal) (a b d s l : Vec Ideal S2048x1 .f32) (r : Fin 2048) :
    (k1_pay51 (F := Ideal) off (k1_pay46 (F := Ideal) W (k1_pay29 a) (k1_pay31 b) (k1_pay33 d) (k1_pay35 s) (k1_pay37 a b)) (k1_pay48 l) (ix2 r 0) : EReal)
      = decHi W (a (ix2 r 0)) (b (ix2 r 0)) (d (ix2 r 0)) (s (ix2 r 0)) + l (ix2 r 0) * off := by
  unfold decHi centre stretch
  pointwise [k1_pay51, k1_pay45, k1_pay46, k1_pay47, k1_pay48, k1_pay37, k1_pay38, k1_pay39, k1_pay40, k1_pay41, k1_pay42, k1_pay43, k1_pay44, k1_pay29, k1_pay31, k1_pay33, k1_pay35, k1_pay29, k1_pay30, k1_pay31, k1_pay32, shapeCast_self]

/-- One entry of the shifted `y2` column. -/
theorem col_y2_at (W off : EReal) (a b d s l : Vec Ideal S2048x1 .f32) (r : Fin 2048) :
    (k1_pay52 (F := Ideal) off (k1_pay47 (F := Ideal) W (k1_pay30 a) (k1_pay32 b) (k1_pay34 d) (k1_pay36 s) (k1_pay38 a b) (FloatOps.ofBits .f32 1056964608#32)) (k1_pay48 l) (ix2 r 0) : EReal)
      = decHi W (a (ix2 r 0)) (b (ix2 r 0)) (d (ix2 r 0)) (s (ix2 r 0)) + l (ix2 r 0) * off := by
  unfold decHi centre stretch
  pointwise [k1_pay52, k1_pay45, k1_pay46, k1_pay47, k1_pay48, k1_pay37, k1_pay38, k1_pay39, k1_pay40, k1_pay41, k1_pay42, k1_pay43, k1_pay44, k1_pay30, k1_pay32, k1_pay34, k1_pay36, k1_pay29, k1_pay30, k1_pay31, k1_pay32, shapeCast_self]

/-- One entry of the shifted `x1` array. -/
theorem off_x1_at (v : Fin 4 → Vec Ideal S8x256 .f32) (l : Vec Ideal S8x256 .f32) (i0 : Fin 8) (i1 : Fin 256) :
    (k1_pay24 (F := Ideal) (v 0) (v 1) (v 2) (v 3) l (ix2 i0 i1) : EReal)
      = v 0 (ix2 i0 i1) + l (ix2 i0 i1) * (k1_pay22 (F := Ideal) (v 0) (v 1) (v 2) (v 3) : EReal) := by
  pointwise [k1_pay24, k1_pay23, shapeCast_self]

/-- One entry of the shifted `y1` array. -/
theorem off_y1_at (v : Fin 4 → Vec Ideal S8x256 .f32) (l : Vec Ideal S8x256 .f32) (i0 : Fin 8) (i1 : Fin 256) :
    (k1_pay25 (F := Ideal) (v 0) (v 1) (v 2) (v 3) l (ix2 i0 i1) : EReal)
      = v 1 (ix2 i0 i1) + l (ix2 i0 i1) * (k1_pay22 (F := Ideal) (v 0) (v 1) (v 2) (v 3) : EReal) := by
  pointwise [k1_pay25, k1_pay23, shapeCast_self]

/-- One entry of the shifted `x2` array. -/
theorem off_x2_at (v : Fin 4 → Vec Ideal S8x256 .f32) (l : Vec Ideal S8x256 .f32) (i0 : Fin 8) (i1 : Fin 256) :
    (k1_pay26 (F := Ideal) (v 0) (v 1) (v 2) (v 3) l (ix2 i0 i1) : EReal)
      = v 2 (ix2 i0 i1) + l (ix2 i0 i1) * (k1_pay22 (F := Ideal) (v 0) (v 1) (v 2) (v 3) : EReal) := by
  pointwise [k1_pay26, k1_pay23, shapeCast_self]

/-- One entry of the shifted `y2` array. -/
theorem off_y2_at (v : Fin 4 → Vec Ideal S8x256 .f32) (l : Vec Ideal S8x256 .f32) (i0 : Fin 8) (i1 : Fin 256) :
    (k1_pay27 (F := Ideal) (v 0) (v 1) (v 2) (v 3) l (ix2 i0 i1) : EReal)
      = v 3 (ix2 i0 i1) + l (ix2 i0 i1) * (k1_pay22 (F := Ideal) (v 0) (v 1) (v 2) (v 3) : EReal) := by
  pointwise [k1_pay27, k1_pay23, shapeCast_self]

/-- Entry `r` of an 8 by 256 array, counted along its rows. -/
def at8 (x : Vec Ideal S8x256 .f32) (r : ℕ) : EReal :=
  x (ix2 ⟨r / 256 % 8, Nat.mod_lt _ (by omega)⟩ ⟨r % 256, Nat.mod_lt _ (by omega)⟩)

/-- Entry `r` of a column of 2048 entries. -/
def atC (x : Vec Ideal S2048x1 .f32) (r : ℕ) : EReal :=
  x (ix2 ⟨r % 2048, Nat.mod_lt _ (by omega)⟩ 0)

/-- Position `(i, j)` is entry `256 i + j`. -/
theorem at8_pos (x : Vec Ideal S8x256 .f32) (i : Fin 8) (j : Fin 256) :
    at8 x (256 * i.val + j.val) = x (ix2 i j) := by
  unfold at8
  have hi : (256 * i.val + j.val) / 256 % 8 = i.val := by have := i.isLt; have := j.isLt; omega
  have hj : (256 * i.val + j.val) % 256 = j.val := by have := j.isLt; omega
  congr 2 <;> exact Fin.ext (by assumption)

/-- The loop's index at trip `k` is the word `k`. -/
theorem iv_eq (k : ℕ) : Scf.iv 0#32 1#32 k = BitVec.ofNat 32 k := by
  induction k with
  | zero => rfl
  | succ n ih => rw [Scf.iv_succ, ih]; simp [BitVec.ofNat_add]

/-- The word of a position is the word of its number. -/
theorem idx_word (i j : ℕ) :
    IntOp.addi (IntOp.muli (BitVec.ofNat 32 i) 256#32) (BitVec.ofNat 32 j) = BitVec.ofNat 32 (256 * i + j) := by
  unfold IntOp.addi IntOp.muli
  rw [Nat.mul_comm, BitVec.ofNat_add, BitVec.ofNat_mul]

/-- Comparing two small words for equality compares the numbers. -/
theorem cmp_eq_word {a b : ℕ} (ha : a < 2 ^ 31) (hb : b < 2 ^ 31) :
    IntOp.cmpi .eq (BitVec.ofNat 32 a) (BitVec.ofNat 32 b) = BitVec.ofBool (decide (a = b)) := by
  have h : (BitVec.ofNat 32 a = BitVec.ofNat 32 b) ↔ a = b := by
    constructor
    · intro h
      have := congrArg BitVec.toNat h
      simp only [BitVec.toNat_ofNat] at this
      omega
    · rintro rfl; rfl
  simp only [IntOp.cmpi]
  by_cases he : a = b
  · subst he; simp
  · have hn : ¬ BitVec.ofNat 32 a = BitVec.ofNat 32 b := fun hh => he (h.mp hh)
    simp [he, hn, beq_eq_false_iff_ne.mpr hn]

/-- Comparing two small words by order compares the numbers. -/
theorem cmp_sgt_word {a b : ℕ} (ha : a < 2 ^ 31) (hb : b < 2 ^ 31) :
    IntOp.cmpi .sgt (BitVec.ofNat 32 a) (BitVec.ofNat 32 b) = BitVec.ofBool (decide (b < a)) := by
  have h : (BitVec.ofNat 32 b).slt (BitVec.ofNat 32 a) = decide (b < a) := by
    have e (n : ℕ) (hn : n < 2 ^ 31) : (BitVec.ofNat 32 n).toInt = (n : ℤ) := by
      rw [BitVec.toInt_eq_toNat_cond, BitVec.toNat_ofNat]; split <;> omega
    simp only [BitVec.slt, e a ha, e b hb, Nat.cast_lt]
  simp [IntOp.cmpi, h]

/-- Selecting by a decided proposition is a case distinction on it. -/
theorem select_ofBool {α : Type} (p : Prop) [Decidable p] (a b : α) :
    Scalar.select (BitVec.ofBool (decide p)) a b = if p then a else b := by
  by_cases h : p <;> simp [h, Scalar.select]

/-- The overlap of candidate `r` with candidate `k` as the region computes it: the area of `r` is
given, that of `k` is taken from its shifted box. -/
def kov (a1 a2 a3 a4 ar : Vec Ideal S8x256 .f32) (c1 c2 c3 c4 : Vec Ideal S2048x1 .f32) (k r : ℕ) : EReal :=
  overlap (at8 ar r) ((atC c3 k - atC c1 k) * (atC c4 k - atC c2 k)) (at8 a1 r) (at8 a2 r) (at8 a3 r) (at8 a4 r)
    (atC c1 k) (atC c2 k) (atC c3 k) (atC c4 k)
variable (c : Dev nD)
  (arg0 : Memref sig .tc .vmem S1x128 .f32) (harg0 : arg0.IsWhole)
  (arg1 : Memref sig .tc .vmem S8x256 .f32) (harg1 : arg1.IsWhole)
  (arg2 : Memref sig .tc .vmem S8x256 .f32) (harg2 : arg2.IsWhole)
  (arg3 : Memref sig .tc .vmem S8x256 .f32) (harg3 : arg3.IsWhole)
  (arg4 : Memref sig .tc .vmem S8x256 .f32) (harg4 : arg4.IsWhole)
  (arg5 : Memref sig .tc .vmem S8x256 .f32) (harg5 : arg5.IsWhole)
  (arg6 : Memref sig .tc .vmem S8x256 .f32) (harg6 : arg6.IsWhole)
  (arg7 : Memref sig .tc .vmem S8x256 .f32) (harg7 : arg7.IsWhole)
  (arg8 : Memref sig .tc .vmem S8x256 .f32) (harg8 : arg8.IsWhole)
  (arg9 : Memref sig .tc .vmem S8x256 .f32) (harg9 : arg9.IsWhole)
  (arg10 : Memref sig .tc .vmem S8x256 .f32) (harg10 : arg10.IsWhole)
  (arg11 : Memref sig .tc .vmem S2048x1 .f32) (harg11 : arg11.IsWhole)
  (arg12 : Memref sig .tc .vmem S2048x1 .f32) (harg12 : arg12.IsWhole)
  (arg13 : Memref sig .tc .vmem S2048x1 .f32) (harg13 : arg13.IsWhole)
  (arg14 : Memref sig .tc .vmem S2048x1 .f32) (harg14 : arg14.IsWhole)
  (arg15 : Memref sig .tc .vmem S2048x1 .f32) (harg15 : arg15.IsWhole)
  (arg16 : Memref sig .tc .vmem S2048x1 .f32) (harg16 : arg16.IsWhole)
  (arg17 : Memref sig .tc .vmem S2048x1 .f32) (harg17 : arg17.IsWhole)
  (arg18 : Memref sig .tc .vmem S2048x1 .f32) (harg18 : arg18.IsWhole)
  (arg19 : Memref sig .tc .vmem S2048x1 .f32) (harg19 : arg19.IsWhole)
  (arg20 : Memref sig .tc .vmem S8x256 .f32) (harg20 : arg20.IsWhole)
  (arg21 : Memref sig .tc .vmem S8x256 .f32) (harg21 : arg21.IsWhole)
  (arg22 : Memref sig .tc .vmem S8x256 .f32) (harg22 : arg22.IsWhole)
  (arg23 : Memref sig .tc .vmem S8x256 .f32) (harg23 : arg23.IsWhole)
  (arg24 : Memref sig .tc .vmem S8x256 .f32) (harg24 : arg24.IsWhole)
  (arg25 : Memref sig .tc .vmem S2048x1 .f32) (harg25 : arg25.IsWhole)
  (arg26 : Memref sig .tc .vmem S2048x1 .f32) (harg26 : arg26.IsWhole)
  (arg27 : Memref sig .tc .vmem S2048x1 .f32) (harg27 : arg27.IsWhole)
  (arg28 : Memref sig .tc .vmem S2048x1 .f32) (harg28 : arg28.IsWhole)
variable (𝒱 : Variants) (bd : Option 𝒱.V) (v103 : EReal) (v108 v111 v114 v117 v120 : Vec Ideal S8x256 .f32)
  (v182 v189 v196 v198 v204 : Vec Ideal S2048x1 .f32)
  (X_arg25 : BufTy.Contents (Elt Ideal) arg25.view.ty) (X_arg26 : BufTy.Contents (Elt Ideal) arg26.view.ty)
  (X_arg27 : BufTy.Contents (Elt Ideal) arg27.view.ty) (X_arg28 : BufTy.Contents (Elt Ideal) arg28.view.ty)

/-- What one trip of the suppression loop makes of the array it carries. -/
theorem trip_at (k : Fin k1_t1_loop.trips) (acc : Vec Ideal S8x256 .f32) (i0 : Fin 8) (i1 : Fin 256) :
    (tripR_k1_t1 (F := Ideal) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v103 v108 v111 v114 v117 v120 v182 v189 v196 v198 v204 X_arg25 X_arg26 X_arg27 X_arg28 k acc (ix2 i0 i1) : EReal)
      = acc (ix2 i0 i1) * (1 - Scalar.select
          (IntOp.andi (BitVec.ofBool (decide (half < kov v108 v111 v114 v117 v120
              (arg25.view.read (Elt Ideal) X_arg25) (arg26.view.read (Elt Ideal) X_arg26)
              (arg27.view.read (Elt Ideal) X_arg27) (arg28.view.read (Elt Ideal) X_arg28) k (256 * i0.val + i1.val))))
            (BitVec.ofBool (decide (k.val < 256 * i0.val + i1.val))))
          (Finset.fold max (Ideal.ofBits .f32 0xFF800000#32)
            (fun x : Fin 8 × Fin 256 =>
              if 256 * x.1.val + x.2.val = k.val then acc (ix2 x.1 x.2) else 0)
            Finset.univ) 0) := by
  have hk : k.val < 2000 := Nat.lt_of_lt_of_le k.isLt k1_t1_abs.2.1
  have hw : BitVec.toNat (Scalar.indexCast (Scf.iv 0#32 1#32 k.val)) = k.val % 2048 := by
    have := congrFun (k1_off1_eq k) 0
    rw [Nat.mod_eq_of_lt (by omega)]
    exact this
  have h1 (i : Fin 8) (j : Fin 256) : IntOp.cmpi .eq (BitVec.ofNat 32 (256 * i.val + j.val)) (BitVec.ofNat 32 k.val)
      = BitVec.ofBool (decide (256 * i.val + j.val = k.val)) :=
    cmp_eq_word (by have := i.isLt; have := j.isLt; omega) (by omega)
  have h2 : IntOp.cmpi .sgt (BitVec.ofNat 32 (256 * i0.val + i1.val)) (BitVec.ofNat 32 k.val)
      = BitVec.ofBool (decide (k.val < 256 * i0.val + i1.val)) :=
    cmp_sgt_word (by have := i0.isLt; have := i1.isLt; omega) (by omega)
  unfold tripR_k1_t1 trip_k1_t1
  dsimp only
  sl_unfold_words
  simp only [View.readAt_eq_ld]
  unfold kov overlap inter half eps
  simp only [at8_pos]
  unfold atC
  pointwise [k1_pay56, k1_pay1, k1_pay53, View.ld]
  simp only [hw]
  simp only [iv_eq, idx_word, h1, h2, select_ofBool]

/-- The largest entry of an array that is zero except perhaps at position `k`, where it is one or
zero. -/
theorem fold_pick (k : ℕ) (hk : k < 2048) (f : ℕ → EReal) (h0 : 0 ≤ f k) :
    Finset.fold max (Ideal.ofBits .f32 0xFF800000#32)
      (fun x : Fin 8 × Fin 256 =>
        if 256 * x.1.val + x.2.val = k then f (256 * x.1.val + x.2.val) else 0)
      Finset.univ = f k := by
  have hb : Ideal.ofBits .f32 0xFF800000#32 = (⊥ : EReal) := by simp [Ideal.ofBits, Ideal.ieee]
  rw [hb]
  refine le_antisymm (Finset.fold_max_le _ |>.2 ⟨bot_le, fun x _ => ?_⟩) (Finset.le_fold_max _ |>.2 (.inr ?_))
  · by_cases h : 256 * x.1.val + x.2.val = k
    · simp [h]
    · simpa [h] using h0
  · refine ⟨(⟨k / 256, by omega⟩, ⟨k % 256, by omega⟩), Finset.mem_univ _, le_of_eq ?_⟩
    have : 256 * (k / 256) + k % 256 = k := Nat.div_add_mod k 256
    simp [this]

/-- One step on the zero-or-one mark of a candidate, as a proposition. -/
theorem step_ind (A B C D : Prop) [Decidable A] [Decidable B] [Decidable C] [Decidable D]
    (E : Prop) [Decidable E] (hE : E ↔ A ∧ ¬ (B ∧ C ∧ D)) :
    (if A then (1 : EReal) else 0) * (1 - Scalar.select (IntOp.andi (BitVec.ofBool (decide B)) (BitVec.ofBool (decide C)))
      (if D then (1 : EReal) else 0) 0) = if E then 1 else 0 := by
  have h11 : (1 : EReal) - 1 = 0 := by
    rw [← EReal.coe_one, ← EReal.coe_sub, sub_self, EReal.coe_zero]
  by_cases hA : A <;> by_cases hB : B <;> by_cases hC : C <;> by_cases hD : D <;>
    simp [hE, hA, hB, hC, hD, Scalar.select, IntOp.andi, h11]

open Classical in
/-- The array the suppression loop carries holds one at the candidates still kept and zero at the
others. -/
theorem loop_at (init : Vec Ideal S8x256 .f32) (sc : ℕ → EReal)
    (hinit : ∀ i j, (init (ix2 i j) : EReal) = if thr < sc (256 * i.val + j.val) then 1 else 0) :
    ∀ n ≤ k1_t1_loop.trips, ∀ (i : Fin 8) (j : Fin 256),
    (st_k1_t1 (F := Ideal) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v103 v108 v111 v114 v117 v120 v182 v189 v196 v198 v204 X_arg25 X_arg26 X_arg27 X_arg28 init n (ix2 i j) : EReal)
      = if keep sc (kov v108 v111 v114 v117 v120
          (arg25.view.read (Elt Ideal) X_arg25) (arg26.view.read (Elt Ideal) X_arg26)
          (arg27.view.read (Elt Ideal) X_arg27) (arg28.view.read (Elt Ideal) X_arg28)) n (256 * i.val + j.val)
        then 1 else 0 := by
  intro n
  induction n with
  | zero => intro _ i j; rw [st_k1_t1_zero, hinit i j]; simp only [keep]; congr
  | succ n ih =>
    intro hn i j
    have ih := ih (by omega)
    have hn' : n < 2000 := Nat.lt_of_lt_of_le hn k1_t1_abs.2.1
    rw [st_k1_t1_succ 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v103 v108 v111 v114 v117 v120 v182 v189 v196 v198 v204 X_arg25 X_arg26 X_arg27 X_arg28 init ⟨n, hn⟩, trip_at]
    simp only [ih]
    have hp := fold_pick n (by omega) (fun r => if keep sc (kov v108 v111 v114 v117 v120
          (arg25.view.read (Elt Ideal) X_arg25) (arg26.view.read (Elt Ideal) X_arg26)
          (arg27.view.read (Elt Ideal) X_arg27) (arg28.view.read (Elt Ideal) X_arg28)) n r then (1 : EReal) else 0)
      (by split_ifs <;> simp)
    rw [hp]
    exact step_ind _ _ _ _ _ (by simp only [keep])
end Cert.KernelSide
-- ==== Proof.RegionOut.lean ====
module
public import proofs.«01_k».proof.Proof.Gen.KernelIdeal.Frame
public import Idealize.ShloMosaic.Lib.Pointwise
public import proofs.«01_k».proof.Proof.Suppress
public import Idealize.ShloMosaic.Lib.WritesUnit
@[expose] public section
set_option maxRecDepth 16384
noncomputable section
/-! # What the suppression region leaves in its outputs

Every output of the region, element by element, from the blocks the region is given. -/

namespace Cert.KernelSide
open Idealize.ShloMosaic Idealize.ShloMosaic.TcCoe Idealize.ShloMosaic.Tactic
open Cert.KernelIdeal Cert.KernelIdeal.Gen
open Cert.Spec
variable (c : Dev nD)
  (arg0 : Memref sig .tc .vmem S1x128 .f32) (harg0 : arg0.IsWhole)
  (arg1 : Memref sig .tc .vmem S8x256 .f32) (harg1 : arg1.IsWhole)
  (arg2 : Memref sig .tc .vmem S8x256 .f32) (harg2 : arg2.IsWhole)
  (arg3 : Memref sig .tc .vmem S8x256 .f32) (harg3 : arg3.IsWhole)
  (arg4 : Memref sig .tc .vmem S8x256 .f32) (harg4 : arg4.IsWhole)
  (arg5 : Memref sig .tc .vmem S8x256 .f32) (harg5 : arg5.IsWhole)
  (arg6 : Memref sig .tc .vmem S8x256 .f32) (harg6 : arg6.IsWhole)
  (arg7 : Memref sig .tc .vmem S8x256 .f32) (harg7 : arg7.IsWhole)
  (arg8 : Memref sig .tc .vmem S8x256 .f32) (harg8 : arg8.IsWhole)
  (arg9 : Memref sig .tc .vmem S8x256 .f32) (harg9 : arg9.IsWhole)
  (arg10 : Memref sig .tc .vmem S8x256 .f32) (harg10 : arg10.IsWhole)
  (arg11 : Memref sig .tc .vmem S2048x1 .f32) (harg11 : arg11.IsWhole)
  (arg12 : Memref sig .tc .vmem S2048x1 .f32) (harg12 : arg12.IsWhole)
  (arg13 : Memref sig .tc .vmem S2048x1 .f32) (harg13 : arg13.IsWhole)
  (arg14 : Memref sig .tc .vmem S2048x1 .f32) (harg14 : arg14.IsWhole)
  (arg15 : Memref sig .tc .vmem S2048x1 .f32) (harg15 : arg15.IsWhole)
  (arg16 : Memref sig .tc .vmem S2048x1 .f32) (harg16 : arg16.IsWhole)
  (arg17 : Memref sig .tc .vmem S2048x1 .f32) (harg17 : arg17.IsWhole)
  (arg18 : Memref sig .tc .vmem S2048x1 .f32) (harg18 : arg18.IsWhole)
  (arg19 : Memref sig .tc .vmem S2048x1 .f32) (harg19 : arg19.IsWhole)
  (arg20 : Memref sig .tc .vmem S8x256 .f32) (harg20 : arg20.IsWhole)
  (arg21 : Memref sig .tc .vmem S8x256 .f32) (harg21 : arg21.IsWhole)
  (arg22 : Memref sig .tc .vmem S8x256 .f32) (harg22 : arg22.IsWhole)
  (arg23 : Memref sig .tc .vmem S8x256 .f32) (harg23 : arg23.IsWhole)
  (arg24 : Memref sig .tc .vmem S8x256 .f32) (harg24 : arg24.IsWhole)
  (arg25 : Memref sig .tc .vmem S2048x1 .f32) (harg25 : arg25.IsWhole)
  (arg26 : Memref sig .tc .vmem S2048x1 .f32) (harg26 : arg26.IsWhole)
  (arg27 : Memref sig .tc .vmem S2048x1 .f32) (harg27 : arg27.IsWhole)
  (arg28 : Memref sig .tc .vmem S2048x1 .f32) (harg28 : arg28.IsWhole)
variable (x0 : Vec Ideal S1x128 .f32) (x1 x2 x3 x4 x5 x6 x7 x8 x9 x10 : Vec Ideal S8x256 .f32)
  (x11 x12 x13 x14 x15 x16 x17 x18 x19 : Vec Ideal S2048x1 .f32)

/-- The image's width, as the region reads it. -/
def kW (x0 : Vec Ideal S1x128 .f32) : EReal := x0 (ix2 0 0)
/-- The image's height, as the region reads it. -/
def kH (x0 : Vec Ideal S1x128 .f32) : EReal := x0 (ix2 0 1)

/-- The region's width word is the first entry of its parameter row. -/
theorem pay2_at (h : _) : (k1_pay2 (F := Ideal) (View.ld x0 (Rect.unit ![0, 0] ![1, 1] h)) : EReal) = kW x0 := by
  unfold kW
  pointwise [k1_pay2, View.ld]
/-- The region's height word is the second entry of its parameter row. -/
theorem pay3_at (h : _) : (k1_pay3 (F := Ideal) (View.ld x0 (Rect.unit ![0, 1] ![1, 1] h)) : EReal) = kH x0 := by
  unfold kH
  pointwise [k1_pay3, View.ld]

/-- The region's output of the decoded `x1`. -/
theorem out_x1 (i : Fin 8) (j : Fin 256) : (out1_A_21 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 x10 x11 x12 x13 x14 x15 x16 x17 x18 x19 (ix2 i j) : EReal)
    = decLo (kW x0) (x3 (ix2 i j)) (x5 (ix2 i j)) (x7 (ix2 i j)) (x9 (ix2 i j)) := by
  unfold out1_A_21
  rw [View.read_writes_eq_canon _ _ _ (cover1_A_21 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 x10 x11 x12 x13 x14 x15 x16 x17 x18 x19)]
  unfold kernelRun1_A
  dsimp only
  sl_unfold_words
  rw [View.canon_cons_unit_zero (S := S8x256) hz]
  simp only [View.readAt_eq_ld, Memref.IsWhole.read_unread, View.ld_unit_zero (S := S8x256) hz, shapeCast_self, pay2_at, pay3_at]
  exact dec_x1_at (kW x0) x3 x5 x7 x9 i j

/-- The region's output of the decoded `y1`. -/
theorem out_y1 (i : Fin 8) (j : Fin 256) : (out1_A_22 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 x10 x11 x12 x13 x14 x15 x16 x17 x18 x19 (ix2 i j) : EReal)
    = decLo (kH x0) (x4 (ix2 i j)) (x6 (ix2 i j)) (x8 (ix2 i j)) (x10 (ix2 i j)) := by
  unfold out1_A_22
  rw [View.read_writes_eq_canon _ _ _ (cover1_A_22 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 x10 x11 x12 x13 x14 x15 x16 x17 x18 x19)]
  unfold kernelRun1_A
  dsimp only
  sl_unfold_words
  rw [View.canon_cons_unit_zero (S := S8x256) hz]
  simp only [View.readAt_eq_ld, Memref.IsWhole.read_unread, View.ld_unit_zero (S := S8x256) hz, shapeCast_self, pay2_at, pay3_at]
  exact dec_y1_at (kH x0) x4 x6 x8 x10 i j

/-- The region's output of the decoded `x2`. -/
theorem out_x2 (i : Fin 8) (j : Fin 256) : (out1_A_23 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 x10 x11 x12 x13 x14 x15 x16 x17 x18 x19 (ix2 i j) : EReal)
    = decHi (kW x0) (x3 (ix2 i j)) (x5 (ix2 i j)) (x7 (ix2 i j)) (x9 (ix2 i j)) := by
  unfold out1_A_23
  rw [View.read_writes_eq_canon _ _ _ (cover1_A_23 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 x10 x11 x12 x13 x14 x15 x16 x17 x18 x19)]
  unfold kernelRun1_A
  dsimp only
  sl_unfold_words
  rw [View.canon_cons_unit_zero (S := S8x256) hz]
  simp only [View.readAt_eq_ld, Memref.IsWhole.read_unread, View.ld_unit_zero (S := S8x256) hz, shapeCast_self, pay2_at, pay3_at]
  exact dec_x2_at (kW x0) x3 x5 x7 x9 i j

/-- The region's output of the decoded `y2`. -/
theorem out_y2 (i : Fin 8) (j : Fin 256) : (out1_A_24 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 x10 x11 x12 x13 x14 x15 x16 x17 x18 x19 (ix2 i j) : EReal)
    = decHi (kH x0) (x4 (ix2 i j)) (x6 (ix2 i j)) (x8 (ix2 i j)) (x10 (ix2 i j)) := by
  unfold out1_A_24
  rw [View.read_writes_eq_canon _ _ _ (cover1_A_24 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 x10 x11 x12 x13 x14 x15 x16 x17 x18 x19)]
  unfold kernelRun1_A
  dsimp only
  sl_unfold_words
  rw [View.canon_cons_unit_zero (S := S8x256) hz]
  simp only [View.readAt_eq_ld, Memref.IsWhole.read_unread, View.ld_unit_zero (S := S8x256) hz, shapeCast_self, pay2_at, pay3_at]
  exact dec_y2_at (kH x0) x4 x6 x8 x10 i j

/-- The distance by which boxes of different labels are moved apart: one more than the largest
coordinate. -/
def kOff (x0 : Vec Ideal S1x128 .f32) (x3 x4 x5 x6 x7 x8 x9 x10 : Vec Ideal S8x256 .f32) : EReal :=
  k1_pay22 (F := Ideal) (k1_pay18 (kW x0) (k1_pay4 x3) (k1_pay6 x5) (k1_pay8 x7) (k1_pay10 x9)) (k1_pay19 (kH x0) (k1_pay5 x4) (k1_pay7 x6) (k1_pay9 x8) (k1_pay11 x10) (FloatOps.ofBits .f32 3229897545#32) (FloatOps.ofBits .f32 1082413897#32))
    (k1_pay20 (kW x0) (k1_pay4 x3) (k1_pay6 x5) (k1_pay8 x7) (k1_pay10 x9)) (k1_pay21 (kH x0) (k1_pay5 x4) (k1_pay7 x6) (k1_pay9 x8) (k1_pay11 x10) (FloatOps.ofBits .f32 3229897545#32) (FloatOps.ofBits .f32 1082413897#32))

/-- The boxes' coordinates, before shifting, counted along the rows of the array. -/
def bX1 (x0 : Vec Ideal S1x128 .f32) (a b d s : Vec Ideal S8x256 .f32) (r : ℕ) : EReal :=
  decLo (kW x0) (at8 a r) (at8 b r) (at8 d r) (at8 s r)
/-- The boxes' lower vertical coordinates. -/
def bY1 (x0 : Vec Ideal S1x128 .f32) (a b d s : Vec Ideal S8x256 .f32) (r : ℕ) : EReal :=
  decLo (kH x0) (at8 a r) (at8 b r) (at8 d r) (at8 s r)
/-- The boxes' upper horizontal coordinates. -/
def bX2 (x0 : Vec Ideal S1x128 .f32) (a b d s : Vec Ideal S8x256 .f32) (r : ℕ) : EReal :=
  decHi (kW x0) (at8 a r) (at8 b r) (at8 d r) (at8 s r)
/-- The boxes' upper vertical coordinates. -/
def bY2 (x0 : Vec Ideal S1x128 .f32) (a b d s : Vec Ideal S8x256 .f32) (r : ℕ) : EReal :=
  decHi (kH x0) (at8 a r) (at8 b r) (at8 d r) (at8 s r)
/-- The columns' shifted coordinates: lower. -/
def cLo (w off : EReal) (a b d s l : Vec Ideal S2048x1 .f32) (k : ℕ) : EReal :=
  decLo w (atC a k) (atC b k) (atC d k) (atC s k) + atC l k * off
/-- The columns' shifted coordinates: upper. -/
def cHi (w off : EReal) (a b d s l : Vec Ideal S2048x1 .f32) (k : ℕ) : EReal :=
  decHi w (atC a k) (atC b k) (atC d k) (atC s k) + atC l k * off

/-- The overlap of candidate `r`, taken from the arrays, with candidate `k`, taken from the
columns. -/
def regOv (k r : ℕ) : EReal :=
  overlap ((bX2 x0 x3 x5 x7 x9 r - bX1 x0 x3 x5 x7 x9 r) * (bY2 x0 x4 x6 x8 x10 r - bY1 x0 x4 x6 x8 x10 r))
    ((cHi (kW x0) (kOff x0 x3 x4 x5 x6 x7 x8 x9 x10) x12 x14 x16 x18 x11 k - cLo (kW x0) (kOff x0 x3 x4 x5 x6 x7 x8 x9 x10) x12 x14 x16 x18 x11 k)
      * (cHi (kH x0) (kOff x0 x3 x4 x5 x6 x7 x8 x9 x10) x13 x15 x17 x19 x11 k - cLo (kH x0) (kOff x0 x3 x4 x5 x6 x7 x8 x9 x10) x13 x15 x17 x19 x11 k))
    (bX1 x0 x3 x5 x7 x9 r + at8 x2 r * kOff x0 x3 x4 x5 x6 x7 x8 x9 x10)
    (bY1 x0 x4 x6 x8 x10 r + at8 x2 r * kOff x0 x3 x4 x5 x6 x7 x8 x9 x10)
    (bX2 x0 x3 x5 x7 x9 r + at8 x2 r * kOff x0 x3 x4 x5 x6 x7 x8 x9 x10)
    (bY2 x0 x4 x6 x8 x10 r + at8 x2 r * kOff x0 x3 x4 x5 x6 x7 x8 x9 x10)
    (cLo (kW x0) (kOff x0 x3 x4 x5 x6 x7 x8 x9 x10) x12 x14 x16 x18 x11 k)
    (cLo (kH x0) (kOff x0 x3 x4 x5 x6 x7 x8 x9 x10) x13 x15 x17 x19 x11 k)
    (cHi (kW x0) (kOff x0 x3 x4 x5 x6 x7 x8 x9 x10) x12 x14 x16 x18 x11 k)
    (cHi (kH x0) (kOff x0 x3 x4 x5 x6 x7 x8 x9 x10) x13 x15 x17 x19 x11 k)

/-- A store of a whole column is read back as the column stored. -/
theorem read_store (m : Memref sig .tc .vmem S2048x1 .f32) (f : m.view.ty.Contents (Elt Ideal))
    (w : Vec Ideal S2048x1 .f32) (h : _) :
    m.view.read (Elt Ideal) (m.view.writes (Elt Ideal) f [⟨Rect.unit ![0, 0] ![2048, 1] h, w⟩]) = w := by
  funext y
  exact View.read_writes_cons_unit_of_mem m.view f h w [] y y rfl
    (fun a => by fin_cases a <;> exact (Nat.zero_add _).symm)

/-- The final mark of a candidate: its score if its weight is above one half, else minus one. -/
theorem pay57_at (x1 st : Vec Ideal S8x256 .f32) (i : Fin 8) (j : Fin 256) :
    (k1_pay57 (F := Ideal) x1 st (ix2 i j) : EReal) = if half < st (ix2 i j) then x1 (ix2 i j) else negOne := by
  unfold half negOne
  pointwise [k1_pay57, k1_pay54, shapeCast_self]
/-- The initial weight of a candidate: one if its score counts, else zero. -/
theorem pay55_at (x1 : Vec Ideal S8x256 .f32) (i : Fin 8) (j : Fin 256) :
    (k1_pay55 (F := Ideal) x1 (ix2 i j) : EReal) = if thr < at8 x1 (256 * i.val + j.val) then 1 else 0 := by
  rw [at8_pos]
  unfold thr
  pointwise [k1_pay55, k1_pay54, shapeCast_self]

/-- The shifted `x1` array, counted along its rows. -/
theorem arr_x1 (r : ℕ) : at8 (k1_pay24 (F := Ideal) (k1_pay18 (kW x0) (k1_pay4 x3) (k1_pay6 x5) (k1_pay8 x7) (k1_pay10 x9)) (k1_pay19 (kH x0) (k1_pay5 x4) (k1_pay7 x6) (k1_pay9 x8) (k1_pay11 x10) (FloatOps.ofBits .f32 3229897545#32) (FloatOps.ofBits .f32 1082413897#32)) (k1_pay20 (kW x0) (k1_pay4 x3) (k1_pay6 x5) (k1_pay8 x7) (k1_pay10 x9)) (k1_pay21 (kH x0) (k1_pay5 x4) (k1_pay7 x6) (k1_pay9 x8) (k1_pay11 x10) (FloatOps.ofBits .f32 3229897545#32) (FloatOps.ofBits .f32 1082413897#32)) x2) r
    = bX1 x0 x3 x5 x7 x9 r + at8 x2 r * (kOff x0 x3 x4 x5 x6 x7 x8 x9 x10) := by
  have h := off_x1_at ![(k1_pay18 (kW x0) (k1_pay4 x3) (k1_pay6 x5) (k1_pay8 x7) (k1_pay10 x9)), (k1_pay19 (kH x0) (k1_pay5 x4) (k1_pay7 x6) (k1_pay9 x8) (k1_pay11 x10) (FloatOps.ofBits .f32 3229897545#32) (FloatOps.ofBits .f32 1082413897#32)), (k1_pay20 (kW x0) (k1_pay4 x3) (k1_pay6 x5) (k1_pay8 x7) (k1_pay10 x9)), (k1_pay21 (kH x0) (k1_pay5 x4) (k1_pay7 x6) (k1_pay9 x8) (k1_pay11 x10) (FloatOps.ofBits .f32 3229897545#32) (FloatOps.ofBits .f32 1082413897#32))] x2 ⟨r / 256 % 8, Nat.mod_lt _ (by omega)⟩ ⟨r % 256, Nat.mod_lt _ (by omega)⟩
  exact h.trans (congrArg (fun z : EReal => z + at8 x2 r * (kOff x0 x3 x4 x5 x6 x7 x8 x9 x10)) (dec_x1_at _ _ _ _ _ _ _))

/-- The shifted `y1` array, counted along its rows. -/
theorem arr_y1 (r : ℕ) : at8 (k1_pay25 (F := Ideal) (k1_pay18 (kW x0) (k1_pay4 x3) (k1_pay6 x5) (k1_pay8 x7) (k1_pay10 x9)) (k1_pay19 (kH x0) (k1_pay5 x4) (k1_pay7 x6) (k1_pay9 x8) (k1_pay11 x10) (FloatOps.ofBits .f32 3229897545#32) (FloatOps.ofBits .f32 1082413897#32)) (k1_pay20 (kW x0) (k1_pay4 x3) (k1_pay6 x5) (k1_pay8 x7) (k1_pay10 x9)) (k1_pay21 (kH x0) (k1_pay5 x4) (k1_pay7 x6) (k1_pay9 x8) (k1_pay11 x10) (FloatOps.ofBits .f32 3229897545#32) (FloatOps.ofBits .f32 1082413897#32)) x2) r
    = bY1 x0 x4 x6 x8 x10 r + at8 x2 r * (kOff x0 x3 x4 x5 x6 x7 x8 x9 x10) := by
  have h := off_y1_at ![(k1_pay18 (kW x0) (k1_pay4 x3) (k1_pay6 x5) (k1_pay8 x7) (k1_pay10 x9)), (k1_pay19 (kH x0) (k1_pay5 x4) (k1_pay7 x6) (k1_pay9 x8) (k1_pay11 x10) (FloatOps.ofBits .f32 3229897545#32) (FloatOps.ofBits .f32 1082413897#32)), (k1_pay20 (kW x0) (k1_pay4 x3) (k1_pay6 x5) (k1_pay8 x7) (k1_pay10 x9)), (k1_pay21 (kH x0) (k1_pay5 x4) (k1_pay7 x6) (k1_pay9 x8) (k1_pay11 x10) (FloatOps.ofBits .f32 3229897545#32) (FloatOps.ofBits .f32 1082413897#32))] x2 ⟨r / 256 % 8, Nat.mod_lt _ (by omega)⟩ ⟨r % 256, Nat.mod_lt _ (by omega)⟩
  exact h.trans (congrArg (fun z : EReal => z + at8 x2 r * (kOff x0 x3 x4 x5 x6 x7 x8 x9 x10)) (dec_y1_at _ _ _ _ _ _ _))

/-- The shifted `x2` array, counted along its rows. -/
theorem arr_x2 (r : ℕ) : at8 (k1_pay26 (F := Ideal) (k1_pay18 (kW x0) (k1_pay4 x3) (k1_pay6 x5) (k1_pay8 x7) (k1_pay10 x9)) (k1_pay19 (kH x0) (k1_pay5 x4) (k1_pay7 x6) (k1_pay9 x8) (k1_pay11 x10) (FloatOps.ofBits .f32 3229897545#32) (FloatOps.ofBits .f32 1082413897#32)) (k1_pay20 (kW x0) (k1_pay4 x3) (k1_pay6 x5) (k1_pay8 x7) (k1_pay10 x9)) (k1_pay21 (kH x0) (k1_pay5 x4) (k1_pay7 x6) (k1_pay9 x8) (k1_pay11 x10) (FloatOps.ofBits .f32 3229897545#32) (FloatOps.ofBits .f32 1082413897#32)) x2) r
    = bX2 x0 x3 x5 x7 x9 r + at8 x2 r * (kOff x0 x3 x4 x5 x6 x7 x8 x9 x10) := by
  have h := off_x2_at ![(k1_pay18 (kW x0) (k1_pay4 x3) (k1_pay6 x5) (k1_pay8 x7) (k1_pay10 x9)), (k1_pay19 (kH x0) (k1_pay5 x4) (k1_pay7 x6) (k1_pay9 x8) (k1_pay11 x10) (FloatOps.ofBits .f32 3229897545#32) (FloatOps.ofBits .f32 1082413897#32)), (k1_pay20 (kW x0) (k1_pay4 x3) (k1_pay6 x5) (k1_pay8 x7) (k1_pay10 x9)), (k1_pay21 (kH x0) (k1_pay5 x4) (k1_pay7 x6) (k1_pay9 x8) (k1_pay11 x10) (FloatOps.ofBits .f32 3229897545#32) (FloatOps.ofBits .f32 1082413897#32))] x2 ⟨r / 256 % 8, Nat.mod_lt _ (by omega)⟩ ⟨r % 256, Nat.mod_lt _ (by omega)⟩
  exact h.trans (congrArg (fun z : EReal => z + at8 x2 r * (kOff x0 x3 x4 x5 x6 x7 x8 x9 x10)) (dec_x2_at _ _ _ _ _ _ _))

/-- The shifted `y2` array, counted along its rows. -/
theorem arr_y2 (r : ℕ) : at8 (k1_pay27 (F := Ideal) (k1_pay18 (kW x0) (k1_pay4 x3) (k1_pay6 x5) (k1_pay8 x7) (k1_pay10 x9)) (k1_pay19 (kH x0) (k1_pay5 x4) (k1_pay7 x6) (k1_pay9 x8) (k1_pay11 x10) (FloatOps.ofBits .f32 3229897545#32) (FloatOps.ofBits .f32 1082413897#32)) (k1_pay20 (kW x0) (k1_pay4 x3) (k1_pay6 x5) (k1_pay8 x7) (k1_pay10 x9)) (k1_pay21 (kH x0) (k1_pay5 x4) (k1_pay7 x6) (k1_pay9 x8) (k1_pay11 x10) (FloatOps.ofBits .f32 3229897545#32) (FloatOps.ofBits .f32 1082413897#32)) x2) r
    = bY2 x0 x4 x6 x8 x10 r + at8 x2 r * (kOff x0 x3 x4 x5 x6 x7 x8 x9 x10) := by
  have h := off_y2_at ![(k1_pay18 (kW x0) (k1_pay4 x3) (k1_pay6 x5) (k1_pay8 x7) (k1_pay10 x9)), (k1_pay19 (kH x0) (k1_pay5 x4) (k1_pay7 x6) (k1_pay9 x8) (k1_pay11 x10) (FloatOps.ofBits .f32 3229897545#32) (FloatOps.ofBits .f32 1082413897#32)), (k1_pay20 (kW x0) (k1_pay4 x3) (k1_pay6 x5) (k1_pay8 x7) (k1_pay10 x9)), (k1_pay21 (kH x0) (k1_pay5 x4) (k1_pay7 x6) (k1_pay9 x8) (k1_pay11 x10) (FloatOps.ofBits .f32 3229897545#32) (FloatOps.ofBits .f32 1082413897#32))] x2 ⟨r / 256 % 8, Nat.mod_lt _ (by omega)⟩ ⟨r % 256, Nat.mod_lt _ (by omega)⟩
  exact h.trans (congrArg (fun z : EReal => z + at8 x2 r * (kOff x0 x3 x4 x5 x6 x7 x8 x9 x10)) (dec_y2_at _ _ _ _ _ _ _))

/-- The shifted `x1` column. -/
theorem colm_x1 (k : ℕ) : atC (k1_pay49 (F := Ideal) (kW x0) (kOff x0 x3 x4 x5 x6 x7 x8 x9 x10) (k1_pay29 x12) (k1_pay31 x14) (k1_pay33 x16) (k1_pay35 x18) (k1_pay37 x12 x14) x11) k
    = cLo (kW x0) (kOff x0 x3 x4 x5 x6 x7 x8 x9 x10) x12 x14 x16 x18 x11 k :=
  col_x1_at (kW x0) (kOff x0 x3 x4 x5 x6 x7 x8 x9 x10) x12 x14 x16 x18 x11 ⟨k % 2048, Nat.mod_lt _ (by omega)⟩

/-- The shifted `y1` column. -/
theorem colm_y1 (k : ℕ) : atC (k1_pay50 (F := Ideal) (kOff x0 x3 x4 x5 x6 x7 x8 x9 x10) (k1_pay45 (F := Ideal) (kH x0) (k1_pay30 x13) (k1_pay32 x15) (k1_pay34 x17) (k1_pay36 x19) (k1_pay38 x13 x15) (FloatOps.ofBits .f32 1056964608#32)) (k1_pay48 x11)) k
    = cLo (kH x0) (kOff x0 x3 x4 x5 x6 x7 x8 x9 x10) x13 x15 x17 x19 x11 k :=
  col_y1_at (kH x0) (kOff x0 x3 x4 x5 x6 x7 x8 x9 x10) x13 x15 x17 x19 x11 ⟨k % 2048, Nat.mod_lt _ (by omega)⟩

/-- The shifted `x2` column. -/
theorem colm_x2 (k : ℕ) : atC (k1_pay51 (F := Ideal) (kOff x0 x3 x4 x5 x6 x7 x8 x9 x10) (k1_pay46 (F := Ideal) (kW x0) (k1_pay29 x12) (k1_pay31 x14) (k1_pay33 x16) (k1_pay35 x18) (k1_pay37 x12 x14)) (k1_pay48 x11)) k
    = cHi (kW x0) (kOff x0 x3 x4 x5 x6 x7 x8 x9 x10) x12 x14 x16 x18 x11 k :=
  col_x2_at (kW x0) (kOff x0 x3 x4 x5 x6 x7 x8 x9 x10) x12 x14 x16 x18 x11 ⟨k % 2048, Nat.mod_lt _ (by omega)⟩

/-- The shifted `y2` column. -/
theorem colm_y2 (k : ℕ) : atC (k1_pay52 (F := Ideal) (kOff x0 x3 x4 x5 x6 x7 x8 x9 x10) (k1_pay47 (F := Ideal) (kH x0) (k1_pay30 x13) (k1_pay32 x15) (k1_pay34 x17) (k1_pay36 x19) (k1_pay38 x13 x15) (FloatOps.ofBits .f32 1056964608#32)) (k1_pay48 x11)) k
    = cHi (kH x0) (kOff x0 x3 x4 x5 x6 x7 x8 x9 x10) x13 x15 x17 x19 x11 k :=
  col_y2_at (kH x0) (kOff x0 x3 x4 x5 x6 x7 x8 x9 x10) x13 x15 x17 x19 x11 ⟨k % 2048, Nat.mod_lt _ (by omega)⟩

/-- The unshifted areas, counted along the rows of the array. -/
theorem arr_area (r : ℕ) : at8 (k1_pay28 (F := Ideal) (k1_pay18 (kW x0) (k1_pay4 x3) (k1_pay6 x5) (k1_pay8 x7) (k1_pay10 x9)) (k1_pay19 (kH x0) (k1_pay5 x4) (k1_pay7 x6) (k1_pay9 x8) (k1_pay11 x10) (FloatOps.ofBits .f32 3229897545#32) (FloatOps.ofBits .f32 1082413897#32)) (k1_pay20 (kW x0) (k1_pay4 x3) (k1_pay6 x5) (k1_pay8 x7) (k1_pay10 x9)) (k1_pay21 (kH x0) (k1_pay5 x4) (k1_pay7 x6) (k1_pay9 x8) (k1_pay11 x10) (FloatOps.ofBits .f32 3229897545#32) (FloatOps.ofBits .f32 1082413897#32))) r
    = (bX2 x0 x3 x5 x7 x9 r - bX1 x0 x3 x5 x7 x9 r) * (bY2 x0 x4 x6 x8 x10 r - bY1 x0 x4 x6 x8 x10 r) := by
  unfold at8 bX1 bX2 bY1 bY2 at8
  rw [← dec_x1_at, ← dec_x2_at, ← dec_y1_at, ← dec_y2_at]
  rfl

/-- The overlap the loop computes is the overlap of the region's boxes. -/
theorem regOv_eq : kov (k1_pay24 (F := Ideal) (k1_pay18 (kW x0) (k1_pay4 x3) (k1_pay6 x5) (k1_pay8 x7) (k1_pay10 x9)) (k1_pay19 (kH x0) (k1_pay5 x4) (k1_pay7 x6) (k1_pay9 x8) (k1_pay11 x10) (FloatOps.ofBits .f32 3229897545#32) (FloatOps.ofBits .f32 1082413897#32)) (k1_pay20 (kW x0) (k1_pay4 x3) (k1_pay6 x5) (k1_pay8 x7) (k1_pay10 x9)) (k1_pay21 (kH x0) (k1_pay5 x4) (k1_pay7 x6) (k1_pay9 x8) (k1_pay11 x10) (FloatOps.ofBits .f32 3229897545#32) (FloatOps.ofBits .f32 1082413897#32)) x2) (k1_pay25 (F := Ideal) (k1_pay18 (kW x0) (k1_pay4 x3) (k1_pay6 x5) (k1_pay8 x7) (k1_pay10 x9)) (k1_pay19 (kH x0) (k1_pay5 x4) (k1_pay7 x6) (k1_pay9 x8) (k1_pay11 x10) (FloatOps.ofBits .f32 3229897545#32) (FloatOps.ofBits .f32 1082413897#32)) (k1_pay20 (kW x0) (k1_pay4 x3) (k1_pay6 x5) (k1_pay8 x7) (k1_pay10 x9)) (k1_pay21 (kH x0) (k1_pay5 x4) (k1_pay7 x6) (k1_pay9 x8) (k1_pay11 x10) (FloatOps.ofBits .f32 3229897545#32) (FloatOps.ofBits .f32 1082413897#32)) x2) (k1_pay26 (F := Ideal) (k1_pay18 (kW x0) (k1_pay4 x3) (k1_pay6 x5) (k1_pay8 x7) (k1_pay10 x9)) (k1_pay19 (kH x0) (k1_pay5 x4) (k1_pay7 x6) (k1_pay9 x8) (k1_pay11 x10) (FloatOps.ofBits .f32 3229897545#32) (FloatOps.ofBits .f32 1082413897#32)) (k1_pay20 (kW x0) (k1_pay4 x3) (k1_pay6 x5) (k1_pay8 x7) (k1_pay10 x9)) (k1_pay21 (kH x0) (k1_pay5 x4) (k1_pay7 x6) (k1_pay9 x8) (k1_pay11 x10) (FloatOps.ofBits .f32 3229897545#32) (FloatOps.ofBits .f32 1082413897#32)) x2) (k1_pay27 (F := Ideal) (k1_pay18 (kW x0) (k1_pay4 x3) (k1_pay6 x5) (k1_pay8 x7) (k1_pay10 x9)) (k1_pay19 (kH x0) (k1_pay5 x4) (k1_pay7 x6) (k1_pay9 x8) (k1_pay11 x10) (FloatOps.ofBits .f32 3229897545#32) (FloatOps.ofBits .f32 1082413897#32)) (k1_pay20 (kW x0) (k1_pay4 x3) (k1_pay6 x5) (k1_pay8 x7) (k1_pay10 x9)) (k1_pay21 (kH x0) (k1_pay5 x4) (k1_pay7 x6) (k1_pay9 x8) (k1_pay11 x10) (FloatOps.ofBits .f32 3229897545#32) (FloatOps.ofBits .f32 1082413897#32)) x2) (k1_pay28 (F := Ideal) (k1_pay18 (kW x0) (k1_pay4 x3) (k1_pay6 x5) (k1_pay8 x7) (k1_pay10 x9)) (k1_pay19 (kH x0) (k1_pay5 x4) (k1_pay7 x6) (k1_pay9 x8) (k1_pay11 x10) (FloatOps.ofBits .f32 3229897545#32) (FloatOps.ofBits .f32 1082413897#32)) (k1_pay20 (kW x0) (k1_pay4 x3) (k1_pay6 x5) (k1_pay8 x7) (k1_pay10 x9)) (k1_pay21 (kH x0) (k1_pay5 x4) (k1_pay7 x6) (k1_pay9 x8) (k1_pay11 x10) (FloatOps.ofBits .f32 3229897545#32) (FloatOps.ofBits .f32 1082413897#32)))
    (k1_pay49 (F := Ideal) (kW x0) (kOff x0 x3 x4 x5 x6 x7 x8 x9 x10) (k1_pay29 x12) (k1_pay31 x14) (k1_pay33 x16) (k1_pay35 x18) (k1_pay37 x12 x14) x11) (k1_pay50 (F := Ideal) (kOff x0 x3 x4 x5 x6 x7 x8 x9 x10) (k1_pay45 (F := Ideal) (kH x0) (k1_pay30 x13) (k1_pay32 x15) (k1_pay34 x17) (k1_pay36 x19) (k1_pay38 x13 x15) (FloatOps.ofBits .f32 1056964608#32)) (k1_pay48 x11)) (k1_pay51 (F := Ideal) (kOff x0 x3 x4 x5 x6 x7 x8 x9 x10) (k1_pay46 (F := Ideal) (kW x0) (k1_pay29 x12) (k1_pay31 x14) (k1_pay33 x16) (k1_pay35 x18) (k1_pay37 x12 x14)) (k1_pay48 x11)) (k1_pay52 (F := Ideal) (kOff x0 x3 x4 x5 x6 x7 x8 x9 x10) (k1_pay47 (F := Ideal) (kH x0) (k1_pay30 x13) (k1_pay32 x15) (k1_pay34 x17) (k1_pay36 x19) (k1_pay38 x13 x15) (FloatOps.ofBits .f32 1056964608#32)) (k1_pay48 x11))
    = regOv x0 x2 x3 x4 x5 x6 x7 x8 x9 x10 x11 x12 x13 x14 x15 x16 x17 x18 x19 := by
  funext k r
  unfold kov regOv
  rw [arr_x1, arr_y1, arr_x2, arr_y2, arr_area, colm_x1, colm_y1, colm_x2, colm_y2]

/-- A weight that is one or zero is above one half exactly when it is one. -/
theorem pick_half (K : Prop) [Decidable K] (v a b : EReal) (h : v = if K then 1 else 0) :
    (if half < v then a else b) = if K then a else b := by
  have hh : half = ((1 / 2 : ℝ) : EReal) := by
    simp [half, Ideal.ofBits, Ideal.ieee, -EReal.coe_mul]; norm_num
  have h1 : half < 1 := by rw [hh, ← EReal.coe_one, EReal.coe_lt_coe_iff]; norm_num
  have h0 : ¬ half < 0 := by rw [hh, ← EReal.coe_zero, EReal.coe_lt_coe_iff]; norm_num
  subst h
  by_cases hK : K <;> simp [hK, h1, h0]

open Classical in
/-- The region's output of the scores after suppression. -/
theorem out_score (i : Fin 8) (j : Fin 256) : (out1_A_20 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 x10 x11 x12 x13 x14 x15 x16 x17 x18 x19 (ix2 i j) : EReal)
    = if keep (at8 x1) (regOv x0 x2 x3 x4 x5 x6 x7 x8 x9 x10 x11 x12 x13 x14 x15 x16 x17 x18 x19) 2000 (256 * i.val + j.val)
      then x1 (ix2 i j) else negOne := by
  unfold out1_A_20
  rw [View.read_writes_eq_canon _ _ _ (cover1_A_20 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 x10 x11 x12 x13 x14 x15 x16 x17 x18 x19)]
  unfold kernelRun1_A
  dsimp only
  sl_unfold_words
  rw [View.canon_cons_unit_zero (S := S8x256) hz]
  simp only [View.readAt_eq_ld, Memref.IsWhole.read_unread, View.ld_unit_zero (S := S8x256) hz, View.ld_unit_zero (S := S2048x1) hz, shapeCast_self, pay2_at, pay3_at]
  rw [pay57_at]
  have ht : Scf.trips 0#32 (Scalar.addi 0#32 2000#32) 1#32 = 2000 := by decide +kernel
  have ht' : k1_t1_loop.trips = 2000 := ht
  rw [ht]
  refine pick_half _ _ _ _ ((loop_at c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (at8 x1) (pay55_at x1) 2000 ht'.ge i j).trans ?_)
  simp only [read_store]
  have hov := regOv_eq x0 x2 x3 x4 x5 x6 x7 x8 x9 x10 x11 x12 x13 x14 x15 x16 x17 x18 x19
  unfold kOff at hov
  rw [hov]
end Cert.KernelSide
-- ==== Proof.RegionArr.lean ====
module
public import proofs.«01_k».proof.Proof.RegionOut
public import Idealize.ShloMosaic.Lib.Pipeline.Value
@[expose] public section
set_option maxRecDepth 16384
noncomputable section
/-! # The arrays the two regions leave

Region 0 leaves the masked softmax of the class scores; region 1 the decoded boxes and the scores
after suppression.  Every array is read at one entry. -/

namespace Cert.KernelSide
open Idealize.ShloMosaic Idealize.ShloMosaic.TcCoe Idealize.ShloMosaic.Tactic
open Idealize.ShloMosaic.Pipeline (Dat)
open Cert.KernelIdeal Cert.KernelIdeal.Gen Cert.Spec
-- what the buffers hold when a region is entered
variable (V : (c : Dev nD) → (b : Ref sig .tc) → Buf (Elt Ideal) ((c : Thread nD τ).loc b))

/-- Input 0 of the suppression region is the whole of its array. -/
theorem blk1_0 (c : Dev nD) (t : Fin cfg1.N) : iblk1 V c 0 t = V c main_v38 := by
  unfold iblk1
  exact Memref.read_access_unit_zero _ _ (funext fun a => by fin_cases a <;> rfl) _ _

/-- Input 1 of the suppression region is the whole of its array. -/
theorem blk1_1 (c : Dev nD) (t : Fin cfg1.N) : iblk1 V c 1 t = V c main_v55 := by
  unfold iblk1
  exact Memref.read_access_unit_zero _ _ (funext fun a => by fin_cases a <;> rfl) _ _

/-- Input 2 of the suppression region is the whole of its array. -/
theorem blk1_2 (c : Dev nD) (t : Fin cfg1.N) : iblk1 V c 2 t = V c main_v56 := by
  unfold iblk1
  exact Memref.read_access_unit_zero _ _ (funext fun a => by fin_cases a <;> rfl) _ _

/-- Input 3 of the suppression region is the whole of its array. -/
theorem blk1_3 (c : Dev nD) (t : Fin cfg1.N) : iblk1 V c 3 t = V c main_v57 := by
  unfold iblk1
  exact Memref.read_access_unit_zero _ _ (funext fun a => by fin_cases a <;> rfl) _ _

/-- Input 4 of the suppression region is the whole of its array. -/
theorem blk1_4 (c : Dev nD) (t : Fin cfg1.N) : iblk1 V c 4 t = V c main_v58 := by
  unfold iblk1
  exact Memref.read_access_unit_zero _ _ (funext fun a => by fin_cases a <;> rfl) _ _

/-- Input 5 of the suppression region is the whole of its array. -/
theorem blk1_5 (c : Dev nD) (t : Fin cfg1.N) : iblk1 V c 5 t = V c main_v59 := by
  unfold iblk1
  exact Memref.read_access_unit_zero _ _ (funext fun a => by fin_cases a <;> rfl) _ _

/-- Input 6 of the suppression region is the whole of its array. -/
theorem blk1_6 (c : Dev nD) (t : Fin cfg1.N) : iblk1 V c 6 t = V c main_v60 := by
  unfold iblk1
  exact Memref.read_access_unit_zero _ _ (funext fun a => by fin_cases a <;> rfl) _ _

/-- Input 7 of the suppression region is the whole of its array. -/
theorem blk1_7 (c : Dev nD) (t : Fin cfg1.N) : iblk1 V c 7 t = V c main_v61 := by
  unfold iblk1
  exact Memref.read_access_unit_zero _ _ (funext fun a => by fin_cases a <;> rfl) _ _

/-- Input 8 of the suppression region is the whole of its array. -/
theorem blk1_8 (c : Dev nD) (t : Fin cfg1.N) : iblk1 V c 8 t = V c main_v62 := by
  unfold iblk1
  exact Memref.read_access_unit_zero _ _ (funext fun a => by fin_cases a <;> rfl) _ _

/-- Input 9 of the suppression region is the whole of its array. -/
theorem blk1_9 (c : Dev nD) (t : Fin cfg1.N) : iblk1 V c 9 t = V c main_v63 := by
  unfold iblk1
  exact Memref.read_access_unit_zero _ _ (funext fun a => by fin_cases a <;> rfl) _ _

/-- Input 10 of the suppression region is the whole of its array. -/
theorem blk1_10 (c : Dev nD) (t : Fin cfg1.N) : iblk1 V c 10 t = V c main_v64 := by
  unfold iblk1
  exact Memref.read_access_unit_zero _ _ (funext fun a => by fin_cases a <;> rfl) _ _

/-- Input 11 of the suppression region is the whole of its array. -/
theorem blk1_11 (c : Dev nD) (t : Fin cfg1.N) : iblk1 V c 11 t = V c main_v65 := by
  unfold iblk1
  exact Memref.read_access_unit_zero _ _ (funext fun a => by fin_cases a <;> rfl) _ _

/-- Input 12 of the suppression region is the whole of its array. -/
theorem blk1_12 (c : Dev nD) (t : Fin cfg1.N) : iblk1 V c 12 t = V c main_v66 := by
  unfold iblk1
  exact Memref.read_access_unit_zero _ _ (funext fun a => by fin_cases a <;> rfl) _ _

/-- Input 13 of the suppression region is the whole of its array. -/
theorem blk1_13 (c : Dev nD) (t : Fin cfg1.N) : iblk1 V c 13 t = V c main_v67 := by
  unfold iblk1
  exact Memref.read_access_unit_zero _ _ (funext fun a => by fin_cases a <;> rfl) _ _

/-- Input 14 of the suppression region is the whole of its array. -/
theorem blk1_14 (c : Dev nD) (t : Fin cfg1.N) : iblk1 V c 14 t = V c main_v68 := by
  unfold iblk1
  exact Memref.read_access_unit_zero _ _ (funext fun a => by fin_cases a <;> rfl) _ _

/-- Input 15 of the suppression region is the whole of its array. -/
theorem blk1_15 (c : Dev nD) (t : Fin cfg1.N) : iblk1 V c 15 t = V c main_v69 := by
  unfold iblk1
  exact Memref.read_access_unit_zero _ _ (funext fun a => by fin_cases a <;> rfl) _ _

/-- Input 16 of the suppression region is the whole of its array. -/
theorem blk1_16 (c : Dev nD) (t : Fin cfg1.N) : iblk1 V c 16 t = V c main_v70 := by
  unfold iblk1
  exact Memref.read_access_unit_zero _ _ (funext fun a => by fin_cases a <;> rfl) _ _

/-- Input 17 of the suppression region is the whole of its array. -/
theorem blk1_17 (c : Dev nD) (t : Fin cfg1.N) : iblk1 V c 17 t = V c main_v71 := by
  unfold iblk1
  exact Memref.read_access_unit_zero _ _ (funext fun a => by fin_cases a <;> rfl) _ _

/-- Input 18 of the suppression region is the whole of its array. -/
theorem blk1_18 (c : Dev nD) (t : Fin cfg1.N) : iblk1 V c 18 t = V c main_v72 := by
  unfold iblk1
  exact Memref.read_access_unit_zero _ _ (funext fun a => by fin_cases a <;> rfl) _ _

/-- Input 19 of the suppression region is the whole of its array. -/
theorem blk1_19 (c : Dev nD) (t : Fin cfg1.N) : iblk1 V c 19 t = V c main_v73 := by
  unfold iblk1
  exact Memref.read_access_unit_zero _ _ (funext fun a => by fin_cases a <;> rfl) _ _

/-- Output 0 of the suppression region ends as the region's one point leaves it. -/
theorem fin1_20 (c : Dev nD) : (dat1 V c).arrAt 20 cfg1.N = (outsAt1 V c t1_0).1 := by
  refine (dat1 V c).arrAt_eq_of_cover 20 _ (fun t _ => ?_) ?_
  · obtain rfl := fin_N1 t
    show (cfg1.win 20).cut (grid1.coords t1_0) ((dat1 V c).after 20 t1_0) = _
    rw [after1_20]
    exact (Memref.read_access_unit_zero (Elt Ideal) main_v74_0 (funext fun a => by fin_cases a <;> rfl) _ _).symm
  · intro i
    refine ⟨t1_0, flush1_20 _, ?_⟩
    show i ∈ ((View.whole main_v74_0).slice (win1_20.rect t1_0)).set
    rw [View.set_slice_whole, Rect.mem_set_unit]
    intro a
    have := (i a).isLt
    fin_cases a
    · exact ⟨Nat.zero_le _, this⟩
    · exact ⟨Nat.zero_le _, this⟩

/-- Output 1 of the suppression region ends as the region's one point leaves it. -/
theorem fin1_21 (c : Dev nD) : (dat1 V c).arrAt 21 cfg1.N = (outsAt1 V c t1_0).2.1 := by
  refine (dat1 V c).arrAt_eq_of_cover 21 _ (fun t _ => ?_) ?_
  · obtain rfl := fin_N1 t
    show (cfg1.win 21).cut (grid1.coords t1_0) ((dat1 V c).after 21 t1_0) = _
    rw [after1_21]
    exact (Memref.read_access_unit_zero (Elt Ideal) main_v74_1 (funext fun a => by fin_cases a <;> rfl) _ _).symm
  · intro i
    refine ⟨t1_0, flush1_21 _, ?_⟩
    show i ∈ ((View.whole main_v74_1).slice (win1_21.rect t1_0)).set
    rw [View.set_slice_whole, Rect.mem_set_unit]
    intro a
    have := (i a).isLt
    fin_cases a
    · exact ⟨Nat.zero_le _, this⟩
    · exact ⟨Nat.zero_le _, this⟩

/-- Output 2 of the suppression region ends as the region's one point leaves it. -/
theorem fin1_22 (c : Dev nD) : (dat1 V c).arrAt 22 cfg1.N = (outsAt1 V c t1_0).2.2.1 := by
  refine (dat1 V c).arrAt_eq_of_cover 22 _ (fun t _ => ?_) ?_
  · obtain rfl := fin_N1 t
    show (cfg1.win 22).cut (grid1.coords t1_0) ((dat1 V c).after 22 t1_0) = _
    rw [after1_22]
    exact (Memref.read_access_unit_zero (Elt Ideal) main_v74_2 (funext fun a => by fin_cases a <;> rfl) _ _).symm
  · intro i
    refine ⟨t1_0, flush1_22 _, ?_⟩
    show i ∈ ((View.whole main_v74_2).slice (win1_22.rect t1_0)).set
    rw [View.set_slice_whole, Rect.mem_set_unit]
    intro a
    have := (i a).isLt
    fin_cases a
    · exact ⟨Nat.zero_le _, this⟩
    · exact ⟨Nat.zero_le _, this⟩

/-- Output 3 of the suppression region ends as the region's one point leaves it. -/
theorem fin1_23 (c : Dev nD) : (dat1 V c).arrAt 23 cfg1.N = (outsAt1 V c t1_0).2.2.2.1 := by
  refine (dat1 V c).arrAt_eq_of_cover 23 _ (fun t _ => ?_) ?_
  · obtain rfl := fin_N1 t
    show (cfg1.win 23).cut (grid1.coords t1_0) ((dat1 V c).after 23 t1_0) = _
    rw [after1_23]
    exact (Memref.read_access_unit_zero (Elt Ideal) main_v74_3 (funext fun a => by fin_cases a <;> rfl) _ _).symm
  · intro i
    refine ⟨t1_0, flush1_23 _, ?_⟩
    show i ∈ ((View.whole main_v74_3).slice (win1_23.rect t1_0)).set
    rw [View.set_slice_whole, Rect.mem_set_unit]
    intro a
    have := (i a).isLt
    fin_cases a
    · exact ⟨Nat.zero_le _, this⟩
    · exact ⟨Nat.zero_le _, this⟩

/-- Output 4 of the suppression region ends as the region's one point leaves it. -/
theorem fin1_24 (c : Dev nD) : (dat1 V c).arrAt 24 cfg1.N = (outsAt1 V c t1_0).2.2.2.2 := by
  refine (dat1 V c).arrAt_eq_of_cover 24 _ (fun t _ => ?_) ?_
  · obtain rfl := fin_N1 t
    show (cfg1.win 24).cut (grid1.coords t1_0) ((dat1 V c).after 24 t1_0) = _
    rw [after1_24]
    exact (Memref.read_access_unit_zero (Elt Ideal) main_v74_4 (funext fun a => by fin_cases a <;> rfl) _ _).symm
  · intro i
    refine ⟨t1_0, flush1_24 _, ?_⟩
    show i ∈ ((View.whole main_v74_4).slice (win1_24.rect t1_0)).set
    rw [View.set_slice_whole, Rect.mem_set_unit]
    intro a
    have := (i a).isLt
    fin_cases a
    · exact ⟨Nat.zero_le _, this⟩
    · exact ⟨Nat.zero_le _, this⟩

/-- The array of decoded `x1` the region leaves. -/
theorem arr1_x1 (c : Dev nD) (i : Fin 8) (j : Fin 256) : ((dat1 V c).arrAt 21 cfg1.N (ix2 i j) : EReal)
    = decLo (kW (V c main_v38)) (V c main_v57 (ix2 i j)) (V c main_v59 (ix2 i j)) (V c main_v61 (ix2 i j)) (V c main_v63 (ix2 i j)) := by
  rw [fin1_21]
  unfold outsAt1
  dsimp only
  refine (out_x1 ..).trans ?_
  simp only [blk1_0, blk1_1, blk1_2, blk1_3, blk1_4, blk1_5, blk1_6, blk1_7, blk1_8, blk1_9, blk1_10, blk1_11, blk1_12, blk1_13, blk1_14, blk1_15, blk1_16, blk1_17, blk1_18, blk1_19]

/-- The array of decoded `y1` the region leaves. -/
theorem arr1_y1 (c : Dev nD) (i : Fin 8) (j : Fin 256) : ((dat1 V c).arrAt 22 cfg1.N (ix2 i j) : EReal)
    = decLo (kH (V c main_v38)) (V c main_v58 (ix2 i j)) (V c main_v60 (ix2 i j)) (V c main_v62 (ix2 i j)) (V c main_v64 (ix2 i j)) := by
  rw [fin1_22]
  unfold outsAt1
  dsimp only
  refine (out_y1 ..).trans ?_
  simp only [blk1_0, blk1_1, blk1_2, blk1_3, blk1_4, blk1_5, blk1_6, blk1_7, blk1_8, blk1_9, blk1_10, blk1_11, blk1_12, blk1_13, blk1_14, blk1_15, blk1_16, blk1_17, blk1_18, blk1_19]

/-- The array of decoded `x2` the region leaves. -/
theorem arr1_x2 (c : Dev nD) (i : Fin 8) (j : Fin 256) : ((dat1 V c).arrAt 23 cfg1.N (ix2 i j) : EReal)
    = decHi (kW (V c main_v38)) (V c main_v57 (ix2 i j)) (V c main_v59 (ix2 i j)) (V c main_v61 (ix2 i j)) (V c main_v63 (ix2 i j)) := by
  rw [fin1_23]
  unfold outsAt1
  dsimp only
  refine (out_x2 ..).trans ?_
  simp only [blk1_0, blk1_1, blk1_2, blk1_3, blk1_4, blk1_5, blk1_6, blk1_7, blk1_8, blk1_9, blk1_10, blk1_11, blk1_12, blk1_13, blk1_14, blk1_15, blk1_16, blk1_17, blk1_18, blk1_19]

/-- The array of decoded `y2` the region leaves. -/
theorem arr1_y2 (c : Dev nD) (i : Fin 8) (j : Fin 256) : ((dat1 V c).arrAt 24 cfg1.N (ix2 i j) : EReal)
    = decHi (kH (V c main_v38)) (V c main_v58 (ix2 i j)) (V c main_v60 (ix2 i j)) (V c main_v62 (ix2 i j)) (V c main_v64 (ix2 i j)) := by
  rw [fin1_24]
  unfold outsAt1
  dsimp only
  refine (out_y2 ..).trans ?_
  simp only [blk1_0, blk1_1, blk1_2, blk1_3, blk1_4, blk1_5, blk1_6, blk1_7, blk1_8, blk1_9, blk1_10, blk1_11, blk1_12, blk1_13, blk1_14, blk1_15, blk1_16, blk1_17, blk1_18, blk1_19]

open Classical in
/-- The array of scores after suppression the region leaves. -/
theorem arr1_score (c : Dev nD) (i : Fin 8) (j : Fin 256) : ((dat1 V c).arrAt 20 cfg1.N (ix2 i j) : EReal)
    = if keep (at8 (V c main_v55)) (regOv (V c main_v38) (V c main_v56) (V c main_v57) (V c main_v58) (V c main_v59) (V c main_v60) (V c main_v61) (V c main_v62) (V c main_v63) (V c main_v64) (V c main_v65) (V c main_v66) (V c main_v67) (V c main_v68) (V c main_v69) (V c main_v70) (V c main_v71) (V c main_v72) (V c main_v73)) 2000 (256 * i.val + j.val)
      then V c main_v55 (ix2 i j) else negOne := by
  rw [fin1_20]
  unfold outsAt1
  dsimp only
  refine (out_score ..).trans ?_
  simp only [blk1_0, blk1_1, blk1_2, blk1_3, blk1_4, blk1_5, blk1_6, blk1_7, blk1_8, blk1_9, blk1_10, blk1_11, blk1_12, blk1_13, blk1_14, blk1_15, blk1_16, blk1_17, blk1_18, blk1_19]

/-- One entry of the softmax region's block, from the block of class scores it is given. -/
theorem pay0_at (x : Vec Ideal S2000x81 .f32) (i : Fin 2000) (j : Fin 80) :
    (k0_pay1 (F := Ideal) x (ix2 i j) : EReal) = mask (soft (fun k => x (ix2 i k)) j) := by
  unfold mask soft thr negOne
  pointwise [k0_pay1]

/-- The array the softmax region is shown to leave. -/
def masked (c : Dev nD) : Vec Ideal S20000x80 .f32 :=
  fun p => mask (soft (fun k => V c main_arg0 (ix2 (p 0) k)) (p 1))

/-- Point `t`'s blocks start at row `t * 2000` and at the first column. -/
theorem index0 : ∀ t : Fin cfg0.N,
    win0_1.index t 0 = t.val ∧ win0_1.index t 1 = 0 ∧ win0_0.index t 0 = t.val ∧ win0_0.index t 1 = 0 := by
  decide +kernel

/-- What point `t` of the softmax region writes back is its block of the whole array. -/
theorem flushed0 (c : Dev nD) (t : Fin cfg0.N) :
    (dat0 V c).flushed 1 t = (win0_1.blk t).view.read (Elt Ideal) (masked V c) := by
  show (cfg0.win 1).cut (grid0.coords t) ((dat0 V c).after 1 t) = _
  rw [after0_1]
  unfold out0_1
  rw [View.canon_unit_zero hz, View.ld_unit_zero hz]
  funext y
  idx_vars y
  refine (pay0_at _ _ _).trans ?_
  obtain ⟨e0, e1, f0, f1⟩ := index0 t
  have hk (k : Fin 81) : iblk0 V c 0 t (ix2 y0 k)
      = V c main_arg0 (ix2 (((cfg0.win 1).rect t).emb (ix2 y0 y1) 0) k) := by
    refine congrArg (V c main_arg0) (funext fun a => Fin.ext ?_)
    match a with
    | ⟨0, _⟩ =>
      show win0_0.index t 0 * 2000 + 1 * y0.val = win0_1.index t 0 * 2000 + 1 * y0.val
      rw [e0, f0]
    | ⟨1, _⟩ =>
      show win0_0.index t 1 * 81 + 1 * k.val = k.val
      rw [f1]; omega
  have hj : (((cfg0.win 1).rect t).emb (ix2 y0 y1) 1 : Fin 80) = y1 := by
    refine Fin.ext ?_
    show win0_1.index t 1 * 80 + 1 * y1.val = y1.val
    rw [e1]; omega
  simp only [hk]
  show _ = masked V c (((cfg0.win 1).rect t).emb (ix2 y0 y1))
  unfold masked
  rw [hj]

/-- Every entry of the array is in some point's block. -/
theorem cover0 (i : S20000x80.Idx) :
    ∃ t : Fin cfg0.N, (cfg0.win 1).flush t = true ∧ i ∈ ((cfg0.win 1).blk t).view.set := by
  have hi : (i 0 : Nat) < 20000 := (i 0).isLt
  have hj : (i 1 : Nat) < 80 := (i 1).isLt
  have ht : (i 0 : Nat) / 2000 < cfg0.N := by rw [show cfg0.N = 10 from N_0]; omega
  refine ⟨⟨(i 0 : Nat) / 2000, ht⟩, flush0_1 _, ?_⟩
  show i ∈ ((View.whole main_v6).slice (win0_1.rect ⟨(i 0 : Nat) / 2000, ht⟩)).set
  rw [View.set_slice_whole, Rect.mem_set_unit]
  obtain ⟨e0, e1, -, -⟩ := index0 ⟨(i 0 : Nat) / 2000, ht⟩
  intro a
  match a with
  | ⟨0, _⟩ =>
    show win0_1.index ⟨(i 0 : Nat) / 2000, ht⟩ 0 * 2000 ≤ (i 0 : Nat) ∧ (i 0 : Nat) < win0_1.index ⟨(i 0 : Nat) / 2000, ht⟩ 0 * 2000 + 2000
    rw [e0]
    dsimp only
    omega
  | ⟨1, _⟩ =>
    show win0_1.index ⟨(i 0 : Nat) / 2000, ht⟩ 1 * 80 ≤ (i 1 : Nat) ∧ (i 1 : Nat) < win0_1.index ⟨(i 0 : Nat) / 2000, ht⟩ 1 * 80 + 80
    rw [e1]
    omega

/-- The softmax region leaves the masked softmax of the class scores. -/
theorem arr0 (c : Dev nD) : (dat0 V c).arrAt 1 cfg0.N = masked V c :=
  (dat0 V c).arrAt_eq_of_cover 1 (masked V c) (fun t _ => flushed0 V c t) cover0

end Cert.KernelSide
-- ==== Proof.Rows.lean ====
/- Facts of the host operations that both programs use, stated for any extents: the positions a top-k returns, a
   gather of rows, a scatter of one element, and the division of a small word by 80. -/
module

public import Idealize.ShloMosaic.Lib.Pointwise
public import Idealize.ShloMosaic.Lib.ValueIdx

@[expose] public section

set_option maxRecDepth 16384

noncomputable section

namespace Cert.Spec

open Idealize.ShloMosaic

/-- Every position that a top-k of a flat array returns is the word of a number below the array's extent. -/
theorem topK_word {N K : ℕ} {α : Type} (gt : α → α → BitVec 1) (x : (⟨1, ![N]⟩ : Shape).Idx → α)
    (h : (⟨1, ![N]⟩ : Shape).Slices (fun _ => 0) ⟨1, ![K]⟩) (j : (⟨1, ![K]⟩ : Shape).Idx) :
    ∃ k < N, (Host.topK ⟨1, ![K]⟩ 0 gt x h).2 j = BitVec.ofNat 32 k := by
  unfold Host.topK Host.sort2
  simp only [show (0 : ℕ) < (⟨1, ![N]⟩ : Shape).rank from Nat.one_pos, dite_true, extractStridedSlice, iotaInDim]
  exact ⟨_, Fin.isLt _, rfl⟩

section Rows
variable {α : Type}

/-- The dimension numbers of a gather of whole rows. -/
abbrev rowsDims (N C B : ℕ) (wf : GatherDims.WF ⟨2, ![N, C]⟩ ⟨2, ![B, 1]⟩ ⟨2, ![B, C]⟩ [1] [0] [] [0] [] 1 ![1, C]) :
    GatherDims ⟨2, ![N, C]⟩ ⟨2, ![B, 1]⟩ ⟨2, ![B, C]⟩ where
  offsetDims := [1]
  collapsedSliceDims := [0]
  operandBatchingDims := []
  startIndicesBatchingDims := []
  startIndexMap := [0]
  indexVectorDim := 1
  sliceSizes := ![1, C]
  wf := wf

/-- A gather of rows reads, at row `b` and column `j`, the row that start index `b` names, clamped into the
    operand, at column `j`. -/
theorem gather_rows {N C B w : ℕ} (hN : 0 < N)
    (wf : GatherDims.WF ⟨2, ![N, C]⟩ ⟨2, ![B, 1]⟩ ⟨2, ![B, C]⟩ [1] [0] [] [0] [] 1 ![1, C])
    (x : (⟨2, ![N, C]⟩ : Shape).Idx → α) (idx : IVec ⟨2, ![B, 1]⟩ w) (b : Fin B) (j : Fin C) :
    Host.gather (rowsDims N C B wf) x idx (ix2 b j)
      = x (ix2 ⟨min (idx (ix2 b 0)).toInt.toNat (N - 1), by omega⟩ j) := by
  unfold Host.gather
  congr 1
  funext a
  refine Fin.ext ?_
  show (rowsDims N C B wf).start (ix2 b j) idx a + (rowsDims N C B wf).batchCoord (ix2 b j) a
      + (rowsDims N C B wf).offCoord (ix2 b j) a = _
  have h01 : a = 0 ∨ a = 1 := by
    match a with
    | ⟨0, _⟩ => exact Or.inl rfl
    | ⟨1, _⟩ => exact Or.inr rfl
  rcases h01 with rfl | rfl
  · rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N C B wf).startIndexMap from List.mem_singleton.mpr rfl)]
    have hsi : (rowsDims N C B wf).siIdx (ix2 b j) ⟨List.idxOf (0 : Fin 2) (rowsDims N C B wf).startIndexMap,
        List.idxOf_lt_length_iff.2 (List.mem_singleton.mpr rfl)⟩ = ix2 b 0 := by
      funext c; refine Fin.ext ?_
      match c with
      | ⟨0, _⟩ => rfl
      | ⟨1, _⟩ => rfl
    rw [hsi]
    rfl
  · rw [GatherDims.batchCoord_eq_zero _ _ _ List.not_mem_nil]
    have hs : (rowsDims N C B wf).start (ix2 b j) idx 1 = 0 := by
      unfold GatherDims.start
      rw [dif_neg (show ¬ (1 : Fin 2) ∈ (rowsDims N C B wf).startIndexMap by
        intro h; exact absurd (List.mem_singleton.mp h) Fin.zero_ne_one.symm)]
    rw [hs]
    simp only [Nat.zero_add]
    unfold GatherDims.offCoord
    rw [dif_pos ((GatherDims.mem_sKept _ _).mpr
      ⟨fun h => absurd (List.mem_singleton.mp h) Fin.zero_ne_one.symm, List.not_mem_nil⟩)]
    rfl

/-- The dimension numbers of a gather of single elements of a flat array. -/
abbrev flatDims (N B : ℕ) (wf : GatherDims.WF ⟨1, ![N]⟩ ⟨2, ![B, 1]⟩ ⟨1, ![B]⟩ [] [0] [] [0] [] 1 ![1]) :
    GatherDims ⟨1, ![N]⟩ ⟨2, ![B, 1]⟩ ⟨1, ![B]⟩ where
  offsetDims := []
  collapsedSliceDims := [0]
  operandBatchingDims := []
  startIndicesBatchingDims := []
  startIndexMap := [0]
  indexVectorDim := 1
  sliceSizes := ![1]
  wf := wf

/-- A gather of single elements reads, at `b`, the element that start index `b` names, clamped into the operand. -/
theorem gather_flat {N B w : ℕ} (hN : 0 < N)
    (wf : GatherDims.WF ⟨1, ![N]⟩ ⟨2, ![B, 1]⟩ ⟨1, ![B]⟩ [] [0] [] [0] [] 1 ![1])
    (x : (⟨1, ![N]⟩ : Shape).Idx → α) (idx : IVec ⟨2, ![B, 1]⟩ w) (b : Fin B) :
    Host.gather (flatDims N B wf) x idx (ix1 b) = x (ix1 ⟨min (idx (ix2 b 0)).toInt.toNat (N - 1), by omega⟩) := by
  unfold Host.gather
  congr 1
  funext a
  obtain rfl : a = 0 := Subsingleton.elim _ _
  refine Fin.ext ?_
  show (flatDims N B wf).start (ix1 b) idx 0 + (flatDims N B wf).batchCoord (ix1 b) 0
      + (flatDims N B wf).offCoord (ix1 b) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (flatDims N B wf).startIndexMap from List.mem_singleton.mpr rfl)]
  have hsi : (flatDims N B wf).siIdx (ix1 b) ⟨List.idxOf (0 : Fin 1) (flatDims N B wf).startIndexMap,
      List.idxOf_lt_length_iff.2 (List.mem_singleton.mpr rfl)⟩ = ix2 b 0 := by
    funext c; refine Fin.ext ?_
    match c with
    | ⟨0, _⟩ => rfl
    | ⟨1, _⟩ => rfl
  rw [hsi]
  rfl

end Rows

/-- The word of a number below `2 ^ 31`, read signed, is the number. -/
theorem word_toInt (k : ℕ) (h : k < 2 ^ 31) : (BitVec.ofNat 32 k).toInt = (k : ℤ) := by
  rw [BitVec.toInt_eq_toNat_cond, BitVec.toNat_ofNat, Nat.mod_eq_of_lt (by omega), if_pos (by omega)]

/-- The word of a number below `2 ^ 31`, read signed and clamped to a bound it is under, is the number. -/
theorem word_clamp (k n : ℕ) (h : k < 2 ^ 31) (hk : k ≤ n) : min (BitVec.ofNat 32 k).toInt.toNat n = k := by
  rw [word_toInt k h]; omega

/-- A small word is not below zero, so wrapping a negative one leaves it as it is. -/
theorem wrap_word (k : ℕ) (h : k < 2 ^ 31) (y : BitVec 32) :
    Scalar.select (IntOp.cmpi .slt (BitVec.ofNat 32 k) 0#32) y (BitVec.ofNat 32 k) = BitVec.ofNat 32 k := by
  have : IntOp.cmpi .slt (BitVec.ofNat 32 k) 0#32 = 0#1 := by
    unfold IntOp.cmpi
    have h0 : ¬ (BitVec.ofNat 32 k).slt 0#32 = true := by
      rw [BitVec.slt_iff_toInt_lt, word_toInt k h]; simp
    simp [h0]
  rw [this]; rfl

/-- No small word makes the quotient by 80 a corner case. -/
theorem not_corner (k : ℕ) : ¬ IntOp.SDivCorner (BitVec.ofNat 32 k) 80#32 := by
  intro h
  rcases h with h | ⟨_, h⟩
  · exact absurd h (by decide)
  · exact absurd h (by decide)

/-- The quotient of a small word by 80. -/
theorem div80 (u : ArithUnit) (k : ℕ) (h : k < 2 ^ 31) :
    IntOp.divsi u (BitVec.ofNat 32 k) 80#32 = BitVec.ofNat 32 (k / 80) := by
  unfold IntOp.divsi
  rw [if_neg (not_corner k), BitVec.sdiv_eq]
  have hm : (BitVec.ofNat 32 k).msb = false := by
    rw [BitVec.msb_eq_false_iff_two_mul_lt, BitVec.toNat_ofNat]; omega
  rw [hm, show (80#32).msb = false by decide]
  apply BitVec.eq_of_toNat_eq
  simp only [BitVec.udiv_eq, BitVec.toNat_udiv, BitVec.toNat_ofNat]
  rw [Nat.mod_eq_of_lt (show k < 2 ^ 32 by omega), Nat.mod_eq_of_lt (show 80 < 2 ^ 32 by norm_num),
    Nat.mod_eq_of_lt (show _ < 2 ^ 32 by omega)]

/-- The remainder of a small word by 80. -/
theorem rem80 (u : ArithUnit) (k : ℕ) (h : k < 2 ^ 31) :
    IntOp.remsi u (BitVec.ofNat 32 k) 80#32 = BitVec.ofNat 32 (k % 80) := by
  unfold IntOp.remsi
  rw [if_neg (not_corner k), BitVec.srem_eq]
  have hm : (BitVec.ofNat 32 k).msb = false := by
    rw [BitVec.msb_eq_false_iff_two_mul_lt, BitVec.toNat_ofNat]; omega
  rw [hm, show (80#32).msb = false by decide]
  apply BitVec.eq_of_toNat_eq
  simp only [BitVec.umod_eq, BitVec.toNat_umod, BitVec.toNat_ofNat]
  rw [Nat.mod_eq_of_lt (show k < 2 ^ 32 by omega), Nat.mod_eq_of_lt (show 80 < 2 ^ 32 by norm_num),
    Nat.mod_eq_of_lt (show _ < 2 ^ 32 by omega)]

/-- The printed floor division of a small word by 80: the correction for signs that differ never applies. -/
theorem floor_word (k : ℕ) (h : k < 2 ^ 31) :
    Scalar.select
      (IntOp.andi
        (IntOp.cmpi .ne (if BitVec.ofNat 32 k = 0 then 0 else if (BitVec.ofNat 32 k).msb = true then -1 else 1)
          (if 80#32 = 0 then 0 else if (80#32).msb = true then -1 else (1 : BitVec 32)))
        (IntOp.cmpi .ne (IntOp.remsi ArithUnit.host (BitVec.ofNat 32 k) 80#32) 0#32))
      (IntOp.subi (IntOp.divsi ArithUnit.host (BitVec.ofNat 32 k) 80#32) 1#32)
      (IntOp.divsi ArithUnit.host (BitVec.ofNat 32 k) 80#32) = BitVec.ofNat 32 (k / 80) := by
  rw [rem80 _ k h, div80 _ k h]
  have hm : (BitVec.ofNat 32 k).msb = false := by
    rw [BitVec.msb_eq_false_iff_two_mul_lt, BitVec.toNat_ofNat]; omega
  rw [hm]
  by_cases h0 : k = 0
  · subst h0; decide
  · have hn : ¬ BitVec.ofNat 32 k = 0 := by
      intro e
      have := congrArg BitVec.toNat e
      rw [BitVec.toNat_ofNat, Nat.mod_eq_of_lt (by omega)] at this
      exact h0 (by simpa using this)
    rw [if_neg hn]
    have e : IntOp.cmpi .ne (if false = true then -1 else (1 : BitVec 32))
        (if 80#32 = 0 then 0 else if (80#32).msb = true then -1 else (1 : BitVec 32)) = 0#1 := by decide
    rw [e]
    have z : ∀ b : BitVec 1, IntOp.andi 0#1 b = 0#1 := by decide
    rw [z]; rfl

/-- The printed remainder of a small word by 80: the correction for signs that differ never applies. -/
theorem mod_word (k : ℕ) (h : k < 2 ^ 31) :
    Scalar.select
      (IntOp.andi
        (IntOp.cmpi .ne
          (IntOp.cmpi .slt
            (IntOp.remsi ArithUnit.host (BitVec.ofNat 32 k) (Scalar.select (IntOp.cmpi .eq 80#32 0#32) 1#32 80#32)) 0#32)
          (IntOp.cmpi .slt (Scalar.select (IntOp.cmpi .eq 80#32 0#32) 1#32 80#32) 0#32))
        (IntOp.cmpi .ne
          (IntOp.remsi ArithUnit.host (BitVec.ofNat 32 k) (Scalar.select (IntOp.cmpi .eq 80#32 0#32) 1#32 80#32)) 0#32))
      (IntOp.addi
        (IntOp.remsi ArithUnit.host (BitVec.ofNat 32 k) (Scalar.select (IntOp.cmpi .eq 80#32 0#32) 1#32 80#32))
        (Scalar.select (IntOp.cmpi .eq 80#32 0#32) 1#32 80#32))
      (IntOp.remsi ArithUnit.host (BitVec.ofNat 32 k) (Scalar.select (IntOp.cmpi .eq 80#32 0#32) 1#32 80#32))
    = BitVec.ofNat 32 (k % 80) := by
  have e : Scalar.select (IntOp.cmpi .eq 80#32 0#32) 1#32 80#32 = 80#32 := by decide
  rw [e, rem80 _ k h]
  have hs : IntOp.cmpi .slt (BitVec.ofNat 32 (k % 80)) 0#32 = 0#1 := by
    unfold IntOp.cmpi
    have h0 : ¬ (BitVec.ofNat 32 (k % 80)).slt 0#32 = true := by
      rw [BitVec.slt_iff_toInt_lt, word_toInt _ (by omega)]; simp; omega
    simp [h0]
  rw [hs, show IntOp.cmpi .ne 0#1 (IntOp.cmpi .slt 80#32 0#32) = 0#1 by decide]
  have z : ∀ b : BitVec 1, IntOp.andi 0#1 b = 0#1 := by decide
  rw [z]; rfl

end Cert.Spec
-- ==== Proof.HostWords.lean ====
/- The kernel's host stretches between its two regions, read at an index: which class and which row of the inputs
   each of the 2000 best scores belongs to. -/
module

public import proofs.«01_k».proof.Proof.RegionArr
public import proofs.«01_k».proof.Proof.Rows
public import Idealize.ShloMosaic.Lib.StableHlo.RunRead

@[expose] public section

set_option maxRecDepth 16384

noncomputable section

namespace Cert.KernelSide

open Idealize.ShloMosaic Idealize.ShloMosaic.TcCoe Idealize.ShloMosaic.StableHlo
open Cert.KernelIdeal Cert.KernelIdeal.Gen Cert.Spec

variable (U : Valuation τ sig (Elt Ideal))

/-- The row of a score: the position's word divided by 80, as the printed floor division leaves it. -/
theorem row_at (hc : U (Proc.devRef .tc main_c) = constantI S_ 32 80#32) (s : Fin 2000) (k : ℕ) (hk : k < 1600000)
    (hI : U (Proc.devRef .tc main_indices) (ix1 s) = BitVec.ofNat 32 k) :
    @Eq (BitVec 32) (after hostOps1_1 U (Proc.devRef .tc main_v8) (ix1 s)) (BitVec.ofNat 32 (k / 80)) := by
  have h : after hostOps1_1 U (Proc.devRef .tc main_v8) = (select (andi ((cmpi .ne) (signi (U (Proc.devRef .tc main_indices) : IVec S2000 32)) ((broadcastInDim S2000 ![] bcast_S_S2000) (signi (U (Proc.devRef .tc main_c) : IVec S_ 32)))) ((cmpi .ne) (Host.remsi (U (Proc.devRef .tc main_indices) : IVec S2000 32) ((broadcastInDim S2000 ![] bcast_S_S2000) (U (Proc.devRef .tc main_c) : IVec S_ 32))) ((broadcastInDim S2000 ![] bcast_S_S2000) ((constantI S_ 32 0#32))))) (subi (Host.divsi (U (Proc.devRef .tc main_indices) : IVec S2000 32) ((broadcastInDim S2000 ![] bcast_S_S2000) (U (Proc.devRef .tc main_c) : IVec S_ 32))) ((broadcastInDim S2000 ![] bcast_S_S2000) ((constantI S_ 32 1#32)))) (Host.divsi (U (Proc.devRef .tc main_indices) : IVec S2000 32) ((broadcastInDim S2000 ![] bcast_S_S2000) (U (Proc.devRef .tc main_c) : IVec S_ 32)))) := by
    after_reads_simp
    simp only [TRef.ofBuf_toBuf]
    rfl
  rw [h, hc]
  pointwise
  rw [hI]
  exact floor_word k (by omega)

/-- The class of a score: the position's word modulo 80, as the printed remainder leaves it. -/
theorem class_at (hc : U (Proc.devRef .tc main_c_0) = constantI S_ 32 80#32) (s : Fin 2000) (k : ℕ) (hk : k < 1600000)
    (hI : U (Proc.devRef .tc main_indices) (ix1 s) = BitVec.ofNat 32 k) :
    @Eq (BitVec 32) (after hostOps1_3 U (Proc.devRef .tc main_v9) (ix1 s)) (BitVec.ofNat 32 (k % 80)) := by
  have h : after hostOps1_3 U (Proc.devRef .tc main_v9) = (select (andi ((cmpi .ne) ((cmpi .slt) (Host.remsi (U (Proc.devRef .tc main_indices) : IVec S2000 32) ((broadcastInDim S2000 ![] bcast_S_S2000) (select ((cmpi .eq) (U (Proc.devRef .tc main_c_0) : IVec S_ 32) ((constantI S_ 32 0#32))) ((constantI S_ 32 1#32)) (U (Proc.devRef .tc main_c_0) : IVec S_ 32)))) ((broadcastInDim S2000 ![] bcast_S_S2000) ((constantI S_ 32 0#32)))) ((broadcastInDim S2000 ![] bcast_S_S2000) ((cmpi .slt) (select ((cmpi .eq) (U (Proc.devRef .tc main_c_0) : IVec S_ 32) ((constantI S_ 32 0#32))) ((constantI S_ 32 1#32)) (U (Proc.devRef .tc main_c_0) : IVec S_ 32)) ((constantI S_ 32 0#32))))) ((cmpi .ne) (Host.remsi (U (Proc.devRef .tc main_indices) : IVec S2000 32) ((broadcastInDim S2000 ![] bcast_S_S2000) (select ((cmpi .eq) (U (Proc.devRef .tc main_c_0) : IVec S_ 32) ((constantI S_ 32 0#32))) ((constantI S_ 32 1#32)) (U (Proc.devRef .tc main_c_0) : IVec S_ 32)))) ((broadcastInDim S2000 ![] bcast_S_S2000) ((constantI S_ 32 0#32))))) (addi (Host.remsi (U (Proc.devRef .tc main_indices) : IVec S2000 32) ((broadcastInDim S2000 ![] bcast_S_S2000) (select ((cmpi .eq) (U (Proc.devRef .tc main_c_0) : IVec S_ 32) ((constantI S_ 32 0#32))) ((constantI S_ 32 1#32)) (U (Proc.devRef .tc main_c_0) : IVec S_ 32)))) ((broadcastInDim S2000 ![] bcast_S_S2000) (select ((cmpi .eq) (U (Proc.devRef .tc main_c_0) : IVec S_ 32) ((constantI S_ 32 0#32))) ((constantI S_ 32 1#32)) (U (Proc.devRef .tc main_c_0) : IVec S_ 32)))) (Host.remsi (U (Proc.devRef .tc main_indices) : IVec S2000 32) ((broadcastInDim S2000 ![] bcast_S_S2000) (select ((cmpi .eq) (U (Proc.devRef .tc main_c_0) : IVec S_ 32) ((constantI S_ 32 0#32))) ((constantI S_ 32 1#32)) (U (Proc.devRef .tc main_c_0) : IVec S_ 32))))) := by
    after_reads_simp
    simp only [TRef.ofBuf_toBuf]
    rfl
  rw [h, hc]
  pointwise
  rw [hI]
  exact mod_word k (by omega)

/-- A score's row of the rois: the row its position divided by 80 names. -/
theorem rois_at (s : Fin 2000) (k : ℕ) (hk : k < 1600000)
    (hR : U (Proc.devRef .tc main_v8) (ix1 s) = BitVec.ofNat 32 (k / 80)) (j : Fin 4) :
    @Eq EReal (after hostOps1_4 U (Proc.devRef .tc main_v16) (ix2 s j))
      (U (Proc.devRef .tc main_arg2) (ix2 ⟨k / 80, by omega⟩ j)) := by
  after_reads_simp
  refine (gather_rows (by norm_num) _ _ _ s j).trans ?_
  pointwise
  simp only [hR, wrap_word _ (show k / 80 < 2 ^ 31 by omega), word_clamp (k / 80) 19999 (by omega) (by omega)]

/-- A score's row of the deltas: the four columns of its class in the row its position divided by 80 names. -/
theorem deltas_at (s : Fin 2000) (k : ℕ) (hk : k < 1600000)
    (hI : U (Proc.devRef .tc main_indices) (ix1 s) = BitVec.ofNat 32 k) (j : Fin 4) :
    @Eq EReal (after hostOps1_4 U (Proc.devRef .tc main_v24) (ix2 s j))
      (U (Proc.devRef .tc main_arg1) (ix2 ⟨k / 80, by omega⟩ ⟨k % 80 * 4 + j.val, by omega⟩)) := by
  after_reads_simp
  refine (gather_rows (by norm_num) _ _ _ s j).trans ?_
  pointwise
  simp only [hI, wrap_word _ (show k < 2 ^ 31 by omega), word_clamp k 1599999 (by omega) (by omega)]

end Cert.KernelSide
-- ==== Proof.Cand.lean ====
/- The 2000 candidates, their boxes and the suppression among them, as functions of the inputs: what both programs
   compute between their first top-k and their second. -/
module

public import proofs.«01_k».proof.Proof.Spec
public import proofs.«01_k».proof.Proof.Rows

@[expose] public section

set_option maxRecDepth 16384

noncomputable section

namespace Cert.Spec

open Idealize.ShloMosaic

/-- The top-k of a flat array of floats: the values and the position words. -/
abbrev best {N K : ℕ} (x : (⟨1, ![N]⟩ : Shape).Idx → EReal) (h : (⟨1, ![N]⟩ : Shape).Slices (fun _ => 0) ⟨1, ![K]⟩) :
    ((⟨1, ![K]⟩ : Shape).Idx → EReal) × IVec ⟨1, ![K]⟩ 32 :=
  Host.topK ⟨1, ![K]⟩ 0 (FloatOps.cmpfTotal (F := Ideal) (φ := .f32) .gt) x h

section
variable (A0 : (⟨2, ![20000, 81]⟩ : Shape).Idx → EReal) (A1 : (⟨2, ![20000, 320]⟩ : Shape).Idx → EReal)
  (A2 : (⟨2, ![20000, 4]⟩ : Shape).Idx → EReal) (W H : EReal)

/-- All scores in a row: entry `80 n + c` is the softmax of row `n` at class `c`, masked. -/
def flatScore : (⟨1, ![1600000]⟩ : Shape).Idx → EReal := fun i =>
  mask (soft (fun k => A0 (ix2 ⟨(i 0).val / 80, by have : (i 0).val < 1600000 := (i 0).isLt; omega⟩ k))
    ⟨(i 0).val % 80, Nat.mod_lt _ (by omega)⟩)

/-- The first 2000 of 1600000 entries lie inside. -/
theorem fits : (⟨1, ![1600000]⟩ : Shape).Slices (fun _ => 0) ⟨1, ![2000]⟩ := by decide

/-- The first 100 of 2000 entries lie inside. -/
theorem fits' : (⟨1, ![2000]⟩ : Shape).Slices (fun _ => 0) ⟨1, ![100]⟩ := by decide

/-- The position of candidate `s` among all scores. -/
def pos (s : Fin 2000) : ℕ := ((best (flatScore A0) fits).2 (ix1 s)).toNat

/-- A candidate's position is that of one of the 1600000 scores. -/
theorem pos_lt (s : Fin 2000) : pos A0 s < 1600000 := by
  obtain ⟨k, hk, h⟩ := topK_word (FloatOps.cmpfTotal (F := Ideal) (φ := .f32) .gt) (flatScore A0) fits (ix1 s)
  unfold pos best
  rw [h, BitVec.toNat_ofNat]
  exact lt_of_le_of_lt (Nat.mod_le _ _) hk

/-- The word of a candidate's position. -/
theorem word_eq (s : Fin 2000) : (best (flatScore A0) fits).2 (ix1 s) = BitVec.ofNat 32 (pos A0 s) := by
  unfold pos; rw [BitVec.ofNat_toNat, BitVec.setWidth_eq]

/-- The score of candidate `s`. -/
def score (s : Fin 2000) : EReal := (best (flatScore A0) fits).1 (ix1 s)

/-- The scores counted by numbers, minus one past the end. -/
def scoreN (r : ℕ) : EReal := if h : r < 2000 then score A0 ⟨r, h⟩ else negOne

/-- The roi of candidate `s`. -/
def roi (s : Fin 2000) (j : Fin 4) : EReal := A2 (ix2 ⟨pos A0 s / 80, by have := pos_lt A0 s; omega⟩ j)

/-- The raw deltas of candidate `s`. -/
def delta (s : Fin 2000) (j : Fin 4) : EReal :=
  A1 (ix2 ⟨pos A0 s / 80, by have := pos_lt A0 s; omega⟩ ⟨pos A0 s % 80 * 4 + j.val, by omega⟩)

/-- The decoded and clipped box of candidate `s`. -/
def box (s : Fin 2000) : Fin 4 → EReal :=
  ![decLo W (roi A0 A2 s 0) (roi A0 A2 s 2) (delta A0 A1 s 0) (delta A0 A1 s 2),
    decLo H (roi A0 A2 s 1) (roi A0 A2 s 3) (delta A0 A1 s 1) (delta A0 A1 s 3),
    decHi W (roi A0 A2 s 0) (roi A0 A2 s 2) (delta A0 A1 s 0) (delta A0 A1 s 2),
    decHi H (roi A0 A2 s 1) (roi A0 A2 s 3) (delta A0 A1 s 1) (delta A0 A1 s 3)]

/-- The class of candidate `s`, as a float. -/
def cls (s : Fin 2000) : EReal := FloatOps.sitofp (F := Ideal) .f32 (BitVec.ofNat 32 (pos A0 s % 80))

/-- The largest coordinate of all candidates' boxes. -/
def far : EReal :=
  Finset.fold max (Ideal.ofBits .f32 0xFF800000#32) (fun p : Fin 2000 × Fin 4 => box A0 A1 A2 W H p.1 p.2) Finset.univ

/-- The distance by which boxes of neighbouring classes are moved apart: the largest coordinate, plus one. -/
def off : EReal := far A0 A1 A2 W H + 1

/-- The box of candidate `s` moved by its class. -/
def moved (s : Fin 2000) (j : Fin 4) : EReal := box A0 A1 A2 W H s j + cls A0 s * off A0 A1 A2 W H

/-- The area of a moved box. -/
def area (s : Fin 2000) : EReal :=
  (moved A0 A1 A2 W H s 2 - moved A0 A1 A2 W H s 0) * (moved A0 A1 A2 W H s 3 - moved A0 A1 A2 W H s 1)

/-- The overlap of two candidates' moved boxes. -/
def ovF (k r : Fin 2000) : EReal :=
  overlap (area A0 A1 A2 W H k) (area A0 A1 A2 W H r)
    (moved A0 A1 A2 W H k 0) (moved A0 A1 A2 W H k 1) (moved A0 A1 A2 W H k 2) (moved A0 A1 A2 W H k 3)
    (moved A0 A1 A2 W H r 0) (moved A0 A1 A2 W H r 1) (moved A0 A1 A2 W H r 2) (moved A0 A1 A2 W H r 3)

/-- The overlaps counted by numbers. -/
def ovN (k r : ℕ) : EReal := if h : k < 2000 ∧ r < 2000 then ovF A0 A1 A2 W H ⟨k, h.1⟩ ⟨r, h.2⟩ else 0

open Classical in
/-- The scores after the suppression: a survivor's own score, minus one for any other. -/
def final : (⟨1, ![2000]⟩ : Shape).Idx → EReal := fun i =>
  if keep (scoreN A0) (ovN A0 A1 A2 W H) 2000 (i 0).val then score A0 (i 0) else negOne

end

/-! ## The coordinates are finite -/

/-- The bit pattern of minus infinity is the least number. -/
theorem ninf : Ideal.ofBits .f32 0xFF800000#32 = ⊥ := by simp [Ideal.ofBits, Ideal.ieee]

/-- No entry exceeds the maximum. -/
theorem le_fold {ι : Type} [Fintype ι] (b : EReal) (f : ι → EReal) (i : ι) : f i ≤ Finset.fold max b f Finset.univ :=
  (Finset.le_fold_max _).mpr (Or.inr ⟨i, Finset.mem_univ _, le_rfl⟩)

/-- A bound of every entry bounds the maximum. -/
theorem fold_le {ι : Type} [Fintype ι] {c : EReal} (f : ι → EReal) (h : ∀ i, f i ≤ c) :
    Finset.fold max (Ideal.ofBits .f32 0xFF800000#32) f Finset.univ ≤ c :=
  (Finset.fold_max_le _).mpr ⟨by rw [ninf]; exact bot_le, fun i _ => h i⟩

/-- A number clipped between zero and a finite extent is finite. -/
theorem clip_real (w : ℝ) (x : EReal) : ∃ y : ℝ, min (w : EReal) (max 0 x) = y := by
  have h1 : min (w : EReal) (max 0 x) ≠ ⊤ := ne_top_of_le_ne_top (EReal.coe_ne_top w) (min_le_left _ _)
  have h2 : min (w : EReal) (max 0 x) ≠ ⊥ := by
    intro h
    rcases min_choice (w : EReal) (max 0 x) with e | e
    · exact EReal.coe_ne_bot w (e ▸ h)
    · have : (0 : EReal) ≤ max 0 x := le_max_left _ _
      rw [e] at h
      rw [h] at this
      exact absurd this (by simp)
  exact ⟨_, (EReal.coe_toReal h1 h2).symm⟩

section
variable (A0 : (⟨2, ![20000, 81]⟩ : Shape).Idx → EReal) (A1 : (⟨2, ![20000, 320]⟩ : Shape).Idx → EReal)
  (A2 : (⟨2, ![20000, 4]⟩ : Shape).Idx → EReal) (w h : ℝ)

/-- Every coordinate of a candidate's box is a real number. -/
theorem box_real (s : Fin 2000) (j : Fin 4) : ∃ y : ℝ, box A0 A1 A2 w h s j = y := by
  unfold box
  match j with
  | ⟨0, _⟩ => exact clip_real w _
  | ⟨1, _⟩ => exact clip_real h _
  | ⟨2, _⟩ => exact clip_real w _
  | ⟨3, _⟩ => exact clip_real h _

/-- A candidate's class, as a float, is a real number. -/
theorem cls_real (s : Fin 2000) : ∃ y : ℝ, cls A0 s = y := ⟨_, rfl⟩

/-- No coordinate exceeds the largest. -/
theorem le_far (W H : EReal) (s : Fin 2000) (j : Fin 4) : box A0 A1 A2 W H s j ≤ far A0 A1 A2 W H := by
  unfold far
  exact le_fold _ (fun p : Fin 2000 × Fin 4 => box A0 A1 A2 W H p.1 p.2) (s, j)

/-- A bound of every coordinate bounds the largest. -/
theorem far_le (W H b : EReal) (hb : ∀ s j, box A0 A1 A2 W H s j ≤ b) : far A0 A1 A2 W H ≤ b := by
  unfold far
  exact fold_le (fun p : Fin 2000 × Fin 4 => box A0 A1 A2 W H p.1 p.2) fun p => hb p.1 p.2

/-- No coordinate exceeds both extents. -/
theorem box_le (s : Fin 2000) (j : Fin 4) : box A0 A1 A2 w h s j ≤ ((max w h : ℝ) : EReal) := by
  have hw : (w : EReal) ≤ ((max w h : ℝ) : EReal) := EReal.coe_le_coe_iff.mpr (le_max_left _ _)
  have hh : (h : EReal) ≤ ((max w h : ℝ) : EReal) := EReal.coe_le_coe_iff.mpr (le_max_right _ _)
  unfold box
  match j with
  | ⟨0, _⟩ => exact (min_le_left _ _).trans hw
  | ⟨1, _⟩ => exact (min_le_left _ _).trans hh
  | ⟨2, _⟩ => exact (min_le_left _ _).trans hw
  | ⟨3, _⟩ => exact (min_le_left _ _).trans hh

/-- The offset between classes is a real number. -/
theorem off_real : ∃ y : ℝ, off A0 A1 A2 w h = y := by
  obtain ⟨y, hy⟩ : ∃ y : ℝ, far A0 A1 A2 w h = y := by
    have h1 : far A0 A1 A2 w h ≠ ⊤ :=
      ne_top_of_le_ne_top (EReal.coe_ne_top _) (far_le A0 A1 A2 w h _ (box_le A0 A1 A2 w h))
    have h2 : far A0 A1 A2 w h ≠ ⊥ := by
      obtain ⟨y, hy⟩ := box_real A0 A1 A2 w h 0 0
      have := le_far A0 A1 A2 w h 0 0
      intro e
      rw [e, hy] at this
      exact EReal.coe_ne_bot y (le_bot_iff.mp this)
    exact ⟨_, (EReal.coe_toReal h1 h2).symm⟩
  refine ⟨y + 1, ?_⟩
  unfold off
  rw [hy, EReal.coe_add, EReal.coe_one]

/-- Moving a box does not change its sides. -/
theorem side_moved (s : Fin 2000) (i j : Fin 4) :
    moved A0 A1 A2 w h s i - moved A0 A1 A2 w h s j = box A0 A1 A2 w h s i - box A0 A1 A2 w h s j := by
  obtain ⟨a, ha⟩ := box_real A0 A1 A2 w h s i
  obtain ⟨b, hb⟩ := box_real A0 A1 A2 w h s j
  obtain ⟨l, hl⟩ := cls_real A0 s
  obtain ⟨o, ho⟩ := off_real A0 A1 A2 w h
  unfold moved
  rw [ha, hb, hl, ho, ← EReal.coe_mul, ← EReal.coe_add, ← EReal.coe_add, ← EReal.coe_sub, ← EReal.coe_sub]
  exact congrArg _ (by ring)

/-- The area of a moved box from its own sides. -/
theorem area_eq (s : Fin 2000) : (box A0 A1 A2 w h s 2 - box A0 A1 A2 w h s 0) * (box A0 A1 A2 w h s 3 - box A0 A1 A2 w h s 1)
    = area A0 A1 A2 w h s := by
  unfold area; rw [side_moved, side_moved]

/-- Overlap does not depend on the order of the two boxes. -/
theorem overlap_comm (aa ab ax1 ay1 ax2 ay2 bx1 by1 bx2 by2 : EReal) :
    overlap aa ab ax1 ay1 ax2 ay2 bx1 by1 bx2 by2 = overlap ab aa bx1 by1 bx2 by2 ax1 ay1 ax2 ay2 := by
  unfold overlap inter
  rw [min_comm ax2, max_comm ax1, min_comm ay2, max_comm ay1, add_comm aa]

/-- A box decoded from zeros is no further out than any decoded box. -/
theorem pad_lo (W a b d s : EReal) : decLo W 0 0 0 0 ≤ decLo W a b d s := by
  unfold decLo centre
  simp only [add_zero, zero_mul, sub_zero, max_self]
  exact min_le_min le_rfl (le_max_left _ _)

/-- A box decoded from zeros is no further out than any decoded box. -/
theorem pad_hi (W a b d s : EReal) : decHi W 0 0 0 0 ≤ decHi W a b d s := by
  unfold decHi centre
  simp only [add_zero, zero_mul, sub_zero, max_self]
  exact min_le_min le_rfl (le_max_left _ _)

/-- The largest coordinate may be taken over 2048 places, each coordinate by itself, when the places past the end
    hold nothing further out. -/
theorem largest (W H : EReal) (g : Fin 4 → Fin 8 × Fin 256 → EReal)
    (hin : ∀ j p, ∀ hr : p.1.val * 256 + p.2.val < 2000, g j p = box A0 A1 A2 W H ⟨p.1.val * 256 + p.2.val, hr⟩ j)
    (hout : ∀ j p, ¬ p.1.val * 256 + p.2.val < 2000 → g j p ≤ box A0 A1 A2 W H 0 j) :
    max (max (Finset.fold max (Ideal.ofBits .f32 0xFF800000#32) (g 0) Finset.univ)
        (Finset.fold max (Ideal.ofBits .f32 0xFF800000#32) (g 1) Finset.univ))
      (max (Finset.fold max (Ideal.ofBits .f32 0xFF800000#32) (g 2) Finset.univ)
        (Finset.fold max (Ideal.ofBits .f32 0xFF800000#32) (g 3) Finset.univ)) + 1
    = off A0 A1 A2 W H := by
  unfold off
  refine congrArg (· + 1) ?_
  have up : ∀ j, Finset.fold max (Ideal.ofBits .f32 0xFF800000#32) (g j) Finset.univ ≤ far A0 A1 A2 W H := by
    intro j
    refine fold_le (g j) fun p => ?_
    by_cases hr : p.1.val * 256 + p.2.val < 2000
    · exact (le_of_eq (hin j p hr)).trans (le_far A0 A1 A2 W H _ j)
    · exact (hout j p hr).trans (le_far A0 A1 A2 W H 0 j)
  have down : ∀ s j, box A0 A1 A2 W H s j ≤ Finset.fold max (Ideal.ofBits .f32 0xFF800000#32) (g j) Finset.univ := by
    intro s j
    obtain ⟨p, hp⟩ : ∃ p : Fin 8 × Fin 256, p.1.val * 256 + p.2.val = s.val :=
      ⟨(⟨s.val / 256, by omega⟩, ⟨s.val % 256, by omega⟩), show s.val / 256 * 256 + s.val % 256 = s.val by omega⟩
    refine le_trans (le_of_eq ?_) (le_fold _ (g j) p)
    rw [hin j p (by omega)]
    exact congrArg (fun t => box A0 A1 A2 W H t j) (Fin.ext hp.symm)
  refine le_antisymm (max_le (max_le (up 0) (up 1)) (max_le (up 2) (up 3))) ?_
  refine far_le A0 A1 A2 W H _ fun s j => ?_
  refine (down s j).trans ?_
  match j with
  | ⟨0, _⟩ => exact (le_max_left _ _).trans (le_max_left _ _)
  | ⟨1, _⟩ => exact (le_max_right _ _).trans (le_max_left _ _)
  | ⟨2, _⟩ => exact (le_max_left _ _).trans (le_max_right _ _)
  | ⟨3, _⟩ => exact (le_max_right _ _).trans (le_max_right _ _)

end

end Cert.Spec
-- ==== Proof.HostReads.lean ====
/- The kernel's host stretches round its second region, read at an index: the padded candidates that the region
   takes, the picture's extents, and the scores and boxes that come back. -/
module

public import proofs.«01_k».proof.Proof.HostWords
public import proofs.«01_k».proof.Proof.Cand

@[expose] public section

set_option maxRecDepth 16384

noncomputable section

namespace Cert.KernelSide

open Idealize.ShloMosaic Idealize.ShloMosaic.TcCoe Idealize.ShloMosaic.StableHlo
open Cert.KernelIdeal Cert.KernelIdeal.Gen Cert.Spec

variable (U : Valuation τ sig (Elt Ideal))

/-- The zero word as a float is zero. -/
theorem sitofp_zero : @Eq EReal (FloatOps.sitofp (F := Ideal) .f32 0#32) 0 := by
  show (((0#32 : BitVec 32).toInt : ℝ) : EReal) = 0
  simp

/-- A row of 2000 entries padded to 2048: the entry, or the fill past the end. -/
theorem pad_row (x : S2000.Idx → EReal) (v : S_.Idx → EReal) (z : EReal) (hv : v = fun _ => z) (s : Fin 2048) :
    pad S2048 ![0] ![48] ![0] x v pads_S2000_S2048_0480 h_S_ (ix1 s) = if h : s.val < 2000 then x (ix1 ⟨s.val, h⟩) else z := by
  subst hv
  by_cases h : s.val < 2000
  · rw [dif_pos h]
    pointwise
    rw [dif_pos h]
  · rw [dif_neg h]
    pointwise
    rw [dif_neg h]

/-- A table of 2000 rows padded to 2048 rows: the row, or the fill past the end. -/
theorem pad_rows (x : S2000x4.Idx → EReal) (v : S_.Idx → EReal) (z : EReal) (hv : v = fun _ => z) (s : Fin 2048) (k : Fin 4) :
    pad S2048x4 ![0, 0] ![48, 0] ![0, 0] x v pads_S2000x4_S2048x4_0480_000 h_S_ (ix2 s k)
      = if h : s.val < 2000 then x (ix2 ⟨s.val, h⟩ k) else z := by
  subst hv
  by_cases h : s.val < 2000
  · rw [dif_pos h]
    pointwise
    rw [dif_pos h]
  · rw [dif_neg h]
    pointwise
    rw [dif_neg h]

/-- The padded scores. -/
theorem padded_v25 (hz : @Eq (S_.Idx → EReal) (U (Proc.devRef .tc main_cst)) (fun _ => negOne)) (s : Fin 2048) :
    @Eq EReal (after hostOps1_5 U (Proc.devRef .tc main_v25) (ix1 s)) (if h : s.val < 2000 then U (Proc.devRef .tc main_values) (ix1 ⟨s.val, h⟩) else negOne) := by
  after_reads_simp
  simp only [TRef.ofBuf_toBuf]
  exact pad_row (U (Proc.devRef .tc main_values) : S2000.Idx → EReal) _ negOne (hz) s

/-- The padded classes. -/
theorem padded_v27 (hz : U (Proc.devRef .tc main_c_5) = constantI S_ 32 0#32) (s : Fin 2048) :
    @Eq EReal (after hostOps1_7 U (Proc.devRef .tc main_v27) (ix1 s)) (if h : s.val < 2000 then U (Proc.devRef .tc main_v26) (ix1 ⟨s.val, h⟩) else 0) := by
  after_reads_simp
  simp only [TRef.ofBuf_toBuf]
  exact pad_row (U (Proc.devRef .tc main_v26) : S2000.Idx → EReal) _ 0 (by rw [hz]; funext _; exact sitofp_zero) s

/-- The padded rois. -/
theorem padded_v28 (hz : U (Proc.devRef .tc main_c_6) = constantI S_ 32 0#32) (s : Fin 2048) (k : Fin 4) :
    @Eq EReal (after hostOps1_9 U (Proc.devRef .tc main_v28) (ix2 s k)) (if h : s.val < 2000 then U (Proc.devRef .tc main_v16) (ix2 ⟨s.val, h⟩ k) else 0) := by
  after_reads_simp
  simp only [TRef.ofBuf_toBuf]
  exact pad_rows (U (Proc.devRef .tc main_v16) : S2000x4.Idx → EReal) _ 0 (by rw [hz]; funext _; exact sitofp_zero) s k

/-- The padded deltas. -/
theorem padded_v29 (hz : U (Proc.devRef .tc main_c_7) = constantI S_ 32 0#32) (s : Fin 2048) (k : Fin 4) :
    @Eq EReal (after hostOps1_11 U (Proc.devRef .tc main_v29) (ix2 s k)) (if h : s.val < 2000 then U (Proc.devRef .tc main_v24) (ix2 ⟨s.val, h⟩ k) else 0) := by
  after_reads_simp
  simp only [TRef.ofBuf_toBuf]
  exact pad_rows (U (Proc.devRef .tc main_v24) : S2000x4.Idx → EReal) _ 0 (by rw [hz]; funext _; exact sitofp_zero) s k

/-- The scores as the region takes them, in 8 rows of 256. -/
theorem tile_v55 (r : ℕ) (h : r < 2048) :
    @Eq EReal (at8 (after hostOps1_12 U (Proc.devRef .tc main_v55)) r) (U (Proc.devRef .tc main_v25) (ix1 ⟨r, h⟩)) := by
  unfold at8
  after_reads_simp
  pointwise
  congr 2
  exact Fin.ext (show r / 256 % 8 * 256 + r % 256 = r by omega)

/-- The classes as the region takes them, in 8 rows of 256. -/
theorem tile_v56 (r : ℕ) (h : r < 2048) :
    @Eq EReal (at8 (after hostOps1_12 U (Proc.devRef .tc main_v56)) r) (U (Proc.devRef .tc main_v27) (ix1 ⟨r, h⟩)) := by
  unfold at8
  after_reads_simp
  pointwise
  congr 2
  exact Fin.ext (show r / 256 % 8 * 256 + r % 256 = r by omega)

/-- The classes as the region takes them, in a column. -/
theorem col_v65 (r : ℕ) (h : r < 2048) :
    @Eq EReal (atC (after hostOps1_12 U (Proc.devRef .tc main_v65)) r) (U (Proc.devRef .tc main_v27) (ix1 ⟨r, h⟩)) := by
  unfold atC
  after_reads_simp
  pointwise
  congr 2
  exact Fin.ext (show r % 2048 = r by omega)

/-- Column 0 of the rois as the region takes it, in 8 rows of 256. -/
theorem tile_v57 (r : ℕ) (h : r < 2048) :
    @Eq EReal (at8 (after hostOps1_12 U (Proc.devRef .tc main_v57)) r) (U (Proc.devRef .tc main_v28) (ix2 ⟨r, h⟩ 0)) := by
  unfold at8
  after_reads_simp
  pointwise
  congr 2
  exact Fin.ext (show r / 256 % 8 * 256 + r % 256 = r by omega)

/-- Column 0 of the rois as the region takes it, in a column. -/
theorem col_v66 (r : ℕ) (h : r < 2048) :
    @Eq EReal (atC (after hostOps1_12 U (Proc.devRef .tc main_v66)) r) (U (Proc.devRef .tc main_v28) (ix2 ⟨r, h⟩ 0)) := by
  unfold atC
  after_reads_simp
  pointwise
  congr 2
  exact Fin.ext (show r % 2048 = r by omega)

/-- Column 1 of the rois as the region takes it, in 8 rows of 256. -/
theorem tile_v58 (r : ℕ) (h : r < 2048) :
    @Eq EReal (at8 (after hostOps1_12 U (Proc.devRef .tc main_v58)) r) (U (Proc.devRef .tc main_v28) (ix2 ⟨r, h⟩ 1)) := by
  unfold at8
  after_reads_simp
  pointwise
  congr 2
  exact Fin.ext (show r / 256 % 8 * 256 + r % 256 = r by omega)

/-- Column 1 of the rois as the region takes it, in a column. -/
theorem col_v67 (r : ℕ) (h : r < 2048) :
    @Eq EReal (atC (after hostOps1_12 U (Proc.devRef .tc main_v67)) r) (U (Proc.devRef .tc main_v28) (ix2 ⟨r, h⟩ 1)) := by
  unfold atC
  after_reads_simp
  pointwise
  congr 2
  exact Fin.ext (show r % 2048 = r by omega)

/-- Column 2 of the rois as the region takes it, in 8 rows of 256. -/
theorem tile_v59 (r : ℕ) (h : r < 2048) :
    @Eq EReal (at8 (after hostOps1_12 U (Proc.devRef .tc main_v59)) r) (U (Proc.devRef .tc main_v28) (ix2 ⟨r, h⟩ 2)) := by
  unfold at8
  after_reads_simp
  pointwise
  congr 2
  exact Fin.ext (show r / 256 % 8 * 256 + r % 256 = r by omega)

/-- Column 2 of the rois as the region takes it, in a column. -/
theorem col_v68 (r : ℕ) (h : r < 2048) :
    @Eq EReal (atC (after hostOps1_12 U (Proc.devRef .tc main_v68)) r) (U (Proc.devRef .tc main_v28) (ix2 ⟨r, h⟩ 2)) := by
  unfold atC
  after_reads_simp
  pointwise
  congr 2
  exact Fin.ext (show r % 2048 = r by omega)

/-- Column 3 of the rois as the region takes it, in 8 rows of 256. -/
theorem tile_v60 (r : ℕ) (h : r < 2048) :
    @Eq EReal (at8 (after hostOps1_12 U (Proc.devRef .tc main_v60)) r) (U (Proc.devRef .tc main_v28) (ix2 ⟨r, h⟩ 3)) := by
  unfold at8
  after_reads_simp
  pointwise
  congr 2
  exact Fin.ext (show r / 256 % 8 * 256 + r % 256 = r by omega)

/-- Column 3 of the rois as the region takes it, in a column. -/
theorem col_v69 (r : ℕ) (h : r < 2048) :
    @Eq EReal (atC (after hostOps1_12 U (Proc.devRef .tc main_v69)) r) (U (Proc.devRef .tc main_v28) (ix2 ⟨r, h⟩ 3)) := by
  unfold atC
  after_reads_simp
  pointwise
  congr 2
  exact Fin.ext (show r % 2048 = r by omega)

/-- Column 0 of the deltas as the region takes it, in 8 rows of 256. -/
theorem tile_v61 (r : ℕ) (h : r < 2048) :
    @Eq EReal (at8 (after hostOps1_12 U (Proc.devRef .tc main_v61)) r) (U (Proc.devRef .tc main_v29) (ix2 ⟨r, h⟩ 0)) := by
  unfold at8
  after_reads_simp
  pointwise
  congr 2
  exact Fin.ext (show r / 256 % 8 * 256 + r % 256 = r by omega)

/-- Column 0 of the deltas as the region takes it, in a column. -/
theorem col_v70 (r : ℕ) (h : r < 2048) :
    @Eq EReal (atC (after hostOps1_12 U (Proc.devRef .tc main_v70)) r) (U (Proc.devRef .tc main_v29) (ix2 ⟨r, h⟩ 0)) := by
  unfold atC
  after_reads_simp
  pointwise
  congr 2
  exact Fin.ext (show r % 2048 = r by omega)

/-- Column 1 of the deltas as the region takes it, in 8 rows of 256. -/
theorem tile_v62 (r : ℕ) (h : r < 2048) :
    @Eq EReal (at8 (after hostOps1_12 U (Proc.devRef .tc main_v62)) r) (U (Proc.devRef .tc main_v29) (ix2 ⟨r, h⟩ 1)) := by
  unfold at8
  after_reads_simp
  pointwise
  congr 2
  exact Fin.ext (show r / 256 % 8 * 256 + r % 256 = r by omega)

/-- Column 1 of the deltas as the region takes it, in a column. -/
theorem col_v71 (r : ℕ) (h : r < 2048) :
    @Eq EReal (atC (after hostOps1_12 U (Proc.devRef .tc main_v71)) r) (U (Proc.devRef .tc main_v29) (ix2 ⟨r, h⟩ 1)) := by
  unfold atC
  after_reads_simp
  pointwise
  congr 2
  exact Fin.ext (show r % 2048 = r by omega)

/-- Column 2 of the deltas as the region takes it, in 8 rows of 256. -/
theorem tile_v63 (r : ℕ) (h : r < 2048) :
    @Eq EReal (at8 (after hostOps1_12 U (Proc.devRef .tc main_v63)) r) (U (Proc.devRef .tc main_v29) (ix2 ⟨r, h⟩ 2)) := by
  unfold at8
  after_reads_simp
  pointwise
  congr 2
  exact Fin.ext (show r / 256 % 8 * 256 + r % 256 = r by omega)

/-- Column 2 of the deltas as the region takes it, in a column. -/
theorem col_v72 (r : ℕ) (h : r < 2048) :
    @Eq EReal (atC (after hostOps1_12 U (Proc.devRef .tc main_v72)) r) (U (Proc.devRef .tc main_v29) (ix2 ⟨r, h⟩ 2)) := by
  unfold atC
  after_reads_simp
  pointwise
  congr 2
  exact Fin.ext (show r % 2048 = r by omega)

/-- Column 3 of the deltas as the region takes it, in 8 rows of 256. -/
theorem tile_v64 (r : ℕ) (h : r < 2048) :
    @Eq EReal (at8 (after hostOps1_12 U (Proc.devRef .tc main_v64)) r) (U (Proc.devRef .tc main_v29) (ix2 ⟨r, h⟩ 3)) := by
  unfold at8
  after_reads_simp
  pointwise
  congr 2
  exact Fin.ext (show r / 256 % 8 * 256 + r % 256 = r by omega)

/-- Column 3 of the deltas as the region takes it, in a column. -/
theorem col_v73 (r : ℕ) (h : r < 2048) :
    @Eq EReal (atC (after hostOps1_12 U (Proc.devRef .tc main_v73)) r) (U (Proc.devRef .tc main_v29) (ix2 ⟨r, h⟩ 3)) := by
  unfold atC
  after_reads_simp
  pointwise
  congr 2
  exact Fin.ext (show r % 2048 = r by omega)

/-- The pair of index words `a`, `b`. -/
def pairW (a b : BitVec 32) : IVec S2 32 :=
  concatenate S2 0 [⟨S1, (fun _ => a : IVec S1 32)⟩, ⟨S1, (fun _ => b : IVec S1 32)⟩] concatenates_S1_S1_S2_d0

/-- The pair's first word. -/
theorem pairW_fst (a b : BitVec 32) (i : S2.Idx) (h : (i 0).val = 0) : pairW a b i = a := by
  have : i = ix1 0 := funext fun x => Fin.ext (by obtain rfl : x = 0 := Subsingleton.elim _ _; exact h)
  rw [this]; rfl

/-- The pair's second word. -/
theorem pairW_snd (a b : BitVec 32) (i : S2.Idx) (h : (i 0).val = 1) : pairW a b i = b := by
  have : i = ix1 1 := funext fun x => Fin.ext (by obtain rfl : x = 0 := Subsingleton.elim _ _; exact h)
  rw [this]; rfl

/-- One element put into a row of 128 at column `b`. -/
theorem put_at (x : S1x128.Idx → EReal) (u : S_.Idx → EReal) (b : BitVec 32) (k : Fin 128) (hb : b = BitVec.ofNat 32 k.val)
    (j : S1x128.Idx) :
    Host.scatter scatter_S1x128_S2_S__n_01_01_0 (fun _ b => b) x (pairW 0#32 b) u j = if j = ix2 0 k then u ix0 else x j := by
  have hr : ∀ n, scatter_S1x128_S2_S__n_01_01_0.resultIdx? (S_.rowMajor.symm n) (pairW 0#32 b) = some (ix2 0 k) := by
    intro n
    generalize S_.rowMajor.symm n = i
    have w : ∀ a, scatter_S1x128_S2_S__n_01_01_0.window i a = 0 := by
      intro a
      unfold ScatterDims.window
      rw [dif_neg (by revert a; decide)]
    have s0 : scatter_S1x128_S2_S__n_01_01_0.start i (pairW 0#32 b) 0 = 0 := by
      unfold ScatterDims.start
      rw [dif_pos (show (0 : Fin 2) ∈ scatter_S1x128_S2_S__n_01_01_0.scatterDimsToOperandDims by decide)]
      exact congrArg BitVec.toInt (pairW_fst 0#32 b _ rfl)
    have s1 : scatter_S1x128_S2_S__n_01_01_0.start i (pairW 0#32 b) 1 = k.val := by
      unfold ScatterDims.start
      rw [dif_pos (show (1 : Fin 2) ∈ scatter_S1x128_S2_S__n_01_01_0.scatterDimsToOperandDims by decide)]
      refine (congrArg BitVec.toInt (pairW_snd 0#32 b _ rfl)).trans ?_
      rw [hb]
      exact word_toInt _ (by omega)
    have hs : ∀ a, scatter_S1x128_S2_S__n_01_01_0.start i (pairW 0#32 b) a
        + scatter_S1x128_S2_S__n_01_01_0.window i a = ((ix2 0 k : S1x128.Idx) a).val := by
      intro a
      rw [w]
      match a with
      | ⟨0, _⟩ => exact (congrArg (· + _) s0)
      | ⟨1, _⟩ => exact (congrArg (· + _) s1)
    unfold ScatterDims.resultIdx?
    rw [dif_pos (by
      intro a
      rw [hs]
      exact ⟨Int.natCast_nonneg _, by exact_mod_cast ((ix2 0 k : S1x128.Idx) a).isLt⟩)]
    congr 1
    funext a
    refine Fin.ext ?_
    show Int.toNat _ = _
    rw [hs]
    rfl
  unfold Host.scatter
  simp only [hr]
  have hl : List.finRange S_.numel = [⟨0, by decide⟩] := by decide
  rw [hl]
  simp only [List.foldl_cons, List.foldl_nil]
  have h0 : ∀ i : S_.Idx, i = ix0 := fun i => funext fun a => a.elim0
  rw [h0 (S_.rowMajor.symm _)]

/-- The row of the picture's extents: two elements put into a row of zeros. -/
theorem extents : after hostOps1_12 U (Proc.devRef .tc main_v38)
    = Host.scatter scatter_S1x128_S2_S__n_01_01_0 (fun _ b => b)
        (Host.scatter scatter_S1x128_S2_S__n_01_01_0 (fun _ b => b)
          (broadcastInDim S1x128 ![] bcast_S_S1x128 (constant (F := Ideal) S_ FTy.f32 0#32)) (pairW 0#32 0#32)
          (U (Proc.devRef .tc main_v5))) (pairW 0#32 1#32) (U (Proc.devRef .tc main_v2)) := by
  have h31 : upto hostOps1_12 U 6 (Proc.devRef .tc main_v31) = fun _ => 0#32 := by
    after_reads_simp
    rfl
  have h32 : upto hostOps1_12 U 6 (Proc.devRef .tc main_v32) = fun _ => 0#32 := by
    after_reads_simp
    rfl
  have h35 : upto hostOps1_12 U 12 (Proc.devRef .tc main_v35) = fun _ => 0#32 := by
    after_reads_simp
    rfl
  have h36 : upto hostOps1_12 U 12 (Proc.devRef .tc main_v36) = fun _ => 1#32 := by
    after_reads_simp
    rfl
  after_reads_simp
  rw [h31, h32, h35, h36]
  rfl

/-- The picture's extents, as the region takes them. -/
theorem wide : @Eq EReal (after hostOps1_12 U (Proc.devRef .tc main_v38) (ix2 0 0)) (U (Proc.devRef .tc main_v5) ix0)
    ∧ @Eq EReal (after hostOps1_12 U (Proc.devRef .tc main_v38) (ix2 0 1)) (U (Proc.devRef .tc main_v2) ix0) := by
  have ne : ¬ (ix2 0 0 : S1x128.Idx) = ix2 0 1 := fun h => absurd (congrFun h 1) (by decide)
  rw [extents]
  constructor
  · exact (put_at _ _ _ 1 rfl _).trans ((if_neg ne).trans ((put_at _ _ _ 0 rfl _).trans (if_pos rfl)))
  · exact (put_at _ _ _ 1 rfl _).trans (if_pos rfl)

/-- The first 2000 entries of the region's result v74_0. -/
theorem out_v76 (r : Fin 2000) :
    @Eq EReal (after hostOps2 U (Proc.devRef .tc main_v76) (ix1 r)) (at8 (U (Proc.devRef .tc main_v74_0)) r.val) := by
  unfold at8
  after_reads_simp
  pointwise
  congr 2
  exact Fin.ext (show r.val / 256 = r.val / 256 % 8 by omega)

/-- The first 2000 entries of the region's result v74_1. -/
theorem out_v78 (r : Fin 2000) :
    @Eq EReal (after hostOps2 U (Proc.devRef .tc main_v78) (ix1 r)) (at8 (U (Proc.devRef .tc main_v74_1)) r.val) := by
  unfold at8
  after_reads_simp
  pointwise
  congr 2
  exact Fin.ext (show r.val / 256 = r.val / 256 % 8 by omega)

/-- The first 2000 entries of the region's result v74_2. -/
theorem out_v80 (r : Fin 2000) :
    @Eq EReal (after hostOps2 U (Proc.devRef .tc main_v80) (ix1 r)) (at8 (U (Proc.devRef .tc main_v74_2)) r.val) := by
  unfold at8
  after_reads_simp
  pointwise
  congr 2
  exact Fin.ext (show r.val / 256 = r.val / 256 % 8 by omega)

/-- The first 2000 entries of the region's result v74_3. -/
theorem out_v82 (r : Fin 2000) :
    @Eq EReal (after hostOps2 U (Proc.devRef .tc main_v82) (ix1 r)) (at8 (U (Proc.devRef .tc main_v74_3)) r.val) := by
  unfold at8
  after_reads_simp
  pointwise
  congr 2
  exact Fin.ext (show r.val / 256 = r.val / 256 % 8 by omega)

/-- The first 2000 entries of the region's result v74_4. -/
theorem out_v84 (r : Fin 2000) :
    @Eq EReal (after hostOps2 U (Proc.devRef .tc main_v84) (ix1 r)) (at8 (U (Proc.devRef .tc main_v74_4)) r.val) := by
  unfold at8
  after_reads_simp
  pointwise
  congr 2
  exact Fin.ext (show r.val / 256 = r.val / 256 % 8 by omega)

/-- Column 0 of the boxes. -/
theorem box_0 (r : Fin 2000) :
    @Eq EReal (after hostOps2 U (Proc.devRef .tc main_v89) (ix2 r 0)) (at8 (U (Proc.devRef .tc main_v74_1)) r.val) := by
  refine Eq.trans ?_ (out_v78 U r)
  after_reads_simp
  pointwise
  have h : @Eq EReal (upto hostOps2 U 13 (Proc.devRef .tc main_v85) (ix2 r 0)) (U (Proc.devRef .tc main_v74_1) (ix2 ⟨r.val / 256, by omega⟩ ⟨r.val % 256, by omega⟩)) := by
    after_reads_simp
    pointwise
  exact h

/-- Column 1 of the boxes. -/
theorem box_1 (r : Fin 2000) :
    @Eq EReal (after hostOps2 U (Proc.devRef .tc main_v89) (ix2 r 1)) (at8 (U (Proc.devRef .tc main_v74_2)) r.val) := by
  refine Eq.trans ?_ (out_v80 U r)
  after_reads_simp
  pointwise
  have h : @Eq EReal (upto hostOps2 U 14 (Proc.devRef .tc main_v86) (ix2 r 0)) (U (Proc.devRef .tc main_v74_2) (ix2 ⟨r.val / 256, by omega⟩ ⟨r.val % 256, by omega⟩)) := by
    after_reads_simp
    pointwise
  exact h

/-- Column 2 of the boxes. -/
theorem box_2 (r : Fin 2000) :
    @Eq EReal (after hostOps2 U (Proc.devRef .tc main_v89) (ix2 r 2)) (at8 (U (Proc.devRef .tc main_v74_3)) r.val) := by
  refine Eq.trans ?_ (out_v82 U r)
  after_reads_simp
  pointwise
  have h : @Eq EReal (upto hostOps2 U 15 (Proc.devRef .tc main_v87) (ix2 r 0)) (U (Proc.devRef .tc main_v74_3) (ix2 ⟨r.val / 256, by omega⟩ ⟨r.val % 256, by omega⟩)) := by
    after_reads_simp
    pointwise
  exact h

/-- Column 3 of the boxes. -/
theorem box_3 (r : Fin 2000) :
    @Eq EReal (after hostOps2 U (Proc.devRef .tc main_v89) (ix2 r 3)) (at8 (U (Proc.devRef .tc main_v74_4)) r.val) := by
  refine Eq.trans ?_ (out_v84 U r)
  after_reads_simp
  pointwise
  have h : @Eq EReal (upto hostOps2 U 16 (Proc.devRef .tc main_v88) (ix2 r 0)) (U (Proc.devRef .tc main_v74_4) (ix2 ⟨r.val / 256, by omega⟩ ⟨r.val % 256, by omega⟩)) := by
    after_reads_simp
    pointwise
  exact h

/-- The last scores are the best of the scores that come back. -/
theorem final_values : after hostOps2 U (Proc.devRef .tc main_values_13)
    = (best (N := 2000) (K := 100) (after hostOps2 U (Proc.devRef .tc main_v76)) fits').1 := by
  after_reads_simp

/-- Each last box is the box of the candidate its position names. -/
theorem final_boxes (s : Fin 100) (k : ℕ) (hk : k < 2000)
    (hI : (best (N := 2000) (K := 100) (after hostOps2 U (Proc.devRef .tc main_v76)) fits').2 (ix1 s) = BitVec.ofNat 32 k) (j : Fin 4) :
    @Eq EReal (after hostOps2 U (Proc.devRef .tc main_v96) (ix2 s j)) (after hostOps2 U (Proc.devRef .tc main_v89) (ix2 ⟨k, hk⟩ j)) := by
  have h : after hostOps2 U (Proc.devRef .tc main_indices_14) = (best (N := 2000) (K := 100) (after hostOps2 U (Proc.devRef .tc main_v76)) fits').2 := by
    after_reads_simp
  rw [← h] at hI
  generalize hB : after hostOps2 U (Proc.devRef .tc main_v89) = B
  generalize hX : after hostOps2 U (Proc.devRef .tc main_indices_14) = X at hI
  have e : after hostOps2 U (Proc.devRef .tc main_v96) = Host.gather gather_S2000x4_S100x1_S100x4_1_0_n_n_0_1_14 B
     (broadcastInDim S100x1 ![0] bcast_S100_S100x1_0 (select (cmpi .slt X (broadcastInDim S100 ![] bcast_S_S100 (constantI S_ 32 0#32)))
       (addi X (broadcastInDim S100 ![] bcast_S_S100 (constantI S_ 32 2000#32))) X)) := by
    rw [← hB, ← hX]
    after_reads_simp
  rw [e]
  refine (gather_rows (by norm_num) _ _ _ s j).trans ?_
  pointwise
  simp only [hI, wrap_word _ (show k < 2 ^ 31 by omega), word_clamp k 1999 (by omega) (by omega)]

/-- Each last class is the class of the candidate its position names. -/
theorem final_class (s : Fin 100) (k : ℕ) (hk : k < 2000)
    (hI : (best (N := 2000) (K := 100) (after hostOps2 U (Proc.devRef .tc main_v76)) fits').2 (ix1 s) = BitVec.ofNat 32 k) :
    @Eq (BitVec 32) (after hostOps2 U (Proc.devRef .tc main_v103) (ix1 s)) (after hostOps2 U (Proc.devRef .tc main_v9) (ix1 ⟨k, hk⟩)) := by
  have h : after hostOps2 U (Proc.devRef .tc main_indices_14) = (best (N := 2000) (K := 100) (after hostOps2 U (Proc.devRef .tc main_v76)) fits').2 := by
    after_reads_simp
  rw [← h] at hI
  generalize hB : after hostOps2 U (Proc.devRef .tc main_v9) = B
  generalize hX : after hostOps2 U (Proc.devRef .tc main_indices_14) = X at hI
  have e : after hostOps2 U (Proc.devRef .tc main_v103) = Host.gather gather_S2000_S100x1_S100_n_0_n_n_0_1_1 B
     (broadcastInDim S100x1 ![0] bcast_S100_S100x1_0 (select (cmpi .slt X (broadcastInDim S100 ![] bcast_S_S100 (constantI S_ 32 0#32)))
       (addi X (broadcastInDim S100 ![] bcast_S_S100 (constantI S_ 32 2000#32))) X)) := by
    rw [← hB, ← hX]
    after_reads_simp
  rw [e]
  refine (gather_flat (by norm_num) _ _ _ s).trans ?_
  pointwise
  simp only [hI, wrap_word _ (show k < 2 ^ 31 by omega), word_clamp k 1999 (by omega) (by omega)]
end Cert.KernelSide
-- ==== Proof.KernelCand.lean ====
/- What the kernel's three results hold: the scores after the suppression, and for each of the 100 best of them the
   box and the class of its candidate. -/
module

public import proofs.«01_k».proof.Proof.HostReads

@[expose] public section

set_option maxRecDepth 16384

noncomputable section

namespace Cert.KernelSide

open Idealize.ShloMosaic Idealize.ShloMosaic.TcCoe Idealize.ShloMosaic.StableHlo
open Cert.KernelIdeal Cert.KernelIdeal.Gen Cert.Spec

variable (m : (ℓ : Loc nD τ sig) → Buf (Elt Ideal) ℓ) (ρ : Dev nD → PrngReg) (c : Dev nD)

/-- The class scores. -/
abbrev in0 : S20000x81.Idx → EReal := m ((c : Thread nD τ).loc main_arg0)
/-- The raw deltas. -/
abbrev in1 : S20000x320.Idx → EReal := m ((c : Thread nD τ).loc main_arg1)
/-- The rois. -/
abbrev in2 : S20000x4.Idx → EReal := m ((c : Thread nD τ).loc main_arg2)
/-- The picture's shape. -/
abbrev in3 : IVec S4 32 := m ((c : Thread nD τ).loc main_arg3)
/-- The picture's width. -/
abbrev wd : EReal := FloatOps.sitofp (F := Ideal) .f32 (in3 m c (ix1 3))
/-- The picture's height. -/
abbrev ht : EReal := FloatOps.sitofp (F := Ideal) .f32 (in3 m c (ix1 2))

/-- The width, as the first stretch leaves it. -/
theorem wd_at : @Eq EReal (W1 m ρ c (Proc.devRef .tc main_v5) ix0) (wd m c) := by
  show @Eq EReal (after hostOps0 (W0 m ρ c) (Proc.devRef .tc main_v5) ix0) _
  after_reads_simp
  pointwise

/-- The height, as the first stretch leaves it. -/
theorem ht_at : @Eq EReal (W1 m ρ c (Proc.devRef .tc main_v2) ix0) (ht m c) := by
  show @Eq EReal (after hostOps0 (W0 m ρ c) (Proc.devRef .tc main_v2) ix0) _
  after_reads_simp
  pointwise

/-- All scores in a row, as the second stretch leaves them. -/
theorem flat_at : W3 m ρ c (Proc.devRef .tc main_v7) = flatScore (in0 m c) := by
  show after hostOps1 (W2 m ρ c) (Proc.devRef .tc main_v7) = _
  after_reads_simp
  have h : W2 m ρ c (Proc.devRef .tc main_v6) = masked (V1 m ρ) c := (W2_arr m ρ c 1).trans (arr0 (V1 m ρ) c)
  have ha : V1 m ρ c main_arg0 = in0 m c := W1_args m ρ c main_arg0 (by decide)
  rw [h]
  funext i
  idx_vars i
  pointwise [masked]
  rw [ha]
  rfl

/-- The 2000 best scores. -/
theorem values_at : W3 m ρ c (Proc.devRef .tc main_values) = (best (flatScore (in0 m c)) fits).1 := by
  rw [← flat_at m ρ c]
  show after hostOps1 (W2 m ρ c) (Proc.devRef .tc main_values)
    = (best (N := 1600000) (K := 2000) (after hostOps1 (W2 m ρ c) (Proc.devRef .tc main_v7)) fits).1
  after_reads_simp

/-- The positions of the 2000 best scores. -/
theorem indices_at : W3 m ρ c (Proc.devRef .tc main_indices) = (best (flatScore (in0 m c)) fits).2 := by
  rw [← flat_at m ρ c]
  show after hostOps1 (W2 m ρ c) (Proc.devRef .tc main_indices)
    = (best (N := 1600000) (K := 2000) (after hostOps1 (W2 m ρ c) (Proc.devRef .tc main_v7)) fits).2
  after_reads_simp

/-- Each position is a word. -/
theorem word_at (s : Fin 2000) : @Eq (BitVec 32) (W3 m ρ c (Proc.devRef .tc main_indices) (ix1 s)) (BitVec.ofNat 32 (pos (in0 m c) s)) := by
  rw [indices_at]; exact word_eq _ s

/-- The rows of the candidates. -/
theorem rows_at (s : Fin 2000) : @Eq (BitVec 32) (W4 m ρ c (Proc.devRef .tc main_v8) (ix1 s)) (BitVec.ofNat 32 (pos (in0 m c) s / 80)) := by
  have hc : W3 m ρ c (Proc.devRef .tc main_c) = constantI S_ 32 80#32 := by
    show after hostOps1 (W2 m ρ c) (Proc.devRef .tc main_c) = _
    after_reads_simp
  exact row_at (W3 m ρ c) hc s _ (pos_lt _ s) (word_at m ρ c s)

/-- The classes of the candidates. -/
theorem classes_at (s : Fin 2000) : @Eq (BitVec 32) (W6 m ρ c (Proc.devRef .tc main_v9) (ix1 s)) (BitVec.ofNat 32 (pos (in0 m c) s % 80)) := by
  have hc : W5 m ρ c (Proc.devRef .tc main_c_0) = constantI S_ 32 80#32 := by
    show after hostOps1_2 (W4 m ρ c) (Proc.devRef .tc main_c_0) = _
    after_reads_simp
  have hi : W5 m ρ c (Proc.devRef .tc main_indices) = W3 m ρ c (Proc.devRef .tc main_indices) := ((W5_of m ρ c main_indices (by decide)).trans (W4_of m ρ c main_indices (by decide)))
  exact class_at (W5 m ρ c) hc s _ (pos_lt _ s) ((congrFun hi _).trans (word_at m ρ c s))

/-- The rois of the candidates. -/
theorem roi_at (s : Fin 2000) (j : Fin 4) : @Eq EReal (W7 m ρ c (Proc.devRef .tc main_v16) (ix2 s j)) (roi (in0 m c) (in2 m c) s j) := by
  have hr : W6 m ρ c (Proc.devRef .tc main_v8) = W4 m ρ c (Proc.devRef .tc main_v8) := ((W6_of m ρ c main_v8 (by decide)).trans (W5_of m ρ c main_v8 (by decide)))
  refine (rois_at (W6 m ρ c) s _ (pos_lt (in0 m c) s) ((congrFun hr _).trans (rows_at m ρ c s)) j).trans ?_
  exact congrFun (W6_args m ρ c main_arg2 (by decide)) _

/-- The raw deltas of the candidates. -/
theorem delta_at (s : Fin 2000) (j : Fin 4) : @Eq EReal (W7 m ρ c (Proc.devRef .tc main_v24) (ix2 s j)) (delta (in0 m c) (in1 m c) s j) := by
  have hi : W6 m ρ c (Proc.devRef .tc main_indices) = W3 m ρ c (Proc.devRef .tc main_indices) := ((W6_of m ρ c main_indices (by decide)).trans ((W5_of m ρ c main_indices (by decide)).trans (W4_of m ρ c main_indices (by decide))))
  refine (deltas_at (W6 m ρ c) s _ (pos_lt (in0 m c) s) ((congrFun hi _).trans (word_at m ρ c s)) j).trans ?_
  exact congrFun (W6_args m ρ c main_arg1 (by decide)) _

/-- The padded scores. -/
theorem scores14 (s : Fin 2048) : @Eq EReal (W14 m ρ c (Proc.devRef .tc main_v25) (ix1 s))
    (if h : s.val < 2000 then score (in0 m c) ⟨s.val, h⟩ else negOne) := by
  have ho : W14 m ρ c (Proc.devRef .tc main_v25) = W8 m ρ c (Proc.devRef .tc main_v25) := ((W14_of m ρ c main_v25 (by decide)).trans ((W13_of m ρ c main_v25 (by decide)).trans ((W12_of m ρ c main_v25 (by decide)).trans ((W11_of m ρ c main_v25 (by decide)).trans ((W10_of m ρ c main_v25 (by decide)).trans (W9_of m ρ c main_v25 (by decide)))))))
  have hc : W7 m ρ c (Proc.devRef .tc main_cst) = fun _ => negOne := by
    show after hostOps1_4 (W6 m ρ c) (Proc.devRef .tc main_cst) = _
    after_reads_simp
    rfl
  refine (congrFun ho _).trans ((padded_v25 (W7 m ρ c) hc s).trans ?_)
  refine dite_congr rfl (fun h => ?_) (fun _ => rfl)
  exact congrFun (((W7_of m ρ c main_values (by decide)).trans ((W6_of m ρ c main_values (by decide)).trans ((W5_of m ρ c main_values (by decide)).trans (W4_of m ρ c main_values (by decide))))).trans (values_at m ρ c)) _

/-- The padded classes. -/
theorem classes14 (s : Fin 2048) : @Eq EReal (W14 m ρ c (Proc.devRef .tc main_v27) (ix1 s))
    (if h : s.val < 2000 then cls (in0 m c) ⟨s.val, h⟩ else 0) := by
  have ho : W14 m ρ c (Proc.devRef .tc main_v27) = W10 m ρ c (Proc.devRef .tc main_v27) := ((W14_of m ρ c main_v27 (by decide)).trans ((W13_of m ρ c main_v27 (by decide)).trans ((W12_of m ρ c main_v27 (by decide)).trans (W11_of m ρ c main_v27 (by decide)))))
  have hc : W9 m ρ c (Proc.devRef .tc main_c_5) = constantI S_ 32 0#32 := by
    show after hostOps1_6 (W8 m ρ c) (Proc.devRef .tc main_c_5) = _
    after_reads_simp
    skip
  refine (congrFun ho _).trans ((padded_v27 (W9 m ρ c) hc s).trans ?_)
  refine dite_congr rfl (fun h => ?_) (fun _ => rfl)
  have h9 : W9 m ρ c (Proc.devRef .tc main_v26) (ix1 ⟨s.val, h⟩) = FloatOps.sitofp (F := Ideal) .f32 (W8 m ρ c (Proc.devRef .tc main_v9) (ix1 ⟨s.val, h⟩)) := by
    show after hostOps1_6 (W8 m ρ c) (Proc.devRef .tc main_v26) (ix1 ⟨s.val, h⟩) = _
    after_reads_simp
    rfl
  refine h9.trans ?_
  have h8 : W8 m ρ c (Proc.devRef .tc main_v9) = W6 m ρ c (Proc.devRef .tc main_v9) := ((W8_of m ρ c main_v9 (by decide)).trans (W7_of m ρ c main_v9 (by decide)))
  exact congrArg (FloatOps.sitofp (F := Ideal) .f32) ((congrFun h8 _).trans (classes_at m ρ c ⟨s.val, h⟩))

/-- The padded rois. -/
theorem rois14 (s : Fin 2048) (k : Fin 4) : @Eq EReal (W14 m ρ c (Proc.devRef .tc main_v28) (ix2 s k))
    (if h : s.val < 2000 then roi (in0 m c) (in2 m c) ⟨s.val, h⟩ k else 0) := by
  have ho : W14 m ρ c (Proc.devRef .tc main_v28) = W12 m ρ c (Proc.devRef .tc main_v28) := ((W14_of m ρ c main_v28 (by decide)).trans (W13_of m ρ c main_v28 (by decide)))
  have hc : W11 m ρ c (Proc.devRef .tc main_c_6) = constantI S_ 32 0#32 := by
    show after hostOps1_8 (W10 m ρ c) (Proc.devRef .tc main_c_6) = _
    after_reads_simp
    skip
  refine (congrFun ho _).trans ((padded_v28 (W11 m ρ c) hc s k).trans ?_)
  refine dite_congr rfl (fun h => ?_) (fun _ => rfl)
  exact (congrFun (((W11_of m ρ c main_v16 (by decide)).trans ((W10_of m ρ c main_v16 (by decide)).trans ((W9_of m ρ c main_v16 (by decide)).trans (W8_of m ρ c main_v16 (by decide)))))) _).trans (roi_at m ρ c ⟨s.val, h⟩ k)

/-- The padded deltas. -/
theorem deltas14 (s : Fin 2048) (k : Fin 4) : @Eq EReal (W14 m ρ c (Proc.devRef .tc main_v29) (ix2 s k))
    (if h : s.val < 2000 then delta (in0 m c) (in1 m c) ⟨s.val, h⟩ k else 0) := by
  have ho : W14 m ρ c (Proc.devRef .tc main_v29) = W14 m ρ c (Proc.devRef .tc main_v29) := rfl
  have hc : W13 m ρ c (Proc.devRef .tc main_c_7) = constantI S_ 32 0#32 := by
    show after hostOps1_10 (W12 m ρ c) (Proc.devRef .tc main_c_7) = _
    after_reads_simp
    skip
  refine (congrFun ho _).trans ((padded_v29 (W13 m ρ c) hc s k).trans ?_)
  refine dite_congr rfl (fun h => ?_) (fun _ => rfl)
  exact (congrFun (((W13_of m ρ c main_v24 (by decide)).trans ((W12_of m ρ c main_v24 (by decide)).trans ((W11_of m ρ c main_v24 (by decide)).trans ((W10_of m ρ c main_v24 (by decide)).trans ((W9_of m ρ c main_v24 (by decide)).trans (W8_of m ρ c main_v24 (by decide)))))))) _).trans (delta_at m ρ c ⟨s.val, h⟩ k)

/-- The width and the height as the region takes them. -/
theorem wide15 : kW (V15 m ρ c main_v38) = wd m c ∧ kH (V15 m ρ c main_v38) = ht m c := by
  have h5 : W14 m ρ c (Proc.devRef .tc main_v5) = W1 m ρ c (Proc.devRef .tc main_v5) := ((W14_of m ρ c main_v5 (by decide)).trans ((W13_of m ρ c main_v5 (by decide)).trans ((W12_of m ρ c main_v5 (by decide)).trans ((W11_of m ρ c main_v5 (by decide)).trans ((W10_of m ρ c main_v5 (by decide)).trans ((W9_of m ρ c main_v5 (by decide)).trans ((W8_of m ρ c main_v5 (by decide)).trans ((W7_of m ρ c main_v5 (by decide)).trans ((W6_of m ρ c main_v5 (by decide)).trans ((W5_of m ρ c main_v5 (by decide)).trans ((W4_of m ρ c main_v5 (by decide)).trans ((W3_of m ρ c main_v5 (by decide)).trans (W2_of m ρ c main_v5 (by decide))))))))))))))
  have h2 : W14 m ρ c (Proc.devRef .tc main_v2) = W1 m ρ c (Proc.devRef .tc main_v2) := ((W14_of m ρ c main_v2 (by decide)).trans ((W13_of m ρ c main_v2 (by decide)).trans ((W12_of m ρ c main_v2 (by decide)).trans ((W11_of m ρ c main_v2 (by decide)).trans ((W10_of m ρ c main_v2 (by decide)).trans ((W9_of m ρ c main_v2 (by decide)).trans ((W8_of m ρ c main_v2 (by decide)).trans ((W7_of m ρ c main_v2 (by decide)).trans ((W6_of m ρ c main_v2 (by decide)).trans ((W5_of m ρ c main_v2 (by decide)).trans ((W4_of m ρ c main_v2 (by decide)).trans ((W3_of m ρ c main_v2 (by decide)).trans (W2_of m ρ c main_v2 (by decide))))))))))))))
  exact ⟨(wide (W14 m ρ c)).1.trans ((congrFun h5 _).trans (wd_at m ρ c)),
    (wide (W14 m ρ c)).2.trans ((congrFun h2 _).trans (ht_at m ρ c))⟩

end Cert.KernelSide
-- ==== Proof.KernelFinal.lean ====
/- The kernel's region, read over the candidates: its boxes, its shift of the classes, its overlaps, and with them the
   three results of the kernel. -/
module

public import proofs.«01_k».proof.Proof.KernelCand

@[expose] public section

set_option maxRecDepth 16384

noncomputable section

namespace Cert.KernelSide

open Idealize.ShloMosaic Idealize.ShloMosaic.TcCoe Idealize.ShloMosaic.StableHlo
open Cert.KernelIdeal Cert.KernelIdeal.Gen Cert.Spec

variable (m : (ℓ : Loc nD τ sig) → Buf (Elt Ideal) ℓ) (ρ : Dev nD → PrngReg) (c : Dev nD)

/-- The scores in the region. -/
theorem t55 (r : ℕ) (h : r < 2048) : at8 (V15 m ρ c main_v55) r = if h' : r < 2000 then score (in0 m c) ⟨r, h'⟩ else negOne :=
  (tile_v55 (W14 m ρ c) r h).trans (scores14 m ρ c ⟨r, h⟩)

/-- The classes in the region. -/
theorem t56 (r : ℕ) (h : r < 2048) : at8 (V15 m ρ c main_v56) r = if h' : r < 2000 then cls (in0 m c) ⟨r, h'⟩ else 0 :=
  (tile_v56 (W14 m ρ c) r h).trans (classes14 m ρ c ⟨r, h⟩)

/-- The classes in the region, as a column. -/
theorem t65 (r : ℕ) (h : r < 2048) : atC (V15 m ρ c main_v65) r = if h' : r < 2000 then cls (in0 m c) ⟨r, h'⟩ else 0 :=
  (col_v65 (W14 m ρ c) r h).trans (classes14 m ρ c ⟨r, h⟩)

/-- Column 0 of the rois in the region. -/
theorem t57 (r : ℕ) (h : r < 2048) : at8 (V15 m ρ c main_v57) r = if h' : r < 2000 then roi (in0 m c) (in2 m c) ⟨r, h'⟩ 0 else 0 :=
  (tile_v57 (W14 m ρ c) r h).trans (rois14 m ρ c ⟨r, h⟩ 0)

/-- Column 0 of the deltas in the region. -/
theorem t61 (r : ℕ) (h : r < 2048) : at8 (V15 m ρ c main_v61) r = if h' : r < 2000 then delta (in0 m c) (in1 m c) ⟨r, h'⟩ 0 else 0 :=
  (tile_v61 (W14 m ρ c) r h).trans (deltas14 m ρ c ⟨r, h⟩ 0)

/-- Column 0 of the rois in the region, as a column. -/
theorem t66 (r : ℕ) (h : r < 2048) : atC (V15 m ρ c main_v66) r = if h' : r < 2000 then roi (in0 m c) (in2 m c) ⟨r, h'⟩ 0 else 0 :=
  (col_v66 (W14 m ρ c) r h).trans (rois14 m ρ c ⟨r, h⟩ 0)

/-- Column 0 of the deltas in the region, as a column. -/
theorem t70 (r : ℕ) (h : r < 2048) : atC (V15 m ρ c main_v70) r = if h' : r < 2000 then delta (in0 m c) (in1 m c) ⟨r, h'⟩ 0 else 0 :=
  (col_v70 (W14 m ρ c) r h).trans (deltas14 m ρ c ⟨r, h⟩ 0)

/-- Column 1 of the rois in the region. -/
theorem t58 (r : ℕ) (h : r < 2048) : at8 (V15 m ρ c main_v58) r = if h' : r < 2000 then roi (in0 m c) (in2 m c) ⟨r, h'⟩ 1 else 0 :=
  (tile_v58 (W14 m ρ c) r h).trans (rois14 m ρ c ⟨r, h⟩ 1)

/-- Column 1 of the deltas in the region. -/
theorem t62 (r : ℕ) (h : r < 2048) : at8 (V15 m ρ c main_v62) r = if h' : r < 2000 then delta (in0 m c) (in1 m c) ⟨r, h'⟩ 1 else 0 :=
  (tile_v62 (W14 m ρ c) r h).trans (deltas14 m ρ c ⟨r, h⟩ 1)

/-- Column 1 of the rois in the region, as a column. -/
theorem t67 (r : ℕ) (h : r < 2048) : atC (V15 m ρ c main_v67) r = if h' : r < 2000 then roi (in0 m c) (in2 m c) ⟨r, h'⟩ 1 else 0 :=
  (col_v67 (W14 m ρ c) r h).trans (rois14 m ρ c ⟨r, h⟩ 1)

/-- Column 1 of the deltas in the region, as a column. -/
theorem t71 (r : ℕ) (h : r < 2048) : atC (V15 m ρ c main_v71) r = if h' : r < 2000 then delta (in0 m c) (in1 m c) ⟨r, h'⟩ 1 else 0 :=
  (col_v71 (W14 m ρ c) r h).trans (deltas14 m ρ c ⟨r, h⟩ 1)

/-- Column 2 of the rois in the region. -/
theorem t59 (r : ℕ) (h : r < 2048) : at8 (V15 m ρ c main_v59) r = if h' : r < 2000 then roi (in0 m c) (in2 m c) ⟨r, h'⟩ 2 else 0 :=
  (tile_v59 (W14 m ρ c) r h).trans (rois14 m ρ c ⟨r, h⟩ 2)

/-- Column 2 of the deltas in the region. -/
theorem t63 (r : ℕ) (h : r < 2048) : at8 (V15 m ρ c main_v63) r = if h' : r < 2000 then delta (in0 m c) (in1 m c) ⟨r, h'⟩ 2 else 0 :=
  (tile_v63 (W14 m ρ c) r h).trans (deltas14 m ρ c ⟨r, h⟩ 2)

/-- Column 2 of the rois in the region, as a column. -/
theorem t68 (r : ℕ) (h : r < 2048) : atC (V15 m ρ c main_v68) r = if h' : r < 2000 then roi (in0 m c) (in2 m c) ⟨r, h'⟩ 2 else 0 :=
  (col_v68 (W14 m ρ c) r h).trans (rois14 m ρ c ⟨r, h⟩ 2)

/-- Column 2 of the deltas in the region, as a column. -/
theorem t72 (r : ℕ) (h : r < 2048) : atC (V15 m ρ c main_v72) r = if h' : r < 2000 then delta (in0 m c) (in1 m c) ⟨r, h'⟩ 2 else 0 :=
  (col_v72 (W14 m ρ c) r h).trans (deltas14 m ρ c ⟨r, h⟩ 2)

/-- Column 3 of the rois in the region. -/
theorem t60 (r : ℕ) (h : r < 2048) : at8 (V15 m ρ c main_v60) r = if h' : r < 2000 then roi (in0 m c) (in2 m c) ⟨r, h'⟩ 3 else 0 :=
  (tile_v60 (W14 m ρ c) r h).trans (rois14 m ρ c ⟨r, h⟩ 3)

/-- Column 3 of the deltas in the region. -/
theorem t64 (r : ℕ) (h : r < 2048) : at8 (V15 m ρ c main_v64) r = if h' : r < 2000 then delta (in0 m c) (in1 m c) ⟨r, h'⟩ 3 else 0 :=
  (tile_v64 (W14 m ρ c) r h).trans (deltas14 m ρ c ⟨r, h⟩ 3)

/-- Column 3 of the rois in the region, as a column. -/
theorem t69 (r : ℕ) (h : r < 2048) : atC (V15 m ρ c main_v69) r = if h' : r < 2000 then roi (in0 m c) (in2 m c) ⟨r, h'⟩ 3 else 0 :=
  (col_v69 (W14 m ρ c) r h).trans (rois14 m ρ c ⟨r, h⟩ 3)

/-- Column 3 of the deltas in the region, as a column. -/
theorem t73 (r : ℕ) (h : r < 2048) : atC (V15 m ρ c main_v73) r = if h' : r < 2000 then delta (in0 m c) (in1 m c) ⟨r, h'⟩ 3 else 0 :=
  (col_v73 (W14 m ρ c) r h).trans (deltas14 m ρ c ⟨r, h⟩ 3)

/-- Coordinate 0 of a candidate's box in the region. -/
theorem in_0 (r : ℕ) (h : r < 2000) : bX1 (V15 m ρ c main_v38) (V15 m ρ c main_v57) (V15 m ρ c main_v59) (V15 m ρ c main_v61) (V15 m ρ c main_v63) r = box (in0 m c) (in1 m c) (in2 m c) (wd m c) (ht m c) ⟨r, h⟩ 0 := by
  have h' : r < 2048 := by omega
  unfold bX1
  rw [(wide15 m ρ c).1, t57 m ρ c r h', t59 m ρ c r h', t61 m ρ c r h', t63 m ρ c r h']
  simp only [dif_pos h]
  rfl

/-- Coordinate 0 past the candidates exceeds no candidate's. -/
theorem past_0 (r : ℕ) (h : ¬ r < 2000) (h' : r < 2048) : bX1 (V15 m ρ c main_v38) (V15 m ρ c main_v57) (V15 m ρ c main_v59) (V15 m ρ c main_v61) (V15 m ρ c main_v63) r ≤ box (in0 m c) (in1 m c) (in2 m c) (wd m c) (ht m c) 0 0 := by
  unfold bX1
  rw [(wide15 m ρ c).1, t57 m ρ c r h', t59 m ρ c r h', t61 m ρ c r h', t63 m ρ c r h']
  simp only [dif_neg h]
  exact pad_lo _ _ _ _ _

/-- Coordinate 1 of a candidate's box in the region. -/
theorem in_1 (r : ℕ) (h : r < 2000) : bY1 (V15 m ρ c main_v38) (V15 m ρ c main_v58) (V15 m ρ c main_v60) (V15 m ρ c main_v62) (V15 m ρ c main_v64) r = box (in0 m c) (in1 m c) (in2 m c) (wd m c) (ht m c) ⟨r, h⟩ 1 := by
  have h' : r < 2048 := by omega
  unfold bY1
  rw [(wide15 m ρ c).2, t58 m ρ c r h', t60 m ρ c r h', t62 m ρ c r h', t64 m ρ c r h']
  simp only [dif_pos h]
  rfl

/-- Coordinate 1 past the candidates exceeds no candidate's. -/
theorem past_1 (r : ℕ) (h : ¬ r < 2000) (h' : r < 2048) : bY1 (V15 m ρ c main_v38) (V15 m ρ c main_v58) (V15 m ρ c main_v60) (V15 m ρ c main_v62) (V15 m ρ c main_v64) r ≤ box (in0 m c) (in1 m c) (in2 m c) (wd m c) (ht m c) 0 1 := by
  unfold bY1
  rw [(wide15 m ρ c).2, t58 m ρ c r h', t60 m ρ c r h', t62 m ρ c r h', t64 m ρ c r h']
  simp only [dif_neg h]
  exact pad_lo _ _ _ _ _

/-- Coordinate 2 of a candidate's box in the region. -/
theorem in_2 (r : ℕ) (h : r < 2000) : bX2 (V15 m ρ c main_v38) (V15 m ρ c main_v57) (V15 m ρ c main_v59) (V15 m ρ c main_v61) (V15 m ρ c main_v63) r = box (in0 m c) (in1 m c) (in2 m c) (wd m c) (ht m c) ⟨r, h⟩ 2 := by
  have h' : r < 2048 := by omega
  unfold bX2
  rw [(wide15 m ρ c).1, t57 m ρ c r h', t59 m ρ c r h', t61 m ρ c r h', t63 m ρ c r h']
  simp only [dif_pos h]
  rfl

/-- Coordinate 2 past the candidates exceeds no candidate's. -/
theorem past_2 (r : ℕ) (h : ¬ r < 2000) (h' : r < 2048) : bX2 (V15 m ρ c main_v38) (V15 m ρ c main_v57) (V15 m ρ c main_v59) (V15 m ρ c main_v61) (V15 m ρ c main_v63) r ≤ box (in0 m c) (in1 m c) (in2 m c) (wd m c) (ht m c) 0 2 := by
  unfold bX2
  rw [(wide15 m ρ c).1, t57 m ρ c r h', t59 m ρ c r h', t61 m ρ c r h', t63 m ρ c r h']
  simp only [dif_neg h]
  exact pad_hi _ _ _ _ _

/-- Coordinate 3 of a candidate's box in the region. -/
theorem in_3 (r : ℕ) (h : r < 2000) : bY2 (V15 m ρ c main_v38) (V15 m ρ c main_v58) (V15 m ρ c main_v60) (V15 m ρ c main_v62) (V15 m ρ c main_v64) r = box (in0 m c) (in1 m c) (in2 m c) (wd m c) (ht m c) ⟨r, h⟩ 3 := by
  have h' : r < 2048 := by omega
  unfold bY2
  rw [(wide15 m ρ c).2, t58 m ρ c r h', t60 m ρ c r h', t62 m ρ c r h', t64 m ρ c r h']
  simp only [dif_pos h]
  rfl

/-- Coordinate 3 past the candidates exceeds no candidate's. -/
theorem past_3 (r : ℕ) (h : ¬ r < 2000) (h' : r < 2048) : bY2 (V15 m ρ c main_v38) (V15 m ρ c main_v58) (V15 m ρ c main_v60) (V15 m ρ c main_v62) (V15 m ρ c main_v64) r ≤ box (in0 m c) (in1 m c) (in2 m c) (wd m c) (ht m c) 0 3 := by
  unfold bY2
  rw [(wide15 m ρ c).2, t58 m ρ c r h', t60 m ρ c r h', t62 m ρ c r h', t64 m ρ c r h']
  simp only [dif_neg h]
  exact pad_hi _ _ _ _ _

/-- Four maxima over equal entries are equal. -/
theorem four {ι : Type} [Fintype ι] (z : EReal) {a0 a1 a2 a3 b0 b1 b2 b3 : ι → EReal}
    (h0 : ∀ p, a0 p = b0 p) (h1 : ∀ p, a1 p = b1 p) (h2 : ∀ p, a2 p = b2 p) (h3 : ∀ p, a3 p = b3 p) :
    max (max (Finset.fold max z (fun p => a0 p) Finset.univ) (Finset.fold max z (fun p => a1 p) Finset.univ))
      (max (Finset.fold max z (fun p => a2 p) Finset.univ) (Finset.fold max z (fun p => a3 p) Finset.univ)) + 1
    = max (max (Finset.fold max z (fun p => b0 p) Finset.univ) (Finset.fold max z (fun p => b1 p) Finset.univ))
      (max (Finset.fold max z (fun p => b2 p) Finset.univ) (Finset.fold max z (fun p => b3 p) Finset.univ)) + 1 := by
  obtain rfl := funext h0
  obtain rfl := funext h1
  obtain rfl := funext h2
  obtain rfl := funext h3
  rfl

/-- The shift of the classes in the region is the largest coordinate, plus one. -/
theorem shift_eq : kOff (V15 m ρ c main_v38) (V15 m ρ c main_v57) (V15 m ρ c main_v58) (V15 m ρ c main_v59) (V15 m ρ c main_v60) (V15 m ρ c main_v61) (V15 m ρ c main_v62) (V15 m ρ c main_v63) (V15 m ρ c main_v64) = off (in0 m c) (in1 m c) (in2 m c) (wd m c) (ht m c) := by
  have hp : ∀ p : Fin 8 × Fin 256, p.1.val * 256 + p.2.val = 256 * p.1.val + p.2.val := fun p => by omega
  have hlt : ∀ p : Fin 8 × Fin 256, p.1.val * 256 + p.2.val < 2048 := fun p => by
    have h1 := p.1.isLt
    have h2 := p.2.isLt
    omega
  have main := largest (in0 m c) (in1 m c) (in2 m c) (wd m c) (ht m c)
    (fun j p => ![bX1 (V15 m ρ c main_v38) (V15 m ρ c main_v57) (V15 m ρ c main_v59) (V15 m ρ c main_v61) (V15 m ρ c main_v63) (p.1.val * 256 + p.2.val), bY1 (V15 m ρ c main_v38) (V15 m ρ c main_v58) (V15 m ρ c main_v60) (V15 m ρ c main_v62) (V15 m ρ c main_v64) (p.1.val * 256 + p.2.val), bX2 (V15 m ρ c main_v38) (V15 m ρ c main_v57) (V15 m ρ c main_v59) (V15 m ρ c main_v61) (V15 m ρ c main_v63) (p.1.val * 256 + p.2.val), bY2 (V15 m ρ c main_v38) (V15 m ρ c main_v58) (V15 m ρ c main_v60) (V15 m ρ c main_v62) (V15 m ρ c main_v64) (p.1.val * 256 + p.2.val)] j)
    (fun j p hr => by
      match j with
      | ⟨0, _⟩ => exact in_0 m ρ c _ hr
      | ⟨1, _⟩ => exact in_1 m ρ c _ hr
      | ⟨2, _⟩ => exact in_2 m ρ c _ hr
      | ⟨3, _⟩ => exact in_3 m ρ c _ hr)
    (fun j p hr => by
      match j with
      | ⟨0, _⟩ => exact past_0 m ρ c _ hr (hlt p)
      | ⟨1, _⟩ => exact past_1 m ρ c _ hr (hlt p)
      | ⟨2, _⟩ => exact past_2 m ρ c _ hr (hlt p)
      | ⟨3, _⟩ => exact past_3 m ρ c _ hr (hlt p))
  dsimp only [Matrix.cons_val] at main
  refine Eq.trans ?_ main
  unfold kOff
  pointwise [k1_pay22]
  have e0 : ∀ p : Fin 8 × Fin 256, decLo (kW (V15 m ρ c main_v38)) ((V15 m ρ c main_v57) (ix2 p.1 p.2)) ((V15 m ρ c main_v59) (ix2 p.1 p.2)) ((V15 m ρ c main_v61) (ix2 p.1 p.2)) ((V15 m ρ c main_v63) (ix2 p.1 p.2))
      = bX1 (V15 m ρ c main_v38) (V15 m ρ c main_v57) (V15 m ρ c main_v59) (V15 m ρ c main_v61) (V15 m ρ c main_v63) (p.1.val * 256 + p.2.val) := fun p => by
    rw [hp p]; unfold bX1; simp only [at8_pos]
  have e1 : ∀ p : Fin 8 × Fin 256, decLo (kH (V15 m ρ c main_v38)) ((V15 m ρ c main_v58) (ix2 p.1 p.2)) ((V15 m ρ c main_v60) (ix2 p.1 p.2)) ((V15 m ρ c main_v62) (ix2 p.1 p.2)) ((V15 m ρ c main_v64) (ix2 p.1 p.2))
      = bY1 (V15 m ρ c main_v38) (V15 m ρ c main_v58) (V15 m ρ c main_v60) (V15 m ρ c main_v62) (V15 m ρ c main_v64) (p.1.val * 256 + p.2.val) := fun p => by
    rw [hp p]; unfold bY1; simp only [at8_pos]
  have e2 : ∀ p : Fin 8 × Fin 256, decHi (kW (V15 m ρ c main_v38)) ((V15 m ρ c main_v57) (ix2 p.1 p.2)) ((V15 m ρ c main_v59) (ix2 p.1 p.2)) ((V15 m ρ c main_v61) (ix2 p.1 p.2)) ((V15 m ρ c main_v63) (ix2 p.1 p.2))
      = bX2 (V15 m ρ c main_v38) (V15 m ρ c main_v57) (V15 m ρ c main_v59) (V15 m ρ c main_v61) (V15 m ρ c main_v63) (p.1.val * 256 + p.2.val) := fun p => by
    rw [hp p]; unfold bX2; simp only [at8_pos]
  have e3 : ∀ p : Fin 8 × Fin 256, decHi (kH (V15 m ρ c main_v38)) ((V15 m ρ c main_v58) (ix2 p.1 p.2)) ((V15 m ρ c main_v60) (ix2 p.1 p.2)) ((V15 m ρ c main_v62) (ix2 p.1 p.2)) ((V15 m ρ c main_v64) (ix2 p.1 p.2))
      = bY2 (V15 m ρ c main_v38) (V15 m ρ c main_v58) (V15 m ρ c main_v60) (V15 m ρ c main_v62) (V15 m ρ c main_v64) (p.1.val * 256 + p.2.val) := fun p => by
    rw [hp p]; unfold bY2; simp only [at8_pos]
  exact four _ (fun p => (dec_x1_at _ _ _ _ _ p.1 p.2).trans (e0 p)) (fun p => (dec_y1_at _ _ _ _ _ p.1 p.2).trans (e1 p)) (fun p => (dec_x2_at _ _ _ _ _ p.1 p.2).trans (e2 p)) (fun p => (dec_y2_at _ _ _ _ _ p.1 p.2).trans (e3 p))

/-- Coordinate 0 of a candidate's moved box, from the columns. -/
theorem col_0 (k : ℕ) (h : k < 2000) : cLo (kW (V15 m ρ c main_v38)) (off (in0 m c) (in1 m c) (in2 m c) (wd m c) (ht m c)) (V15 m ρ c main_v66) (V15 m ρ c main_v68) (V15 m ρ c main_v70) (V15 m ρ c main_v72) (V15 m ρ c main_v65) k = moved (in0 m c) (in1 m c) (in2 m c) (wd m c) (ht m c) ⟨k, h⟩ 0 := by
  have h' : k < 2048 := by omega
  unfold cLo
  rw [(wide15 m ρ c).1, t66 m ρ c k h', t68 m ρ c k h', t70 m ρ c k h', t72 m ρ c k h', t65 m ρ c k h']
  simp only [dif_pos h]
  rfl

/-- Coordinate 1 of a candidate's moved box, from the columns. -/
theorem col_1 (k : ℕ) (h : k < 2000) : cLo (kH (V15 m ρ c main_v38)) (off (in0 m c) (in1 m c) (in2 m c) (wd m c) (ht m c)) (V15 m ρ c main_v67) (V15 m ρ c main_v69) (V15 m ρ c main_v71) (V15 m ρ c main_v73) (V15 m ρ c main_v65) k = moved (in0 m c) (in1 m c) (in2 m c) (wd m c) (ht m c) ⟨k, h⟩ 1 := by
  have h' : k < 2048 := by omega
  unfold cLo
  rw [(wide15 m ρ c).2, t67 m ρ c k h', t69 m ρ c k h', t71 m ρ c k h', t73 m ρ c k h', t65 m ρ c k h']
  simp only [dif_pos h]
  rfl

/-- Coordinate 2 of a candidate's moved box, from the columns. -/
theorem col_2 (k : ℕ) (h : k < 2000) : cHi (kW (V15 m ρ c main_v38)) (off (in0 m c) (in1 m c) (in2 m c) (wd m c) (ht m c)) (V15 m ρ c main_v66) (V15 m ρ c main_v68) (V15 m ρ c main_v70) (V15 m ρ c main_v72) (V15 m ρ c main_v65) k = moved (in0 m c) (in1 m c) (in2 m c) (wd m c) (ht m c) ⟨k, h⟩ 2 := by
  have h' : k < 2048 := by omega
  unfold cHi
  rw [(wide15 m ρ c).1, t66 m ρ c k h', t68 m ρ c k h', t70 m ρ c k h', t72 m ρ c k h', t65 m ρ c k h']
  simp only [dif_pos h]
  rfl

/-- Coordinate 3 of a candidate's moved box, from the columns. -/
theorem col_3 (k : ℕ) (h : k < 2000) : cHi (kH (V15 m ρ c main_v38)) (off (in0 m c) (in1 m c) (in2 m c) (wd m c) (ht m c)) (V15 m ρ c main_v67) (V15 m ρ c main_v69) (V15 m ρ c main_v71) (V15 m ρ c main_v73) (V15 m ρ c main_v65) k = moved (in0 m c) (in1 m c) (in2 m c) (wd m c) (ht m c) ⟨k, h⟩ 3 := by
  have h' : k < 2048 := by omega
  unfold cHi
  rw [(wide15 m ρ c).2, t67 m ρ c k h', t69 m ρ c k h', t71 m ρ c k h', t73 m ρ c k h', t65 m ρ c k h']
  simp only [dif_pos h]
  rfl

/-- The region's overlap of two candidates. -/
theorem regOv_at (k r : ℕ) (hk : k < 2000) (hr : r < 2000) :
    regOv (V15 m ρ c main_v38) (V15 m ρ c main_v56) (V15 m ρ c main_v57) (V15 m ρ c main_v58) (V15 m ρ c main_v59) (V15 m ρ c main_v60) (V15 m ρ c main_v61) (V15 m ρ c main_v62) (V15 m ρ c main_v63) (V15 m ρ c main_v64) (V15 m ρ c main_v65) (V15 m ρ c main_v66) (V15 m ρ c main_v67) (V15 m ρ c main_v68) (V15 m ρ c main_v69) (V15 m ρ c main_v70) (V15 m ρ c main_v71) (V15 m ρ c main_v72) (V15 m ρ c main_v73) k r = ovN (in0 m c) (in1 m c) (in2 m c) (wd m c) (ht m c) k r := by
  have ha : ∀ s : Fin 2000, (box (in0 m c) (in1 m c) (in2 m c) (wd m c) (ht m c) s 2 - box (in0 m c) (in1 m c) (in2 m c) (wd m c) (ht m c) s 0) * (box (in0 m c) (in1 m c) (in2 m c) (wd m c) (ht m c) s 3 - box (in0 m c) (in1 m c) (in2 m c) (wd m c) (ht m c) s 1) = area (in0 m c) (in1 m c) (in2 m c) (wd m c) (ht m c) s :=
    area_eq (in0 m c) (in1 m c) (in2 m c) _ _
  have h56 := t56 m ρ c r (by omega)
  rw [dif_pos hr] at h56
  unfold regOv
  rw [shift_eq m ρ c, in_0 m ρ c r hr, in_1 m ρ c r hr, in_2 m ρ c r hr, in_3 m ρ c r hr, col_0 m ρ c k hk, col_1 m ρ c k hk, col_2 m ρ c k hk, col_3 m ρ c k hk, h56, ha, overlap_comm]
  unfold ovN
  rw [dif_pos ⟨hk, hr⟩]
  rfl

/-- The scores after the suppression, as the kernel computes them. -/
theorem final_at : W17 m ρ c (Proc.devRef .tc main_v76) = final (in0 m c) (in1 m c) (in2 m c) (wd m c) (ht m c) := by
  funext i
  idx_vars i
  rename' i0 => r
  refine (out_v76 (W16 m ρ c) r).trans ?_
  have ha : W16 m ρ c (Proc.devRef .tc main_v74_0) = (dat1 (V15 m ρ) c).arrAt 20 cfg1.N := W16_arr m ρ c 20
  have hr := r.isLt
  have hpos : 256 * (r.val / 256 % 8) + r.val % 256 = r.val := by omega
  rw [ha]
  unfold at8
  refine (arr1_score (V15 m ρ) c _ _).trans ?_
  have h55 := t55 m ρ c r.val (by omega)
  rw [dif_pos hr] at h55
  unfold final
  have hk := keep_congr (N := 2000) (sc := at8 (V15 m ρ c main_v55)) (sc' := scoreN (in0 m c))
    (ov := regOv (V15 m ρ c main_v38) (V15 m ρ c main_v56) (V15 m ρ c main_v57) (V15 m ρ c main_v58) (V15 m ρ c main_v59) (V15 m ρ c main_v60) (V15 m ρ c main_v61) (V15 m ρ c main_v62) (V15 m ρ c main_v63) (V15 m ρ c main_v64) (V15 m ρ c main_v65) (V15 m ρ c main_v66) (V15 m ρ c main_v67) (V15 m ρ c main_v68) (V15 m ρ c main_v69) (V15 m ρ c main_v70) (V15 m ρ c main_v71) (V15 m ρ c main_v72) (V15 m ρ c main_v73)) (ov' := ovN (in0 m c) (in1 m c) (in2 m c) (wd m c) (ht m c))
    (fun s hs => by unfold scoreN; rw [t55 m ρ c s (by omega)])
    (fun k s hks hs => regOv_at m ρ c k s (by omega) hs) 2000 le_rfl r.val hr
  dsimp only
  rw [hpos]
  have hv : @Eq EReal (V15 m ρ c main_v55 (ix2 ⟨r.val / 256 % 8, Nat.mod_lt _ (by omega)⟩ ⟨r.val % 256, Nat.mod_lt _ (by omega)⟩)) (score (in0 m c) r) := h55
  by_cases hq : keep (scoreN (in0 m c)) (ovN (in0 m c) (in1 m c) (in2 m c) (wd m c) (ht m c)) 2000 r.val
  · rw [if_pos (hk.mpr hq)]
    exact hv.trans (if_pos hq).symm
  · rw [if_neg (fun q => hq (hk.mp q))]
    exact (if_neg hq).symm

/-- Coordinate 0 of the boxes the region leaves. -/
theorem boxes_0 (r : Fin 2000) : @Eq EReal (W17 m ρ c (Proc.devRef .tc main_v89) (ix2 r 0)) (box (in0 m c) (in1 m c) (in2 m c) (wd m c) (ht m c) r 0) := by
  refine (box_0 (W16 m ρ c) r).trans ?_
  have ha : W16 m ρ c (Proc.devRef .tc main_v74_1) = (dat1 (V15 m ρ) c).arrAt 21 cfg1.N := W16_arr m ρ c 21
  rw [ha]
  unfold at8
  exact (arr1_x1 (V15 m ρ) c _ _).trans (in_0 m ρ c r.val r.isLt)

/-- Coordinate 1 of the boxes the region leaves. -/
theorem boxes_1 (r : Fin 2000) : @Eq EReal (W17 m ρ c (Proc.devRef .tc main_v89) (ix2 r 1)) (box (in0 m c) (in1 m c) (in2 m c) (wd m c) (ht m c) r 1) := by
  refine (box_1 (W16 m ρ c) r).trans ?_
  have ha : W16 m ρ c (Proc.devRef .tc main_v74_2) = (dat1 (V15 m ρ) c).arrAt 22 cfg1.N := W16_arr m ρ c 22
  rw [ha]
  unfold at8
  exact (arr1_y1 (V15 m ρ) c _ _).trans (in_1 m ρ c r.val r.isLt)

/-- Coordinate 2 of the boxes the region leaves. -/
theorem boxes_2 (r : Fin 2000) : @Eq EReal (W17 m ρ c (Proc.devRef .tc main_v89) (ix2 r 2)) (box (in0 m c) (in1 m c) (in2 m c) (wd m c) (ht m c) r 2) := by
  refine (box_2 (W16 m ρ c) r).trans ?_
  have ha : W16 m ρ c (Proc.devRef .tc main_v74_3) = (dat1 (V15 m ρ) c).arrAt 23 cfg1.N := W16_arr m ρ c 23
  rw [ha]
  unfold at8
  exact (arr1_x2 (V15 m ρ) c _ _).trans (in_2 m ρ c r.val r.isLt)

/-- Coordinate 3 of the boxes the region leaves. -/
theorem boxes_3 (r : Fin 2000) : @Eq EReal (W17 m ρ c (Proc.devRef .tc main_v89) (ix2 r 3)) (box (in0 m c) (in1 m c) (in2 m c) (wd m c) (ht m c) r 3) := by
  refine (box_3 (W16 m ρ c) r).trans ?_
  have ha : W16 m ρ c (Proc.devRef .tc main_v74_4) = (dat1 (V15 m ρ) c).arrAt 24 cfg1.N := W16_arr m ρ c 24
  rw [ha]
  unfold at8
  exact (arr1_y2 (V15 m ρ) c _ _).trans (in_3 m ρ c r.val r.isLt)

/-- The boxes the region leaves are the candidates' boxes. -/
theorem boxes_at (r : Fin 2000) (j : Fin 4) : @Eq EReal (W17 m ρ c (Proc.devRef .tc main_v89) (ix2 r j)) (box (in0 m c) (in1 m c) (in2 m c) (wd m c) (ht m c) r j) := by
  match j with
  | ⟨0, _⟩ => exact boxes_0 m ρ c r
  | ⟨1, _⟩ => exact boxes_1 m ρ c r
  | ⟨2, _⟩ => exact boxes_2 m ρ c r
  | ⟨3, _⟩ => exact boxes_3 m ρ c r

/-- The first result: the 100 best scores. -/
theorem result_values : W17 m ρ c (Proc.devRef .tc main_values_13)
    = (best (N := 2000) (K := 100) (final (in0 m c) (in1 m c) (in2 m c) (wd m c) (ht m c)) fits').1 := by
  rw [← final_at m ρ c]; exact final_values (W16 m ρ c)

/-- The boxes of the 100 best. -/
theorem result_boxes (s : Fin 100) (k : ℕ) (hk : k < 2000)
    (hI : (best (N := 2000) (K := 100) (final (in0 m c) (in1 m c) (in2 m c) (wd m c) (ht m c)) fits').2 (ix1 s) = BitVec.ofNat 32 k) (j : Fin 4) :
    @Eq EReal (W17 m ρ c (Proc.devRef .tc main_v96) (ix2 s j)) (box (in0 m c) (in1 m c) (in2 m c) (wd m c) (ht m c) ⟨k, hk⟩ j) := by
  rw [← final_at m ρ c] at hI
  exact (final_boxes (W16 m ρ c) s k hk hI j).trans (boxes_at m ρ c ⟨k, hk⟩ j)

/-- The classes of the 100 best. -/
theorem result_classes (s : Fin 100) (k : ℕ) (hk : k < 2000)
    (hI : (best (N := 2000) (K := 100) (final (in0 m c) (in1 m c) (in2 m c) (wd m c) (ht m c)) fits').2 (ix1 s) = BitVec.ofNat 32 k) :
    @Eq (BitVec 32) (W17 m ρ c (Proc.devRef .tc main_v103) (ix1 s)) (BitVec.ofNat 32 (pos (in0 m c) ⟨k, hk⟩ % 80)) := by
  rw [← final_at m ρ c] at hI
  refine (final_class (W16 m ρ c) s k hk hI).trans ?_
  have h9 : W17 m ρ c (Proc.devRef .tc main_v9) = W6 m ρ c (Proc.devRef .tc main_v9) := ((W17_of m ρ c main_v9 (by decide)).trans ((W16_of m ρ c main_v9 (by decide)).trans ((W15_of m ρ c main_v9 (by decide)).trans ((W14_of m ρ c main_v9 (by decide)).trans ((W13_of m ρ c main_v9 (by decide)).trans ((W12_of m ρ c main_v9 (by decide)).trans ((W11_of m ρ c main_v9 (by decide)).trans ((W10_of m ρ c main_v9 (by decide)).trans ((W9_of m ρ c main_v9 (by decide)).trans ((W8_of m ρ c main_v9 (by decide)).trans (W7_of m ρ c main_v9 (by decide))))))))))))
  exact (congrFun h9 _).trans (classes_at m ρ c ⟨k, hk⟩)

end Cert.KernelSide
-- ==== Proof.RefStages.lean ====
/- The reference before its loop, stretch by stretch: every buffer is written once, so what a stretch leaves in a
   buffer is what the loop finds there. -/
module

public import proofs.«01_k».proof.Proof.RefFrame

@[expose] public section

set_option maxRecDepth 16384

noncomputable section

namespace Cert.RefSide

open Idealize.ShloMosaic Idealize.ShloMosaic.TcCoe Idealize.ShloMosaic.StableHlo
open Cert.ReferenceIdeal Cert.ReferenceIdeal.Gen Cert.ReferenceIdeal.Value

variable {F : FTy → Type} [FloatOps F]
variable (V : Valuation τ sig (Elt F))

/-- The buffers after 1 of the stretches before the loop. -/
def R1 : Valuation τ sig (Elt F) := after hostOps0 (V)

/-- The buffers after 2 of the stretches before the loop. -/
def R2 : Valuation τ sig (Elt F) := after hostOps0_1 (R1 V)

/-- The buffers after 3 of the stretches before the loop. -/
def R3 : Valuation τ sig (Elt F) := after hostOps0_2 (R2 V)

/-- The buffers after 4 of the stretches before the loop. -/
def R4 : Valuation τ sig (Elt F) := after hostOps0_3 (R3 V)

/-- The buffers after 5 of the stretches before the loop. -/
def R5 : Valuation τ sig (Elt F) := after hostOps0_4 (R4 V)

/-- The buffers after 6 of the stretches before the loop. -/
def R6 : Valuation τ sig (Elt F) := after hostOps0_5 (R5 V)

/-- The buffers after 7 of the stretches before the loop. -/
def R7 : Valuation τ sig (Elt F) := after hostOps0_6 (R6 V)

/-- The buffers after 8 of the stretches before the loop. -/
def R8 : Valuation τ sig (Elt F) := after hostOps0_7 (R7 V)

/-- The buffers after 9 of the stretches before the loop. -/
def R9 : Valuation τ sig (Elt F) := after hostOps0_8 (R8 V)

/-- The buffers after 10 of the stretches before the loop. -/
def R10 : Valuation τ sig (Elt F) := after hostOps0_9 (R9 V)

/-- The buffers after 11 of the stretches before the loop. -/
def R11 : Valuation τ sig (Elt F) := after hostOps0_10 (R10 V)

/-- The buffers after 12 of the stretches before the loop. -/
def R12 : Valuation τ sig (Elt F) := after hostOps0_11 (R11 V)

/-- The buffers after 13 of the stretches before the loop. -/
def R13 : Valuation τ sig (Elt F) := after hostOps0_12 (R12 V)

/-- The buffers after 14 of the stretches before the loop. -/
def R14 : Valuation τ sig (Elt F) := after hostOps0_13 (R13 V)

/-- The buffers after 15 of the stretches before the loop. -/
def R15 : Valuation τ sig (Elt F) := after hostOps0_14 (R14 V)

/-- The buffers after 16 of the stretches before the loop. -/
def R16 : Valuation τ sig (Elt F) := after hostOps0_15 (R15 V)

/-- The buffers after 17 of the stretches before the loop. -/
def R17 : Valuation τ sig (Elt F) := after hostOps0_16 (R16 V)

/-- The buffers after 18 of the stretches before the loop. -/
def R18 : Valuation τ sig (Elt F) := after hostOps0_17 (R17 V)

/-- The buffers after 19 of the stretches before the loop. -/
def R19 : Valuation τ sig (Elt F) := after hostOps0_18 (R18 V)

/-- The buffers after 20 of the stretches before the loop. -/
def R20 : Valuation τ sig (Elt F) := after hostOps0_19 (R19 V)

/-- The buffers after 21 of the stretches before the loop. -/
def R21 : Valuation τ sig (Elt F) := after hostOps0_20 (R20 V)

/-- The buffers the loop finds are those after the last of the stretches before it. -/
theorem entry_eq : afterL preI V = R21 V := rfl

/-- Buffers the last stretch does not write. -/
theorem keep20 (r : Ref sig .tc) (h : r ∉ hostOps0_20_W) :
    R20 V (Proc.devRef .tc r) = R21 V (Proc.devRef .tc r) :=
  (after_of_writes_sub _ _ hostOps0_20_writes h).symm

/-- What the loop finds in a buffer that no stretch from number 19 on writes. -/
theorem keep19 (r : Ref sig .tc) (h : r ∉ hostOps0_19_W ++ (hostOps0_20_W)) :
    (R19 V) (Proc.devRef .tc r) = R21 V (Proc.devRef .tc r) :=
  (after_of_writes_sub _ _ hostOps0_19_writes fun hw => h (List.mem_append_left _ hw)).symm.trans
    (keep20 V r fun hw => h (List.mem_append_right _ hw))

/-- What the loop finds in a buffer that no stretch from number 18 on writes. -/
theorem keep18 (r : Ref sig .tc) (h : r ∉ hostOps0_18_W ++ (hostOps0_19_W ++ hostOps0_20_W)) :
    (R18 V) (Proc.devRef .tc r) = R21 V (Proc.devRef .tc r) :=
  (after_of_writes_sub _ _ hostOps0_18_writes fun hw => h (List.mem_append_left _ hw)).symm.trans
    (keep19 V r fun hw => h (List.mem_append_right _ hw))

/-- What the loop finds in a buffer that no stretch from number 17 on writes. -/
theorem keep17 (r : Ref sig .tc) (h : r ∉ hostOps0_17_W ++ (hostOps0_18_W ++ hostOps0_19_W ++ hostOps0_20_W)) :
    (R17 V) (Proc.devRef .tc r) = R21 V (Proc.devRef .tc r) :=
  (after_of_writes_sub _ _ hostOps0_17_writes fun hw => h (List.mem_append_left _ hw)).symm.trans
    (keep18 V r fun hw => h (List.mem_append_right _ hw))

/-- What the loop finds in a buffer that no stretch from number 16 on writes. -/
theorem keep16 (r : Ref sig .tc) (h : r ∉ hostOps0_16_W ++ (hostOps0_17_W ++ hostOps0_18_W ++ hostOps0_19_W ++ hostOps0_20_W)) :
    (R16 V) (Proc.devRef .tc r) = R21 V (Proc.devRef .tc r) :=
  (after_of_writes_sub _ _ hostOps0_16_writes fun hw => h (List.mem_append_left _ hw)).symm.trans
    (keep17 V r fun hw => h (List.mem_append_right _ hw))

/-- What the loop finds in a buffer that no stretch from number 15 on writes. -/
theorem keep15 (r : Ref sig .tc) (h : r ∉ hostOps0_15_W ++ (hostOps0_16_W ++ hostOps0_17_W ++ hostOps0_18_W ++ hostOps0_19_W ++ hostOps0_20_W)) :
    (R15 V) (Proc.devRef .tc r) = R21 V (Proc.devRef .tc r) :=
  (after_of_writes_sub _ _ hostOps0_15_writes fun hw => h (List.mem_append_left _ hw)).symm.trans
    (keep16 V r fun hw => h (List.mem_append_right _ hw))

/-- What the loop finds in a buffer that no stretch from number 14 on writes. -/
theorem keep14 (r : Ref sig .tc) (h : r ∉ hostOps0_14_W ++ (hostOps0_15_W ++ hostOps0_16_W ++ hostOps0_17_W ++ hostOps0_18_W ++ hostOps0_19_W ++ hostOps0_20_W)) :
    (R14 V) (Proc.devRef .tc r) = R21 V (Proc.devRef .tc r) :=
  (after_of_writes_sub _ _ hostOps0_14_writes fun hw => h (List.mem_append_left _ hw)).symm.trans
    (keep15 V r fun hw => h (List.mem_append_right _ hw))

/-- What the loop finds in a buffer that no stretch from number 13 on writes. -/
theorem keep13 (r : Ref sig .tc) (h : r ∉ hostOps0_13_W ++ (hostOps0_14_W ++ hostOps0_15_W ++ hostOps0_16_W ++ hostOps0_17_W ++ hostOps0_18_W ++ hostOps0_19_W ++ hostOps0_20_W)) :
    (R13 V) (Proc.devRef .tc r) = R21 V (Proc.devRef .tc r) :=
  (after_of_writes_sub _ _ hostOps0_13_writes fun hw => h (List.mem_append_left _ hw)).symm.trans
    (keep14 V r fun hw => h (List.mem_append_right _ hw))

/-- What the loop finds in a buffer that no stretch from number 12 on writes. -/
theorem keep12 (r : Ref sig .tc) (h : r ∉ hostOps0_12_W ++ (hostOps0_13_W ++ hostOps0_14_W ++ hostOps0_15_W ++ hostOps0_16_W ++ hostOps0_17_W ++ hostOps0_18_W ++ hostOps0_19_W ++ hostOps0_20_W)) :
    (R12 V) (Proc.devRef .tc r) = R21 V (Proc.devRef .tc r) :=
  (after_of_writes_sub _ _ hostOps0_12_writes fun hw => h (List.mem_append_left _ hw)).symm.trans
    (keep13 V r fun hw => h (List.mem_append_right _ hw))

/-- What the loop finds in a buffer that no stretch from number 11 on writes. -/
theorem keep11 (r : Ref sig .tc) (h : r ∉ hostOps0_11_W ++ (hostOps0_12_W ++ hostOps0_13_W ++ hostOps0_14_W ++ hostOps0_15_W ++ hostOps0_16_W ++ hostOps0_17_W ++ hostOps0_18_W ++ hostOps0_19_W ++ hostOps0_20_W)) :
    (R11 V) (Proc.devRef .tc r) = R21 V (Proc.devRef .tc r) :=
  (after_of_writes_sub _ _ hostOps0_11_writes fun hw => h (List.mem_append_left _ hw)).symm.trans
    (keep12 V r fun hw => h (List.mem_append_right _ hw))

/-- What the loop finds in a buffer that no stretch from number 10 on writes. -/
theorem keep10 (r : Ref sig .tc) (h : r ∉ hostOps0_10_W ++ (hostOps0_11_W ++ hostOps0_12_W ++ hostOps0_13_W ++ hostOps0_14_W ++ hostOps0_15_W ++ hostOps0_16_W ++ hostOps0_17_W ++ hostOps0_18_W ++ hostOps0_19_W ++ hostOps0_20_W)) :
    (R10 V) (Proc.devRef .tc r) = R21 V (Proc.devRef .tc r) :=
  (after_of_writes_sub _ _ hostOps0_10_writes fun hw => h (List.mem_append_left _ hw)).symm.trans
    (keep11 V r fun hw => h (List.mem_append_right _ hw))

/-- What the loop finds in a buffer that no stretch from number 9 on writes. -/
theorem keep9 (r : Ref sig .tc) (h : r ∉ hostOps0_9_W ++ (hostOps0_10_W ++ hostOps0_11_W ++ hostOps0_12_W ++ hostOps0_13_W ++ hostOps0_14_W ++ hostOps0_15_W ++ hostOps0_16_W ++ hostOps0_17_W ++ hostOps0_18_W ++ hostOps0_19_W ++ hostOps0_20_W)) :
    (R9 V) (Proc.devRef .tc r) = R21 V (Proc.devRef .tc r) :=
  (after_of_writes_sub _ _ hostOps0_9_writes fun hw => h (List.mem_append_left _ hw)).symm.trans
    (keep10 V r fun hw => h (List.mem_append_right _ hw))

/-- What the loop finds in a buffer that no stretch from number 8 on writes. -/
theorem keep8 (r : Ref sig .tc) (h : r ∉ hostOps0_8_W ++ (hostOps0_9_W ++ hostOps0_10_W ++ hostOps0_11_W ++ hostOps0_12_W ++ hostOps0_13_W ++ hostOps0_14_W ++ hostOps0_15_W ++ hostOps0_16_W ++ hostOps0_17_W ++ hostOps0_18_W ++ hostOps0_19_W ++ hostOps0_20_W)) :
    (R8 V) (Proc.devRef .tc r) = R21 V (Proc.devRef .tc r) :=
  (after_of_writes_sub _ _ hostOps0_8_writes fun hw => h (List.mem_append_left _ hw)).symm.trans
    (keep9 V r fun hw => h (List.mem_append_right _ hw))

/-- What the loop finds in a buffer that no stretch from number 7 on writes. -/
theorem keep7 (r : Ref sig .tc) (h : r ∉ hostOps0_7_W ++ (hostOps0_8_W ++ hostOps0_9_W ++ hostOps0_10_W ++ hostOps0_11_W ++ hostOps0_12_W ++ hostOps0_13_W ++ hostOps0_14_W ++ hostOps0_15_W ++ hostOps0_16_W ++ hostOps0_17_W ++ hostOps0_18_W ++ hostOps0_19_W ++ hostOps0_20_W)) :
    (R7 V) (Proc.devRef .tc r) = R21 V (Proc.devRef .tc r) :=
  (after_of_writes_sub _ _ hostOps0_7_writes fun hw => h (List.mem_append_left _ hw)).symm.trans
    (keep8 V r fun hw => h (List.mem_append_right _ hw))

/-- What the loop finds in a buffer that no stretch from number 6 on writes. -/
theorem keep6 (r : Ref sig .tc) (h : r ∉ hostOps0_6_W ++ (hostOps0_7_W ++ hostOps0_8_W ++ hostOps0_9_W ++ hostOps0_10_W ++ hostOps0_11_W ++ hostOps0_12_W ++ hostOps0_13_W ++ hostOps0_14_W ++ hostOps0_15_W ++ hostOps0_16_W ++ hostOps0_17_W ++ hostOps0_18_W ++ hostOps0_19_W ++ hostOps0_20_W)) :
    (R6 V) (Proc.devRef .tc r) = R21 V (Proc.devRef .tc r) :=
  (after_of_writes_sub _ _ hostOps0_6_writes fun hw => h (List.mem_append_left _ hw)).symm.trans
    (keep7 V r fun hw => h (List.mem_append_right _ hw))

/-- What the loop finds in a buffer that no stretch from number 5 on writes. -/
theorem keep5 (r : Ref sig .tc) (h : r ∉ hostOps0_5_W ++ (hostOps0_6_W ++ hostOps0_7_W ++ hostOps0_8_W ++ hostOps0_9_W ++ hostOps0_10_W ++ hostOps0_11_W ++ hostOps0_12_W ++ hostOps0_13_W ++ hostOps0_14_W ++ hostOps0_15_W ++ hostOps0_16_W ++ hostOps0_17_W ++ hostOps0_18_W ++ hostOps0_19_W ++ hostOps0_20_W)) :
    (R5 V) (Proc.devRef .tc r) = R21 V (Proc.devRef .tc r) :=
  (after_of_writes_sub _ _ hostOps0_5_writes fun hw => h (List.mem_append_left _ hw)).symm.trans
    (keep6 V r fun hw => h (List.mem_append_right _ hw))

/-- What the loop finds in a buffer that no stretch from number 4 on writes. -/
theorem keep4 (r : Ref sig .tc) (h : r ∉ hostOps0_4_W ++ (hostOps0_5_W ++ hostOps0_6_W ++ hostOps0_7_W ++ hostOps0_8_W ++ hostOps0_9_W ++ hostOps0_10_W ++ hostOps0_11_W ++ hostOps0_12_W ++ hostOps0_13_W ++ hostOps0_14_W ++ hostOps0_15_W ++ hostOps0_16_W ++ hostOps0_17_W ++ hostOps0_18_W ++ hostOps0_19_W ++ hostOps0_20_W)) :
    (R4 V) (Proc.devRef .tc r) = R21 V (Proc.devRef .tc r) :=
  (after_of_writes_sub _ _ hostOps0_4_writes fun hw => h (List.mem_append_left _ hw)).symm.trans
    (keep5 V r fun hw => h (List.mem_append_right _ hw))

/-- What the loop finds in a buffer that no stretch from number 3 on writes. -/
theorem keep3 (r : Ref sig .tc) (h : r ∉ hostOps0_3_W ++ (hostOps0_4_W ++ hostOps0_5_W ++ hostOps0_6_W ++ hostOps0_7_W ++ hostOps0_8_W ++ hostOps0_9_W ++ hostOps0_10_W ++ hostOps0_11_W ++ hostOps0_12_W ++ hostOps0_13_W ++ hostOps0_14_W ++ hostOps0_15_W ++ hostOps0_16_W ++ hostOps0_17_W ++ hostOps0_18_W ++ hostOps0_19_W ++ hostOps0_20_W)) :
    (R3 V) (Proc.devRef .tc r) = R21 V (Proc.devRef .tc r) :=
  (after_of_writes_sub _ _ hostOps0_3_writes fun hw => h (List.mem_append_left _ hw)).symm.trans
    (keep4 V r fun hw => h (List.mem_append_right _ hw))

/-- What the loop finds in a buffer that no stretch from number 2 on writes. -/
theorem keep2 (r : Ref sig .tc) (h : r ∉ hostOps0_2_W ++ (hostOps0_3_W ++ hostOps0_4_W ++ hostOps0_5_W ++ hostOps0_6_W ++ hostOps0_7_W ++ hostOps0_8_W ++ hostOps0_9_W ++ hostOps0_10_W ++ hostOps0_11_W ++ hostOps0_12_W ++ hostOps0_13_W ++ hostOps0_14_W ++ hostOps0_15_W ++ hostOps0_16_W ++ hostOps0_17_W ++ hostOps0_18_W ++ hostOps0_19_W ++ hostOps0_20_W)) :
    (R2 V) (Proc.devRef .tc r) = R21 V (Proc.devRef .tc r) :=
  (after_of_writes_sub _ _ hostOps0_2_writes fun hw => h (List.mem_append_left _ hw)).symm.trans
    (keep3 V r fun hw => h (List.mem_append_right _ hw))

/-- What the loop finds in a buffer that no stretch from number 1 on writes. -/
theorem keep1 (r : Ref sig .tc) (h : r ∉ hostOps0_1_W ++ (hostOps0_2_W ++ hostOps0_3_W ++ hostOps0_4_W ++ hostOps0_5_W ++ hostOps0_6_W ++ hostOps0_7_W ++ hostOps0_8_W ++ hostOps0_9_W ++ hostOps0_10_W ++ hostOps0_11_W ++ hostOps0_12_W ++ hostOps0_13_W ++ hostOps0_14_W ++ hostOps0_15_W ++ hostOps0_16_W ++ hostOps0_17_W ++ hostOps0_18_W ++ hostOps0_19_W ++ hostOps0_20_W)) :
    (R1 V) (Proc.devRef .tc r) = R21 V (Proc.devRef .tc r) :=
  (after_of_writes_sub _ _ hostOps0_1_writes fun hw => h (List.mem_append_left _ hw)).symm.trans
    (keep2 V r fun hw => h (List.mem_append_right _ hw))

/-- What the loop finds in a buffer that no stretch from number 0 on writes. -/
theorem keep0 (r : Ref sig .tc) (h : r ∉ hostOps0_W ++ (hostOps0_1_W ++ hostOps0_2_W ++ hostOps0_3_W ++ hostOps0_4_W ++ hostOps0_5_W ++ hostOps0_6_W ++ hostOps0_7_W ++ hostOps0_8_W ++ hostOps0_9_W ++ hostOps0_10_W ++ hostOps0_11_W ++ hostOps0_12_W ++ hostOps0_13_W ++ hostOps0_14_W ++ hostOps0_15_W ++ hostOps0_16_W ++ hostOps0_17_W ++ hostOps0_18_W ++ hostOps0_19_W ++ hostOps0_20_W)) :
    (V) (Proc.devRef .tc r) = R21 V (Proc.devRef .tc r) :=
  (after_of_writes_sub _ _ hostOps0_writes fun hw => h (List.mem_append_left _ hw)).symm.trans
    (keep1 V r fun hw => h (List.mem_append_right _ hw))

end Cert.RefSide

end
-- ==== Proof.RefBoxes.lean ====
/- The scores and the boxes of the reference: every roi decoded under every class. -/
module

public import proofs.«01_k».proof.Proof.RefStages
public import proofs.«01_k».proof.Proof.Cand
public import Idealize.ShloMosaic.Lib.StableHlo.RunRead

@[expose] public section

set_option maxRecDepth 16384

noncomputable section

namespace Cert.RefSide

open Idealize.ShloMosaic Idealize.ShloMosaic.TcCoe Idealize.ShloMosaic.StableHlo
open Cert.ReferenceIdeal Cert.ReferenceIdeal.Gen Cert.ReferenceIdeal.Value Cert.Spec

variable (V : Valuation τ sig (Elt Ideal))

/-- The maximum with the least of all numbers changes nothing. -/
theorem max_ninf (x : EReal) : max (Ideal.ofBits .f32 0xFF800000#32) x = x := by
  rw [ninf]; exact max_eq_right bot_le

/-- An array, each entry clipped between two numbers. -/
def clipped (hi lo : FVec Ideal S_ .f32) (x : FVec Ideal S20000x80 .f32) : FVec Ideal S20000x80 .f32 :=
  minimumf (broadcastInDim S20000x80 ![] bcast_S_S20000x80 hi) (maximumf (broadcastInDim S20000x80 ![] bcast_S_S20000x80 lo) x)

/-- One entry of a clipped array. -/
theorem clipped_at (hi lo : FVec Ideal S_ .f32) (x : FVec Ideal S20000x80 .f32) (n : Fin 20000) (k : Fin 80) :
    @Eq EReal (clipped hi lo x (ix2 n k)) (min (hi ix0) (max (lo ix0) (x (ix2 n k)))) := by
  unfold clipped
  pointwise

/-- The exponentials of the class scores, the row's largest taken out. -/
def expo (x : FVec Ideal S20000x81 .f32) (z z' : FVec Ideal S_ .f32) : FVec Ideal S20000x81 .f32 :=
  Host.exp (subf x (broadcastInDim S20000x81 ![0, 1] bcast_S20000x1_S20000x81_0_1 (broadcastInDim S20000x1 ![0] bcast_S20000_S20000x1_0
    (maximumf (broadcastInDim S20000 ![] bcast_S_S20000 z')
      (Host.reduce (FloatOps.maximumf (F := Ideal) (φ := .f32)) x z reducesTo_S20000x81_S20000_d1 h_S_)))))

/-- One of the exponentials. -/
theorem expo_at (x : FVec Ideal S20000x81 .f32) (z z' : FVec Ideal S_ .f32) (n : Fin 20000) (k : Fin 81) :
    @Eq EReal (expo x z z' (ix2 n k)) (Ideal.exp (x (ix2 n k) - max (z' ix0) (Finset.fold max (z (Shape.Idx.first h_S_)) (fun k => x (ix2 n k)) Finset.univ))) := by
  unfold expo
  pointwise

/-- A softmax of every row, without its last column. -/
def softs (x : FVec Ideal S20000x81 .f32) (z z' y : FVec Ideal S_ .f32) : FVec Ideal S20000x80 .f32 :=
  extractStridedSlice S20000x80 ![0, 0] (Host.divf (expo x z z') (broadcastInDim S20000x81 ![0, 1] bcast_S20000x1_S20000x81_0_1
    (broadcastInDim S20000x1 ![0] bcast_S20000_S20000x1_0 (Host.reduceAdd (expo x z z') y reducesTo_S20000x81_S20000_d1 h_S_)))) slices_S20000x81_S20000x80_0_0

/-- One entry of the softmax. -/
theorem softs_at (x : FVec Ideal S20000x81 .f32) (z z' y : FVec Ideal S_ .f32) (hz : ∀ i, z i = Ideal.ofBits .f32 0xFF800000#32)
    (hz' : ∀ i, z' i = Ideal.ofBits .f32 0xFF800000#32) (hy : ∀ i, y i = (0 : EReal)) (n : Fin 20000) (k : Fin 80) :
    @Eq EReal (softs x z z' y (ix2 n k)) (soft (fun k => x (ix2 n k)) k) := by
  unfold softs soft
  pointwise
  simp only [expo_at, hz, hz', max_ninf, hy, zero_add]

/-- The class scores, without the background. -/
theorem p17 (n : Fin 20000) (k : Fin 80) : @Eq EReal (R21 V (Proc.devRef .tc main_v17) (ix2 n k)) (soft (fun k => (R21 V (Proc.devRef .tc main_arg0) (ix2 n k))) k) := by
  rw [← keep1 V main_v17 (by decide +kernel), ← keep0 V main_arg0 (by decide +kernel)]
  have h : after hostOps0 V (Proc.devRef .tc main_v17) = softs (V (Proc.devRef .tc main_arg0)) (constant S_ .f32 0xFF800000#32) (constant S_ .f32 0xFF800000#32) (constant S_ .f32 0x00000000#32) := by
    after_reads_simp
    rfl
  exact (congrFun h _).trans (softs_at _ _ _ _ (fun _ => rfl) (fun _ => rfl) (fun _ => by pointwise) n k)

/-- The picture's height. -/
theorem p2 : @Eq EReal (R21 V (Proc.devRef .tc main_v2) ix0) (FloatOps.sitofp (F := Ideal) .f32 (R21 V (Proc.devRef .tc main_arg3) (ix1 2))) := by
  rw [← keep1 V main_v2 (by decide +kernel)]
  show @Eq EReal (after hostOps0 V (Proc.devRef .tc main_v2) ix0) _
  rw [← keep0 V main_arg3 (by decide +kernel)]
  after_reads_simp
  pointwise

/-- The picture's width. -/
theorem p5 : @Eq EReal (R21 V (Proc.devRef .tc main_v5) ix0) (FloatOps.sitofp (F := Ideal) .f32 (R21 V (Proc.devRef .tc main_arg3) (ix1 3))) := by
  rw [← keep1 V main_v5 (by decide +kernel)]
  show @Eq EReal (after hostOps0 V (Proc.devRef .tc main_v5) ix0) _
  rw [← keep0 V main_arg3 (by decide +kernel)]
  after_reads_simp
  pointwise

/-- Delta 0, scaled. -/
theorem p26 (n : Fin 20000) (k : Fin 80) : @Eq EReal (R21 V (Proc.devRef .tc main_v26) (ix2 n k)) (@HMul.hMul EReal EReal EReal _ (R21 V (Proc.devRef .tc main_arg1) (ix2 n ⟨k.val * 4 + 0, by omega⟩)) (Ideal.ofBits .f32 0x3DCCCCCD#32)) := by
  rw [← keep1 V main_v26 (by decide +kernel)]
  show @Eq EReal (after hostOps0 V (Proc.devRef .tc main_v26) (ix2 n k)) _
  rw [← keep0 V main_arg1 (by decide +kernel)]
  after_reads_simp
  pointwise
  have e : lit0 (S4.rowMajor (ix1 0)) = 0x3DCCCCCD#32 := by decide +kernel
  rw [e]

/-- Delta 1, scaled. -/
theorem p28 (n : Fin 20000) (k : Fin 80) : @Eq EReal (R21 V (Proc.devRef .tc main_v28) (ix2 n k)) (@HMul.hMul EReal EReal EReal _ (R21 V (Proc.devRef .tc main_arg1) (ix2 n ⟨k.val * 4 + 1, by omega⟩)) (Ideal.ofBits .f32 0x3DCCCCCD#32)) := by
  rw [← keep1 V main_v28 (by decide +kernel)]
  show @Eq EReal (after hostOps0 V (Proc.devRef .tc main_v28) (ix2 n k)) _
  rw [← keep0 V main_arg1 (by decide +kernel)]
  after_reads_simp
  pointwise
  have e : lit0 (S4.rowMajor (ix1 1)) = 0x3DCCCCCD#32 := by decide +kernel
  rw [e]

/-- Delta 2, scaled. -/
theorem p30 (n : Fin 20000) (k : Fin 80) : @Eq EReal (R21 V (Proc.devRef .tc main_v30) (ix2 n k)) (@HMul.hMul EReal EReal EReal _ (R21 V (Proc.devRef .tc main_arg1) (ix2 n ⟨k.val * 4 + 2, by omega⟩)) (Ideal.ofBits .f32 0x3E4CCCCD#32)) := by
  rw [← keep1 V main_v30 (by decide +kernel)]
  show @Eq EReal (after hostOps0 V (Proc.devRef .tc main_v30) (ix2 n k)) _
  rw [← keep0 V main_arg1 (by decide +kernel)]
  after_reads_simp
  pointwise
  have e : lit0 (S4.rowMajor (ix1 2)) = 0x3E4CCCCD#32 := by decide +kernel
  rw [e]

/-- Delta 3, scaled. -/
theorem p32 (n : Fin 20000) (k : Fin 80) : @Eq EReal (R21 V (Proc.devRef .tc main_v32) (ix2 n k)) (@HMul.hMul EReal EReal EReal _ (R21 V (Proc.devRef .tc main_arg1) (ix2 n ⟨k.val * 4 + 3, by omega⟩)) (Ideal.ofBits .f32 0x3E4CCCCD#32)) := by
  rw [← keep1 V main_v32 (by decide +kernel)]
  show @Eq EReal (after hostOps0 V (Proc.devRef .tc main_v32) (ix2 n k)) _
  rw [← keep0 V main_arg1 (by decide +kernel)]
  after_reads_simp
  pointwise
  have e : lit0 (S4.rowMajor (ix1 3)) = 0x3E4CCCCD#32 := by decide +kernel
  rw [e]

/-- A lower bound of a stretch. -/
theorem cst_4 : @Eq EReal (R21 V (Proc.devRef .tc main_cst_4) ix0) (Ideal.ofBits .f32 0xC0845349#32) := by
  rw [← keep1 V main_cst_4 (by decide +kernel)]
  show @Eq EReal (after hostOps0 V (Proc.devRef .tc main_cst_4) ix0) _
  after_reads_simp
  rfl

/-- An upper bound of a stretch. -/
theorem cst_5 : @Eq EReal (R21 V (Proc.devRef .tc main_cst_5) ix0) (Ideal.ofBits .f32 0x40845349#32) := by
  rw [← keep1 V main_cst_5 (by decide +kernel)]
  show @Eq EReal (after hostOps0 V (Proc.devRef .tc main_cst_5) ix0) _
  after_reads_simp
  rfl

/-- A size delta, clipped. -/
theorem p33 (n : Fin 20000) (k : Fin 80) : @Eq EReal (R21 V (Proc.devRef .tc main_v33) (ix2 n k)) (@min EReal _ (Ideal.ofBits .f32 0x40845349#32) (@max EReal _ (Ideal.ofBits .f32 0xC0845349#32) (R21 V (Proc.devRef .tc main_v30) (ix2 n k)))) := by
  rw [← keep2 V main_v33 (by decide +kernel)]
  show @Eq EReal (after hostOps0_1 (R1 V) (Proc.devRef .tc main_v33) (ix2 n k)) _
  rw [← keep1 V main_v30 (by decide +kernel)]
  rw [← cst_4 V, ← cst_5 V, ← keep1 V main_cst_4 (by decide +kernel), ← keep1 V main_cst_5 (by decide +kernel)]
  after_reads_simp
  simp only [TRef.ofBuf_toBuf]
  exact Eq.trans (b := clipped (R1 V (Proc.devRef .tc main_cst_5)) (R1 V (Proc.devRef .tc main_cst_4)) (R1 V (Proc.devRef .tc main_v30)) (ix2 n k)) rfl (clipped_at _ _ _ n k)

/-- A lower bound of a stretch. -/
theorem cst_6 : @Eq EReal (R21 V (Proc.devRef .tc main_cst_6) ix0) (Ideal.ofBits .f32 0xC0845349#32) := by
  rw [← keep3 V main_cst_6 (by decide +kernel)]
  show @Eq EReal (after hostOps0_2 (R2 V) (Proc.devRef .tc main_cst_6) ix0) _
  after_reads_simp
  rfl

/-- An upper bound of a stretch. -/
theorem cst_7 : @Eq EReal (R21 V (Proc.devRef .tc main_cst_7) ix0) (Ideal.ofBits .f32 0x40845349#32) := by
  rw [← keep3 V main_cst_7 (by decide +kernel)]
  show @Eq EReal (after hostOps0_2 (R2 V) (Proc.devRef .tc main_cst_7) ix0) _
  after_reads_simp
  rfl

/-- A size delta, clipped. -/
theorem p34 (n : Fin 20000) (k : Fin 80) : @Eq EReal (R21 V (Proc.devRef .tc main_v34) (ix2 n k)) (@min EReal _ (Ideal.ofBits .f32 0x40845349#32) (@max EReal _ (Ideal.ofBits .f32 0xC0845349#32) (R21 V (Proc.devRef .tc main_v32) (ix2 n k)))) := by
  rw [← keep4 V main_v34 (by decide +kernel)]
  show @Eq EReal (after hostOps0_3 (R3 V) (Proc.devRef .tc main_v34) (ix2 n k)) _
  rw [← keep3 V main_v32 (by decide +kernel)]
  rw [← cst_6 V, ← cst_7 V, ← keep3 V main_cst_6 (by decide +kernel), ← keep3 V main_cst_7 (by decide +kernel)]
  after_reads_simp
  simp only [TRef.ofBuf_toBuf]
  exact Eq.trans (b := clipped (R3 V (Proc.devRef .tc main_cst_7)) (R3 V (Proc.devRef .tc main_cst_6)) (R3 V (Proc.devRef .tc main_v32)) (ix2 n k)) rfl (clipped_at _ _ _ n k)

/-- A horizontal centre. -/
theorem p66 (n : Fin 20000) (k : Fin 80) : @Eq EReal (R21 V (Proc.devRef .tc main_v66) (ix2 n k)) (@HAdd.hAdd EReal EReal EReal _ (@HMul.hMul EReal EReal EReal _ (@HAdd.hAdd EReal EReal EReal _ (R21 V (Proc.devRef .tc main_arg2) (ix2 n 0)) (R21 V (Proc.devRef .tc main_arg2) (ix2 n 2))) half) (@HMul.hMul EReal EReal EReal _ (@HSub.hSub EReal EReal EReal _ (R21 V (Proc.devRef .tc main_arg2) (ix2 n 2)) (R21 V (Proc.devRef .tc main_arg2) (ix2 n 0))) (R21 V (Proc.devRef .tc main_v26) (ix2 n k)))) := by
  rw [← keep5 V main_v66 (by decide +kernel)]
  show @Eq EReal (after hostOps0_4 (R4 V) (Proc.devRef .tc main_v66) (ix2 n k)) _
  rw [← keep4 V main_arg2 (by decide +kernel)]
  rw [← keep4 V main_v26 (by decide +kernel)]
  after_reads_simp
  pointwise

/-- A vertical centre. -/
theorem p70 (n : Fin 20000) (k : Fin 80) : @Eq EReal (R21 V (Proc.devRef .tc main_v70) (ix2 n k)) (@HAdd.hAdd EReal EReal EReal _ (@HMul.hMul EReal EReal EReal _ (@HAdd.hAdd EReal EReal EReal _ (R21 V (Proc.devRef .tc main_arg2) (ix2 n 1)) (R21 V (Proc.devRef .tc main_arg2) (ix2 n 3))) half) (@HMul.hMul EReal EReal EReal _ (@HSub.hSub EReal EReal EReal _ (R21 V (Proc.devRef .tc main_arg2) (ix2 n 3)) (R21 V (Proc.devRef .tc main_arg2) (ix2 n 1))) (R21 V (Proc.devRef .tc main_v28) (ix2 n k)))) := by
  rw [← keep5 V main_v70 (by decide +kernel)]
  show @Eq EReal (after hostOps0_4 (R4 V) (Proc.devRef .tc main_v70) (ix2 n k)) _
  rw [← keep4 V main_arg2 (by decide +kernel)]
  rw [← keep4 V main_v28 (by decide +kernel)]
  after_reads_simp
  pointwise

/-- A width. -/
theorem p73 (n : Fin 20000) (k : Fin 80) : @Eq EReal (R21 V (Proc.devRef .tc main_v73) (ix2 n k)) (@HMul.hMul EReal EReal EReal _ (@HSub.hSub EReal EReal EReal _ (R21 V (Proc.devRef .tc main_arg2) (ix2 n 2)) (R21 V (Proc.devRef .tc main_arg2) (ix2 n 0))) (Ideal.exp (R21 V (Proc.devRef .tc main_v33) (ix2 n k)))) := by
  rw [← keep5 V main_v73 (by decide +kernel)]
  show @Eq EReal (after hostOps0_4 (R4 V) (Proc.devRef .tc main_v73) (ix2 n k)) _
  rw [← keep4 V main_arg2 (by decide +kernel)]
  rw [← keep4 V main_v33 (by decide +kernel)]
  after_reads_simp
  pointwise

/-- A height. -/
theorem p76 (n : Fin 20000) (k : Fin 80) : @Eq EReal (R21 V (Proc.devRef .tc main_v76) (ix2 n k)) (@HMul.hMul EReal EReal EReal _ (@HSub.hSub EReal EReal EReal _ (R21 V (Proc.devRef .tc main_arg2) (ix2 n 3)) (R21 V (Proc.devRef .tc main_arg2) (ix2 n 1))) (Ideal.exp (R21 V (Proc.devRef .tc main_v34) (ix2 n k)))) := by
  rw [← keep5 V main_v76 (by decide +kernel)]
  show @Eq EReal (after hostOps0_4 (R4 V) (Proc.devRef .tc main_v76) (ix2 n k)) _
  rw [← keep4 V main_arg2 (by decide +kernel)]
  rw [← keep4 V main_v34 (by decide +kernel)]
  after_reads_simp
  pointwise

/-- A left side. -/
theorem p79 (n : Fin 20000) (k : Fin 80) : @Eq EReal (R21 V (Proc.devRef .tc main_v79) (ix2 n k)) (@HSub.hSub EReal EReal EReal _ (@HAdd.hAdd EReal EReal EReal _ (@HMul.hMul EReal EReal EReal _ (@HAdd.hAdd EReal EReal EReal _ (R21 V (Proc.devRef .tc main_arg2) (ix2 n 0)) (R21 V (Proc.devRef .tc main_arg2) (ix2 n 2))) half) (@HMul.hMul EReal EReal EReal _ (@HSub.hSub EReal EReal EReal _ (R21 V (Proc.devRef .tc main_arg2) (ix2 n 2)) (R21 V (Proc.devRef .tc main_arg2) (ix2 n 0))) (R21 V (Proc.devRef .tc main_v26) (ix2 n k)))) (@HMul.hMul EReal EReal EReal _ (@HMul.hMul EReal EReal EReal _ (@HSub.hSub EReal EReal EReal _ (R21 V (Proc.devRef .tc main_arg2) (ix2 n 2)) (R21 V (Proc.devRef .tc main_arg2) (ix2 n 0))) (Ideal.exp (R21 V (Proc.devRef .tc main_v33) (ix2 n k)))) half)) := by
  rw [← keep5 V main_v79 (by decide +kernel)]
  show @Eq EReal (after hostOps0_4 (R4 V) (Proc.devRef .tc main_v79) (ix2 n k)) _
  rw [← keep4 V main_arg2 (by decide +kernel)]
  rw [← keep4 V main_v26 (by decide +kernel)]
  rw [← keep4 V main_v33 (by decide +kernel)]
  after_reads_simp
  pointwise

/-- A side before clipping. -/
theorem p83 (n : Fin 20000) (k : Fin 80) : @Eq EReal (R21 V (Proc.devRef .tc main_v83) (ix2 n k)) (@HSub.hSub EReal EReal EReal _ (R21 V (Proc.devRef .tc main_v70) (ix2 n k)) (@HMul.hMul EReal EReal EReal _ (R21 V (Proc.devRef .tc main_v76) (ix2 n k)) half)) := by
  rw [← keep7 V main_v83 (by decide +kernel)]
  show @Eq EReal (after hostOps0_6 (R6 V) (Proc.devRef .tc main_v83) (ix2 n k)) _
  rw [← keep6 V main_v70 (by decide +kernel)]
  rw [← keep6 V main_v76 (by decide +kernel)]
  after_reads_simp
  pointwise

/-- A side before clipping. -/
theorem p87 (n : Fin 20000) (k : Fin 80) : @Eq EReal (R21 V (Proc.devRef .tc main_v87) (ix2 n k)) (@HAdd.hAdd EReal EReal EReal _ (R21 V (Proc.devRef .tc main_v66) (ix2 n k)) (@HMul.hMul EReal EReal EReal _ (R21 V (Proc.devRef .tc main_v73) (ix2 n k)) half)) := by
  rw [← keep9 V main_v87 (by decide +kernel)]
  show @Eq EReal (after hostOps0_8 (R8 V) (Proc.devRef .tc main_v87) (ix2 n k)) _
  rw [← keep8 V main_v66 (by decide +kernel)]
  rw [← keep8 V main_v73 (by decide +kernel)]
  after_reads_simp
  pointwise

/-- A side before clipping. -/
theorem p91 (n : Fin 20000) (k : Fin 80) : @Eq EReal (R21 V (Proc.devRef .tc main_v91) (ix2 n k)) (@HAdd.hAdd EReal EReal EReal _ (R21 V (Proc.devRef .tc main_v70) (ix2 n k)) (@HMul.hMul EReal EReal EReal _ (R21 V (Proc.devRef .tc main_v76) (ix2 n k)) half)) := by
  rw [← keep11 V main_v91 (by decide +kernel)]
  show @Eq EReal (after hostOps0_10 (R10 V) (Proc.devRef .tc main_v91) (ix2 n k)) _
  rw [← keep10 V main_v70 (by decide +kernel)]
  rw [← keep10 V main_v76 (by decide +kernel)]
  after_reads_simp
  pointwise

/-- Zero. -/
theorem cst_11 : @Eq EReal (R21 V (Proc.devRef .tc main_cst_11) ix0) 0 := by
  rw [← keep5 V main_cst_11 (by decide +kernel)]
  show @Eq EReal (after hostOps0_4 (R4 V) (Proc.devRef .tc main_cst_11) ix0) _
  after_reads_simp
  pointwise

/-- A side, clipped. -/
theorem p80 (n : Fin 20000) (k : Fin 80) : @Eq EReal (R21 V (Proc.devRef .tc main_v80) (ix2 n k)) (@min EReal _ (R21 V (Proc.devRef .tc main_v5) ix0) (@max EReal _ 0 (R21 V (Proc.devRef .tc main_v79) (ix2 n k)))) := by
  rw [← keep6 V main_v80 (by decide +kernel)]
  show @Eq EReal (after hostOps0_5 (R5 V) (Proc.devRef .tc main_v80) (ix2 n k)) _
  rw [← keep5 V main_v5 (by decide +kernel)]
  rw [← keep5 V main_v79 (by decide +kernel)]
  rw [← cst_11 V, ← keep5 V main_cst_11 (by decide +kernel)]
  after_reads_simp
  simp only [TRef.ofBuf_toBuf]
  exact Eq.trans (b := clipped (R5 V (Proc.devRef .tc main_v5)) (R5 V (Proc.devRef .tc main_cst_11)) (R5 V (Proc.devRef .tc main_v79)) (ix2 n k)) rfl (clipped_at _ _ _ n k)

/-- Zero. -/
theorem cst_13 : @Eq EReal (R21 V (Proc.devRef .tc main_cst_13) ix0) 0 := by
  rw [← keep7 V main_cst_13 (by decide +kernel)]
  show @Eq EReal (after hostOps0_6 (R6 V) (Proc.devRef .tc main_cst_13) ix0) _
  after_reads_simp
  pointwise

/-- A side, clipped. -/
theorem p84 (n : Fin 20000) (k : Fin 80) : @Eq EReal (R21 V (Proc.devRef .tc main_v84) (ix2 n k)) (@min EReal _ (R21 V (Proc.devRef .tc main_v2) ix0) (@max EReal _ 0 (R21 V (Proc.devRef .tc main_v83) (ix2 n k)))) := by
  rw [← keep8 V main_v84 (by decide +kernel)]
  show @Eq EReal (after hostOps0_7 (R7 V) (Proc.devRef .tc main_v84) (ix2 n k)) _
  rw [← keep7 V main_v2 (by decide +kernel)]
  rw [← keep7 V main_v83 (by decide +kernel)]
  rw [← cst_13 V, ← keep7 V main_cst_13 (by decide +kernel)]
  after_reads_simp
  simp only [TRef.ofBuf_toBuf]
  exact Eq.trans (b := clipped (R7 V (Proc.devRef .tc main_v2)) (R7 V (Proc.devRef .tc main_cst_13)) (R7 V (Proc.devRef .tc main_v83)) (ix2 n k)) rfl (clipped_at _ _ _ n k)

/-- Zero. -/
theorem cst_15 : @Eq EReal (R21 V (Proc.devRef .tc main_cst_15) ix0) 0 := by
  rw [← keep9 V main_cst_15 (by decide +kernel)]
  show @Eq EReal (after hostOps0_8 (R8 V) (Proc.devRef .tc main_cst_15) ix0) _
  after_reads_simp
  pointwise

/-- A side, clipped. -/
theorem p88 (n : Fin 20000) (k : Fin 80) : @Eq EReal (R21 V (Proc.devRef .tc main_v88) (ix2 n k)) (@min EReal _ (R21 V (Proc.devRef .tc main_v5) ix0) (@max EReal _ 0 (R21 V (Proc.devRef .tc main_v87) (ix2 n k)))) := by
  rw [← keep10 V main_v88 (by decide +kernel)]
  show @Eq EReal (after hostOps0_9 (R9 V) (Proc.devRef .tc main_v88) (ix2 n k)) _
  rw [← keep9 V main_v5 (by decide +kernel)]
  rw [← keep9 V main_v87 (by decide +kernel)]
  rw [← cst_15 V, ← keep9 V main_cst_15 (by decide +kernel)]
  after_reads_simp
  simp only [TRef.ofBuf_toBuf]
  exact Eq.trans (b := clipped (R9 V (Proc.devRef .tc main_v5)) (R9 V (Proc.devRef .tc main_cst_15)) (R9 V (Proc.devRef .tc main_v87)) (ix2 n k)) rfl (clipped_at _ _ _ n k)

/-- Zero. -/
theorem cst_17 : @Eq EReal (R21 V (Proc.devRef .tc main_cst_17) ix0) 0 := by
  rw [← keep11 V main_cst_17 (by decide +kernel)]
  show @Eq EReal (after hostOps0_10 (R10 V) (Proc.devRef .tc main_cst_17) ix0) _
  after_reads_simp
  pointwise

/-- A side, clipped. -/
theorem p92 (n : Fin 20000) (k : Fin 80) : @Eq EReal (R21 V (Proc.devRef .tc main_v92) (ix2 n k)) (@min EReal _ (R21 V (Proc.devRef .tc main_v2) ix0) (@max EReal _ 0 (R21 V (Proc.devRef .tc main_v91) (ix2 n k)))) := by
  rw [← keep12 V main_v92 (by decide +kernel)]
  show @Eq EReal (after hostOps0_11 (R11 V) (Proc.devRef .tc main_v92) (ix2 n k)) _
  rw [← keep11 V main_v2 (by decide +kernel)]
  rw [← keep11 V main_v91 (by decide +kernel)]
  rw [← cst_17 V, ← keep11 V main_cst_17 (by decide +kernel)]
  after_reads_simp
  simp only [TRef.ofBuf_toBuf]
  exact Eq.trans (b := clipped (R11 V (Proc.devRef .tc main_v2)) (R11 V (Proc.devRef .tc main_cst_17)) (R11 V (Proc.devRef .tc main_v91)) (ix2 n k)) rfl (clipped_at _ _ _ n k)

/-- A decoded side. -/
theorem side_80 (n : Fin 20000) (k : Fin 80) : @Eq EReal (R21 V (Proc.devRef .tc main_v80) (ix2 n k)) (decLo (R21 V (Proc.devRef .tc main_v5) ix0) (R21 V (Proc.devRef .tc main_arg2) (ix2 n 0)) (R21 V (Proc.devRef .tc main_arg2) (ix2 n 2)) (R21 V (Proc.devRef .tc main_arg1) (ix2 n ⟨k.val * 4 + 0, by omega⟩)) (R21 V (Proc.devRef .tc main_arg1) (ix2 n ⟨k.val * 4 + 2, by omega⟩))) := by
  unfold decLo centre stretch
  rw [p80, p79, p26, p33, p30]

/-- A decoded side. -/
theorem side_84 (n : Fin 20000) (k : Fin 80) : @Eq EReal (R21 V (Proc.devRef .tc main_v84) (ix2 n k)) (decLo (R21 V (Proc.devRef .tc main_v2) ix0) (R21 V (Proc.devRef .tc main_arg2) (ix2 n 1)) (R21 V (Proc.devRef .tc main_arg2) (ix2 n 3)) (R21 V (Proc.devRef .tc main_arg1) (ix2 n ⟨k.val * 4 + 1, by omega⟩)) (R21 V (Proc.devRef .tc main_arg1) (ix2 n ⟨k.val * 4 + 3, by omega⟩))) := by
  unfold decLo centre stretch
  rw [p84, p83, p70, p76, p28, p34, p32]

/-- A decoded side. -/
theorem side_88 (n : Fin 20000) (k : Fin 80) : @Eq EReal (R21 V (Proc.devRef .tc main_v88) (ix2 n k)) (decHi (R21 V (Proc.devRef .tc main_v5) ix0) (R21 V (Proc.devRef .tc main_arg2) (ix2 n 0)) (R21 V (Proc.devRef .tc main_arg2) (ix2 n 2)) (R21 V (Proc.devRef .tc main_arg1) (ix2 n ⟨k.val * 4 + 0, by omega⟩)) (R21 V (Proc.devRef .tc main_arg1) (ix2 n ⟨k.val * 4 + 2, by omega⟩))) := by
  unfold decHi centre stretch
  rw [p88, p87, p66, p73, p26, p33, p30]

/-- A decoded side. -/
theorem side_92 (n : Fin 20000) (k : Fin 80) : @Eq EReal (R21 V (Proc.devRef .tc main_v92) (ix2 n k)) (decHi (R21 V (Proc.devRef .tc main_v2) ix0) (R21 V (Proc.devRef .tc main_arg2) (ix2 n 1)) (R21 V (Proc.devRef .tc main_arg2) (ix2 n 3)) (R21 V (Proc.devRef .tc main_arg1) (ix2 n ⟨k.val * 4 + 1, by omega⟩)) (R21 V (Proc.devRef .tc main_arg1) (ix2 n ⟨k.val * 4 + 3, by omega⟩))) := by
  unfold decHi centre stretch
  rw [p92, p91, p70, p76, p28, p34, p32]

end Cert.RefSide
-- ==== Proof.RefCand.lean ====
/- The candidates of the reference: the 2000 best scores with their boxes and their classes. -/
module

public import proofs.«01_k».proof.Proof.RefBoxes

@[expose] public section

set_option maxRecDepth 16384

noncomputable section

namespace Cert.RefSide

open Idealize.ShloMosaic Idealize.ShloMosaic.TcCoe Idealize.ShloMosaic.StableHlo
open Cert.ReferenceIdeal Cert.ReferenceIdeal.Gen Cert.ReferenceIdeal.Value Cert.Spec

variable (V : Valuation τ sig (Elt Ideal))

/-- All scores in a row. -/
theorem p98 (p : Fin 1600000) : @Eq EReal (R21 V (Proc.devRef .tc main_v98) (ix1 p)) (R21 V (Proc.devRef .tc main_v17) (ix2 ⟨p.val / 80, by omega⟩ ⟨p.val % 80, by omega⟩)) := by
  rw [← keep13 V main_v98 (by decide +kernel)]
  show @Eq EReal (after hostOps0_12 (R12 V) (Proc.devRef .tc main_v98) (ix1 p)) _
  rw [← keep12 V main_v17 (by decide +kernel)]
  after_reads_simp
  pointwise

/-- Column 0 of all boxes in a row. -/
theorem p99_0 (p : Fin 1600000) : @Eq EReal (R21 V (Proc.devRef .tc main_v99) (ix2 p 0)) (R21 V (Proc.devRef .tc main_v80) (ix2 ⟨p.val / 80, by omega⟩ ⟨p.val % 80, by omega⟩)) := by
  rw [← keep13 V main_v99 (by decide +kernel), ← keep12 V main_v80 (by decide +kernel)]
  show @Eq EReal (after hostOps0_12 (R12 V) (Proc.devRef .tc main_v99) (ix2 p 0)) _
  after_reads_simp
  pointwise
  have h : @Eq EReal (upto hostOps0_12 (R12 V) 4 (Proc.devRef .tc main_v93) (ix3 ⟨p.val / 80, by omega⟩ ⟨p.val % 80, by omega⟩ 0)) (R12 V (Proc.devRef .tc main_v80) (ix2 ⟨p.val / 80, by omega⟩ ⟨p.val % 80, by omega⟩)) := by
    after_reads_simp
    pointwise
  exact h

/-- Column 1 of all boxes in a row. -/
theorem p99_1 (p : Fin 1600000) : @Eq EReal (R21 V (Proc.devRef .tc main_v99) (ix2 p 1)) (R21 V (Proc.devRef .tc main_v84) (ix2 ⟨p.val / 80, by omega⟩ ⟨p.val % 80, by omega⟩)) := by
  rw [← keep13 V main_v99 (by decide +kernel), ← keep12 V main_v84 (by decide +kernel)]
  show @Eq EReal (after hostOps0_12 (R12 V) (Proc.devRef .tc main_v99) (ix2 p 1)) _
  after_reads_simp
  pointwise
  have h : @Eq EReal (upto hostOps0_12 (R12 V) 4 (Proc.devRef .tc main_v94) (ix3 ⟨p.val / 80, by omega⟩ ⟨p.val % 80, by omega⟩ 0)) (R12 V (Proc.devRef .tc main_v84) (ix2 ⟨p.val / 80, by omega⟩ ⟨p.val % 80, by omega⟩)) := by
    after_reads_simp
    pointwise
  exact h

/-- Column 2 of all boxes in a row. -/
theorem p99_2 (p : Fin 1600000) : @Eq EReal (R21 V (Proc.devRef .tc main_v99) (ix2 p 2)) (R21 V (Proc.devRef .tc main_v88) (ix2 ⟨p.val / 80, by omega⟩ ⟨p.val % 80, by omega⟩)) := by
  rw [← keep13 V main_v99 (by decide +kernel), ← keep12 V main_v88 (by decide +kernel)]
  show @Eq EReal (after hostOps0_12 (R12 V) (Proc.devRef .tc main_v99) (ix2 p 2)) _
  after_reads_simp
  pointwise
  have h : @Eq EReal (upto hostOps0_12 (R12 V) 4 (Proc.devRef .tc main_v95) (ix3 ⟨p.val / 80, by omega⟩ ⟨p.val % 80, by omega⟩ 0)) (R12 V (Proc.devRef .tc main_v88) (ix2 ⟨p.val / 80, by omega⟩ ⟨p.val % 80, by omega⟩)) := by
    after_reads_simp
    pointwise
  exact h

/-- Column 3 of all boxes in a row. -/
theorem p99_3 (p : Fin 1600000) : @Eq EReal (R21 V (Proc.devRef .tc main_v99) (ix2 p 3)) (R21 V (Proc.devRef .tc main_v92) (ix2 ⟨p.val / 80, by omega⟩ ⟨p.val % 80, by omega⟩)) := by
  rw [← keep13 V main_v99 (by decide +kernel), ← keep12 V main_v92 (by decide +kernel)]
  show @Eq EReal (after hostOps0_12 (R12 V) (Proc.devRef .tc main_v99) (ix2 p 3)) _
  after_reads_simp
  pointwise
  have h : @Eq EReal (upto hostOps0_12 (R12 V) 4 (Proc.devRef .tc main_v96) (ix3 ⟨p.val / 80, by omega⟩ ⟨p.val % 80, by omega⟩ 0)) (R12 V (Proc.devRef .tc main_v92) (ix2 ⟨p.val / 80, by omega⟩ ⟨p.val % 80, by omega⟩)) := by
    after_reads_simp
    pointwise
  exact h

/-- A row of scores, those that do not count replaced. -/
theorem replaced_at (x : FVec Ideal S1600000 .f32) (t z : FVec Ideal S_ .f32) (p : Fin 1600000) :
    @Eq EReal (select (cmpf .ogt x (broadcastInDim S1600000 ![] bcast_S_S1600000 t)) x (broadcastInDim S1600000 ![] bcast_S_S1600000 z) (ix1 p))
      (if t ix0 < x (ix1 p) then x (ix1 p) else z ix0) := by
  pointwise

/-- All scores, those that do not count replaced by minus one. -/
theorem p102 (p : Fin 1600000) : @Eq EReal (R21 V (Proc.devRef .tc main_v102) (ix1 p)) (mask (R21 V (Proc.devRef .tc main_v98) (ix1 p))) := by
  rw [← keep14 V main_v102 (by decide +kernel), ← keep13 V main_v98 (by decide +kernel)]
  have h : R14 V (Proc.devRef .tc main_v102) = select (R13 V (Proc.devRef .tc main_v101) : IVec S1600000 1) (R13 V (Proc.devRef .tc main_v98) : FVec Ideal S1600000 .f32)
      (broadcastInDim S1600000 ![] bcast_S_S1600000 (R13 V (Proc.devRef .tc main_cst_19) : FVec Ideal S_ .f32)) := by
    show after hostOps0_13 (R13 V) (Proc.devRef .tc main_v102) = _
    after_reads_simp
    simp only [TRef.ofBuf_toBuf]
    simp -implicitDefEqProofs only [TRef.toBuf, TRef.ofBuf, cast_eq, id]
  have h1 : R13 V (Proc.devRef .tc main_v101) = cmpf (F := Ideal) (φ := .f32) .ogt (R13 V (Proc.devRef .tc main_v98)) (broadcastInDim S1600000 ![] bcast_S_S1600000 (constant S_ .f32 0x3D4CCCCD#32)) := by
    show after hostOps0_12 (R12 V) (Proc.devRef .tc main_v101) = cmpf (F := Ideal) (φ := .f32) .ogt (after hostOps0_12 (R12 V) (Proc.devRef .tc main_v98)) _
    after_reads_simp
  have h2 : R13 V (Proc.devRef .tc main_cst_19) = constant (F := Ideal) S_ .f32 0xBF800000#32 := by
    show after hostOps0_12 (R12 V) (Proc.devRef .tc main_cst_19) = _
    after_reads_simp
  rw [h, h1, h2]
  refine (replaced_at _ _ _ p).trans ?_
  rfl

/-- All masked scores in a row. -/
theorem flat : (R21 V (Proc.devRef .tc main_v102)) = flatScore (R21 V (Proc.devRef .tc main_arg0)) := by
  funext i
  idx_vars i
  refine (p102 V i0).trans ?_
  rw [p98, p17]
  rfl

/-- The 2000 best scores. -/
theorem values : (R21 V (Proc.devRef .tc main_values)) = (best (flatScore (R21 V (Proc.devRef .tc main_arg0))) fits).1 := by
  rw [← flat V, ← keep15 V main_values (by decide +kernel), ← keep14 V main_v102 (by decide +kernel)]
  show after hostOps0_14 (R14 V) (Proc.devRef .tc main_values) = _
  after_reads_simp

/-- The positions of the 2000 best scores. -/
theorem indices : (R21 V (Proc.devRef .tc main_indices)) = (best (flatScore (R21 V (Proc.devRef .tc main_arg0))) fits).2 := by
  rw [← flat V, ← keep15 V main_indices (by decide +kernel), ← keep14 V main_v102 (by decide +kernel)]
  show after hostOps0_14 (R14 V) (Proc.devRef .tc main_indices) = _
  after_reads_simp

/-- Each position is a word. -/
theorem word (s : Fin 2000) : @Eq (BitVec 32) (R21 V (Proc.devRef .tc main_indices) (ix1 s)) (BitVec.ofNat 32 (pos (R21 V (Proc.devRef .tc main_arg0)) s)) := by
  rw [indices]; exact word_eq _ s

/-- The class of a score: its position's word modulo 80. -/
theorem class_of (U : Valuation τ sig (Elt Ideal)) (hc : U (Proc.devRef .tc main_c_21) = constantI S_ 32 80#32) (s : Fin 2000) (k : ℕ) (hk : k < 1600000)
    (hI : U (Proc.devRef .tc main_indices) (ix1 s) = BitVec.ofNat 32 k) :
    @Eq (BitVec 32) (after hostOps0_15 U (Proc.devRef .tc main_v110) (ix1 s)) (BitVec.ofNat 32 (k % 80)) := by
  have h : after hostOps0_15 U (Proc.devRef .tc main_v110) = (select (andi ((cmpi .ne) ((cmpi .slt) (Host.remsi (U (Proc.devRef .tc main_indices) : IVec S2000 32) ((broadcastInDim S2000 ![] bcast_S_S2000) (select ((cmpi .eq) (U (Proc.devRef .tc main_c_21) : IVec S_ 32) ((constantI S_ 32 0#32))) ((constantI S_ 32 1#32)) (U (Proc.devRef .tc main_c_21) : IVec S_ 32)))) ((broadcastInDim S2000 ![] bcast_S_S2000) ((constantI S_ 32 0#32)))) ((broadcastInDim S2000 ![] bcast_S_S2000) ((cmpi .slt) (select ((cmpi .eq) (U (Proc.devRef .tc main_c_21) : IVec S_ 32) ((constantI S_ 32 0#32))) ((constantI S_ 32 1#32)) (U (Proc.devRef .tc main_c_21) : IVec S_ 32)) ((constantI S_ 32 0#32))))) ((cmpi .ne) (Host.remsi (U (Proc.devRef .tc main_indices) : IVec S2000 32) ((broadcastInDim S2000 ![] bcast_S_S2000) (select ((cmpi .eq) (U (Proc.devRef .tc main_c_21) : IVec S_ 32) ((constantI S_ 32 0#32))) ((constantI S_ 32 1#32)) (U (Proc.devRef .tc main_c_21) : IVec S_ 32)))) ((broadcastInDim S2000 ![] bcast_S_S2000) ((constantI S_ 32 0#32))))) (addi (Host.remsi (U (Proc.devRef .tc main_indices) : IVec S2000 32) ((broadcastInDim S2000 ![] bcast_S_S2000) (select ((cmpi .eq) (U (Proc.devRef .tc main_c_21) : IVec S_ 32) ((constantI S_ 32 0#32))) ((constantI S_ 32 1#32)) (U (Proc.devRef .tc main_c_21) : IVec S_ 32)))) ((broadcastInDim S2000 ![] bcast_S_S2000) (select ((cmpi .eq) (U (Proc.devRef .tc main_c_21) : IVec S_ 32) ((constantI S_ 32 0#32))) ((constantI S_ 32 1#32)) (U (Proc.devRef .tc main_c_21) : IVec S_ 32)))) (Host.remsi (U (Proc.devRef .tc main_indices) : IVec S2000 32) ((broadcastInDim S2000 ![] bcast_S_S2000) (select ((cmpi .eq) (U (Proc.devRef .tc main_c_21) : IVec S_ 32) ((constantI S_ 32 0#32))) ((constantI S_ 32 1#32)) (U (Proc.devRef .tc main_c_21) : IVec S_ 32))))) := by
    after_reads_simp
    simp only [TRef.ofBuf_toBuf]
    rfl
  rw [h, hc]
  pointwise
  rw [hI]
  exact mod_word k (by omega)

/-- A row of all boxes that a position names. -/
theorem row_of (U : Valuation τ sig (Elt Ideal)) (s : Fin 2000) (k : ℕ) (hk : k < 1600000)
    (hI : after hostOps0_14 U (Proc.devRef .tc main_indices) (ix1 s) = BitVec.ofNat 32 k) (j : Fin 4) :
    @Eq EReal (after hostOps0_14 U (Proc.devRef .tc main_v109) (ix2 s j)) (U (Proc.devRef .tc main_v99) (ix2 ⟨k, hk⟩ j)) := by
  generalize hX : after hostOps0_14 U (Proc.devRef .tc main_indices) = X at hI
  have e : after hostOps0_14 U (Proc.devRef .tc main_v109) = Host.gather gather_S1600000x4_S2000x1_S2000x4_1_0_n_n_0_1_14 (U (Proc.devRef .tc main_v99))
     (broadcastInDim S2000x1 ![0] bcast_S2000_S2000x1_0 (select (cmpi .slt X (broadcastInDim S2000 ![] bcast_S_S2000 (constantI S_ 32 0#32)))
       (addi X (broadcastInDim S2000 ![] bcast_S_S2000 (constantI S_ 32 1600000#32))) X)) := by
    rw [← hX]
    after_reads_simp
  rw [e]
  refine (gather_rows (by norm_num) _ _ _ s j).trans ?_
  pointwise
  simp only [hI, wrap_word _ (show k < 2 ^ 31 by omega), word_clamp k 1599999 (by omega) (by omega)]

/-- The classes of the candidates. -/
theorem classes (s : Fin 2000) : @Eq (BitVec 32) (R21 V (Proc.devRef .tc main_v110) (ix1 s)) (BitVec.ofNat 32 (pos (R21 V (Proc.devRef .tc main_arg0)) s % 80)) := by
  rw [← keep16 V main_v110 (by decide +kernel)]
  refine class_of (R15 V) ?_ s _ (pos_lt _ s) ?_
  · show after hostOps0_14 (R14 V) (Proc.devRef .tc main_c_21) = _
    after_reads_simp
  · rw [keep15 V main_indices (by decide +kernel)]; exact word V s

/-- The boxes of the candidates. -/
theorem boxes (s : Fin 2000) (j : Fin 4) : @Eq EReal (R21 V (Proc.devRef .tc main_v109) (ix2 s j))
    (box (R21 V (Proc.devRef .tc main_arg0)) (R21 V (Proc.devRef .tc main_arg1)) (R21 V (Proc.devRef .tc main_arg2)) (R21 V (Proc.devRef .tc main_v5) ix0) (R21 V (Proc.devRef .tc main_v2) ix0) s j) := by
  rw [← keep15 V main_v109 (by decide +kernel)]
  have hi : after hostOps0_14 (R14 V) (Proc.devRef .tc main_indices) (ix1 s) = BitVec.ofNat 32 (pos (R21 V (Proc.devRef .tc main_arg0)) s) :=
    (congrFun (keep15 V main_indices (by decide +kernel)) _).trans (word V s)
  refine (row_of (R14 V) s _ (pos_lt _ s) hi j).trans ?_
  rw [keep14 V main_v99 (by decide +kernel)]
  match j with
  | ⟨0, _⟩ => exact (p99_0 V _).trans (side_80 V _ _)
  | ⟨1, _⟩ => exact (p99_1 V _).trans (side_84 V _ _)
  | ⟨2, _⟩ => exact (p99_2 V _).trans (side_88 V _ _)
  | ⟨3, _⟩ => exact (p99_3 V _).trans (side_92 V _ _)

end Cert.RefSide
-- ==== Proof.RefOverlap.lean ====
/- The overlaps the reference computes between its candidates, and the contents with which its loop starts. -/
module

public import proofs.«01_k».proof.Proof.RefCand

@[expose] public section

set_option maxRecDepth 16384

noncomputable section

namespace Cert.RefSide

open Idealize.ShloMosaic Idealize.ShloMosaic.TcCoe Idealize.ShloMosaic.StableHlo
open Cert.ReferenceIdeal Cert.ReferenceIdeal.Gen Cert.ReferenceIdeal.Value Cert.Spec

variable (V : Valuation τ sig (Elt Ideal))

/-- The word of all zeros is the number zero. -/
theorem zero_bits : Ideal.ofBits .f32 0x00000000#32 = 0 := by
  simp [Ideal.ofBits, Ideal.ieee]

/-- All boxes, moved by their classes. -/
def shifted (x : FVec Ideal S2000x4 .f32) (w : IVec S2000 32) : FVec Ideal S2000x4 .f32 :=
  addf x (broadcastInDim S2000x4 ![0, 1] bcast_S2000x1_S2000x4_0_1
    (mulf (broadcastInDim S2000x1 ![0] bcast_S2000_S2000x1_0 (sitofp .f32 w))
      (broadcastInDim S2000x1 ![] bcast_S_S2000x1
        (addf (Host.reduce (FloatOps.maximumf (F := Ideal) (φ := .f32)) x (constant S_ .f32 0xFF800000#32) reducesTo_S2000x4_S_d0_1 h_S_)
          (constant S_ .f32 0x3F800000#32)))))

/-- The largest entry of an array. -/
theorem top_at (x : FVec Ideal S2000x4 .f32) (z : FVec Ideal S_ .f32) :
    @Eq EReal (Host.reduce (FloatOps.maximumf (F := Ideal) (φ := .f32)) x z reducesTo_S2000x4_S_d0_1 h_S_ ix0)
      (Finset.fold max (z (Shape.Idx.first h_S_)) (fun p : Fin 2000 × Fin 4 => x (ix2 p.1 p.2)) Finset.univ) := by
  pointwise

/-- A coordinate of a moved box. -/
theorem shifted_at (x : FVec Ideal S2000x4 .f32) (w : IVec S2000 32) (s : Fin 2000) (j : Fin 4) :
    @Eq EReal (shifted x w (ix2 s j)) (x (ix2 s j) + FloatOps.sitofp (F := Ideal) .f32 (w (ix1 s)) *
      (Finset.fold max (Ideal.ofBits .f32 0xFF800000#32) (fun p : Fin 2000 × Fin 4 => x (ix2 p.1 p.2)) Finset.univ + 1)) := by
  have h := top_at x (constant S_ .f32 0xFF800000#32)
  unfold shifted
  generalize Host.reduce (FloatOps.maximumf (F := Ideal) (φ := .f32)) x (constant S_ .f32 0xFF800000#32) reducesTo_S2000x4_S_d0_1 h_S_ = y at h ⊢
  pointwise
  rw [h]
  rfl

/-- Column 0 of an array of boxes. -/
def col0 (b : FVec Ideal S2000x4 .f32) : FVec Ideal S2000 .f32 :=
  shapeCast S2000 (extractStridedSlice S2000x1 ![0, 0] b slices_S2000x4_S2000x1_0_0) shapeCasts_S2000x1_S2000

/-- One entry of column 0. -/
theorem col0_at (b : FVec Ideal S2000x4 .f32) (s : Fin 2000) : @Eq EReal (col0 b (ix1 s)) (b (ix2 s 0)) := by
  unfold col0
  pointwise

/-- Column 1 of an array of boxes. -/
def col1 (b : FVec Ideal S2000x4 .f32) : FVec Ideal S2000 .f32 :=
  shapeCast S2000 (extractStridedSlice S2000x1 ![0, 1] b slices_S2000x4_S2000x1_0_1) shapeCasts_S2000x1_S2000

/-- One entry of column 1. -/
theorem col1_at (b : FVec Ideal S2000x4 .f32) (s : Fin 2000) : @Eq EReal (col1 b (ix1 s)) (b (ix2 s 1)) := by
  unfold col1
  pointwise

/-- Column 2 of an array of boxes. -/
def col2 (b : FVec Ideal S2000x4 .f32) : FVec Ideal S2000 .f32 :=
  shapeCast S2000 (extractStridedSlice S2000x1 ![0, 2] b slices_S2000x4_S2000x1_0_2) shapeCasts_S2000x1_S2000

/-- One entry of column 2. -/
theorem col2_at (b : FVec Ideal S2000x4 .f32) (s : Fin 2000) : @Eq EReal (col2 b (ix1 s)) (b (ix2 s 2)) := by
  unfold col2
  pointwise

/-- Column 3 of an array of boxes. -/
def col3 (b : FVec Ideal S2000x4 .f32) : FVec Ideal S2000 .f32 :=
  shapeCast S2000 (extractStridedSlice S2000x1 ![0, 3] b slices_S2000x4_S2000x1_0_3) shapeCasts_S2000x1_S2000

/-- One entry of column 3. -/
theorem col3_at (b : FVec Ideal S2000x4 .f32) (s : Fin 2000) : @Eq EReal (col3 b (ix1 s)) (b (ix2 s 3)) := by
  unfold col3
  pointwise

/-- The areas of an array of boxes. -/
def areas (b : FVec Ideal S2000x4 .f32) : FVec Ideal S2000 .f32 := mulf (subf (col2 b) (col0 b)) (subf (col3 b) (col1 b))

/-- One area. -/
theorem areas_at (b : FVec Ideal S2000x4 .f32) (s : Fin 2000) :
    @Eq EReal (areas b (ix1 s)) ((b (ix2 s 2) - b (ix2 s 0)) * (b (ix2 s 3) - b (ix2 s 1))) := by
  unfold areas
  pointwise
  rw [col0_at, col1_at, col2_at, col3_at]

/-- A row of numbers, as a column repeated. -/
def down (x : FVec Ideal S2000 .f32) : FVec Ideal S2000x2000 .f32 :=
  broadcastInDim S2000x2000 ![0, 1] bcast_S2000x1_S2000x2000_0_1 (broadcastInDim S2000x1 ![0] bcast_S2000_S2000x1_0 x)

/-- A row of numbers, as a row repeated. -/
def along (x : FVec Ideal S2000 .f32) : FVec Ideal S2000x2000 .f32 :=
  broadcastInDim S2000x2000 ![0, 1] bcast_S1x2000_S2000x2000_0_1 (broadcastInDim S1x2000 ![1] bcast_S2000_S1x2000_1 x)

/-- One entry of a repeated column. -/
theorem down_at (x : FVec Ideal S2000 .f32) (k r : Fin 2000) : @Eq EReal (down x (ix2 k r)) (x (ix1 k)) := by
  unfold down
  pointwise

/-- One entry of a repeated row. -/
theorem along_at (x : FVec Ideal S2000 .f32) (k r : Fin 2000) : @Eq EReal (along x (ix2 k r)) (x (ix1 r)) := by
  unfold along
  pointwise

/-- The moved boxes, from the boxes and the classes. -/
theorem moves (U : Valuation τ sig (Elt Ideal)) : after hostOps0_16 U (Proc.devRef .tc main_v120)
    = shifted (U (Proc.devRef .tc main_v109)) (U (Proc.devRef .tc main_v110)) := by
  after_reads_simp
  rfl

/-- The moved boxes. -/
theorem p120 (s : Fin 2000) (j : Fin 4) : @Eq EReal (R21 V (Proc.devRef .tc main_v120) (ix2 s j)) (moved (R21 V (Proc.devRef .tc main_arg0)) (R21 V (Proc.devRef .tc main_arg1)) (R21 V (Proc.devRef .tc main_arg2)) (R21 V (Proc.devRef .tc main_v5) ix0) (R21 V (Proc.devRef .tc main_v2) ix0) s j) := by
  rw [← keep17 V main_v120 (by decide +kernel)]
  have h : R17 V (Proc.devRef .tc main_v120) = shifted (R16 V (Proc.devRef .tc main_v109)) (R16 V (Proc.devRef .tc main_v110)) := moves (R16 V)
  refine (congrFun h _).trans ((shifted_at _ _ s j).trans ?_)
  rw [keep16 V main_v109 (by decide +kernel), keep16 V main_v110 (by decide +kernel)]
  have hf : (fun p : Fin 2000 × Fin 4 => (R21 V (Proc.devRef .tc main_v109) (ix2 p.1 p.2) : EReal)) = fun p => box (R21 V (Proc.devRef .tc main_arg0)) (R21 V (Proc.devRef .tc main_arg1)) (R21 V (Proc.devRef .tc main_arg2)) (R21 V (Proc.devRef .tc main_v5) ix0) (R21 V (Proc.devRef .tc main_v2) ix0) p.1 p.2 :=
    funext fun p => boxes V p.1 p.2
  have hb := boxes V s j
  have hl := congrArg (FloatOps.sitofp (F := Ideal) .f32) (classes V s)
  unfold moved off far cls
  rw [← hf, ← hb, ← hl]

/-- The areas of the moved boxes. -/
theorem u131 (U : Valuation τ sig (Elt Ideal)) : after hostOps0_16 U (Proc.devRef .tc main_v131) = areas (after hostOps0_16 U (Proc.devRef .tc main_v120)) := by
  after_reads_simp
  rfl

/-- The areas of the moved boxes. -/
theorem q131 : (R21 V (Proc.devRef .tc main_v131)) = areas (R21 V (Proc.devRef .tc main_v120)) := by
  rw [← keep17 V main_v131 (by decide +kernel), ← keep17 V main_v120 (by decide +kernel)]
  exact u131 (R16 V)

/-- The widths of the intersections. -/
theorem u152 (U : Valuation τ sig (Elt Ideal)) : after hostOps0_16 U (Proc.devRef .tc main_v152) = subf (minimumf (down (col2 (after hostOps0_16 U (Proc.devRef .tc main_v120)))) (along (col2 (after hostOps0_16 U (Proc.devRef .tc main_v120))))) (maximumf (down (col0 (after hostOps0_16 U (Proc.devRef .tc main_v120)))) (along (col0 (after hostOps0_16 U (Proc.devRef .tc main_v120))))) := by
  after_reads_simp
  rfl

/-- The widths of the intersections. -/
theorem q152 : (R21 V (Proc.devRef .tc main_v152)) = subf (minimumf (down (col2 (R21 V (Proc.devRef .tc main_v120)))) (along (col2 (R21 V (Proc.devRef .tc main_v120))))) (maximumf (down (col0 (R21 V (Proc.devRef .tc main_v120)))) (along (col0 (R21 V (Proc.devRef .tc main_v120))))) := by
  rw [← keep17 V main_v152 (by decide +kernel), ← keep17 V main_v120 (by decide +kernel)]
  exact u152 (R16 V)

/-- The lower ends of the intersections. -/
theorem u141 (U : Valuation τ sig (Elt Ideal)) : after hostOps0_16 U (Proc.devRef .tc main_v141) = maximumf (down (col1 (after hostOps0_16 U (Proc.devRef .tc main_v120)))) (along (col1 (after hostOps0_16 U (Proc.devRef .tc main_v120)))) := by
  after_reads_simp
  rfl

/-- The lower ends of the intersections. -/
theorem q141 : (R21 V (Proc.devRef .tc main_v141)) = maximumf (down (col1 (R21 V (Proc.devRef .tc main_v120)))) (along (col1 (R21 V (Proc.devRef .tc main_v120)))) := by
  rw [← keep17 V main_v141 (by decide +kernel), ← keep17 V main_v120 (by decide +kernel)]
  exact u141 (R16 V)

/-- The upper ends of the intersections. -/
theorem u151 (U : Valuation τ sig (Elt Ideal)) : after hostOps0_16 U (Proc.devRef .tc main_v151) = minimumf (down (col3 (after hostOps0_16 U (Proc.devRef .tc main_v120)))) (along (col3 (after hostOps0_16 U (Proc.devRef .tc main_v120)))) := by
  after_reads_simp
  rfl

/-- The upper ends of the intersections. -/
theorem q151 : (R21 V (Proc.devRef .tc main_v151)) = minimumf (down (col3 (R21 V (Proc.devRef .tc main_v120)))) (along (col3 (R21 V (Proc.devRef .tc main_v120)))) := by
  rw [← keep17 V main_v151 (by decide +kernel), ← keep17 V main_v120 (by decide +kernel)]
  exact u151 (R16 V)

/-- No entry below a given number. -/
def floored (lo : FVec Ideal S_ .f32) (x : FVec Ideal S2000x2000 .f32) : FVec Ideal S2000x2000 .f32 :=
  maximumf (broadcastInDim S2000x2000 ![] bcast_S_S2000x2000 lo) x

/-- One entry, not below a given number. -/
theorem floored_at (lo : FVec Ideal S_ .f32) (x : FVec Ideal S2000x2000 .f32) (k r : Fin 2000) :
    @Eq EReal (floored lo x (ix2 k r)) (max (lo ix0) (x (ix2 k r))) := by
  unfold floored
  pointwise

/-- One difference of a smaller and a larger number. -/
theorem gap_at (a b c d : FVec Ideal S2000 .f32) (k r : Fin 2000) :
    @Eq EReal (subf (minimumf (down a) (along b)) (maximumf (down c) (along d)) (ix2 k r)) (min (a (ix1 k)) (b (ix1 r)) - max (c (ix1 k)) (d (ix1 r))) := by
  pointwise
  rw [down_at, down_at, along_at, along_at]

/-- A truth value's mark is one exactly when it holds. -/
theorem mark_iff (p : Prop) [Decidable p] : BitVec.ofBool (decide p) = 1#1 ↔ p := by
  by_cases h : p <;> simp [h]

/-- One comparison with the least score that counts. -/
theorem counts_at (x : FVec Ideal S2000 .f32) (r : Fin 2000) :
    (cmpf .ogt x (broadcastInDim S2000 ![] bcast_S_S2000 (constant S_ .f32 0x3D4CCCCD#32)) (ix1 r) = (1#1 : BitVec 1)) ↔ thr < (x (ix1 r) : EReal) := by
  pointwise
  exact mark_iff _

/-- The number below which no extent falls is zero. -/
theorem z25 (U : Valuation τ sig (Elt Ideal)) : after hostOps0_16 U (Proc.devRef .tc main_cst_25) = constant (F := Ideal) S_ .f32 0x00000000#32 := by
  after_reads_simp

/-- The extents of the intersections, none below zero. -/
theorem u153 (U : Valuation τ sig (Elt Ideal)) : after hostOps0_17 U (Proc.devRef .tc main_v153) = floored (U (Proc.devRef .tc main_cst_25)) (U (Proc.devRef .tc main_v152)) := by
  after_reads_simp
  simp only [TRef.ofBuf_toBuf]
  simp -implicitDefEqProofs only [TRef.toBuf, TRef.ofBuf, cast_eq, id]
  rfl

/-- An extent of the intersections, not below zero. -/
theorem q153 (k r : Fin 2000) : @Eq EReal (R21 V (Proc.devRef .tc main_v153) (ix2 k r)) (max 0 (R21 V (Proc.devRef .tc main_v152) (ix2 k r))) := by
  rw [← keep18 V main_v153 (by decide +kernel), ← keep17 V main_v152 (by decide +kernel)]
  have hz : R17 V (Proc.devRef .tc main_cst_25) = constant (F := Ideal) S_ .f32 0x00000000#32 := z25 (R16 V)
  have h : R18 V (Proc.devRef .tc main_v153) = floored (R17 V (Proc.devRef .tc main_cst_25)) (R17 V (Proc.devRef .tc main_v152)) := u153 (R17 V)
  rw [h, hz]
  exact (floored_at _ _ k r).trans (congrArg (fun z : EReal => max z _) zero_bits)

/-- The number below which no extent falls is zero. -/
theorem z26 (U : Valuation τ sig (Elt Ideal)) : after hostOps0_18 U (Proc.devRef .tc main_cst_26) = constant (F := Ideal) S_ .f32 0x00000000#32 := by
  after_reads_simp

/-- The extents of the intersections, none below zero. -/
theorem u155 (U : Valuation τ sig (Elt Ideal)) : after hostOps0_19 U (Proc.devRef .tc main_v155) = floored (U (Proc.devRef .tc main_cst_26)) (U (Proc.devRef .tc main_v154)) := by
  after_reads_simp
  simp only [TRef.ofBuf_toBuf]
  simp -implicitDefEqProofs only [TRef.toBuf, TRef.ofBuf, cast_eq, id]
  rfl

/-- An extent of the intersections, not below zero. -/
theorem q155 (k r : Fin 2000) : @Eq EReal (R21 V (Proc.devRef .tc main_v155) (ix2 k r)) (max 0 (R21 V (Proc.devRef .tc main_v154) (ix2 k r))) := by
  rw [← keep20 V main_v155 (by decide +kernel), ← keep19 V main_v154 (by decide +kernel)]
  have hz : R19 V (Proc.devRef .tc main_cst_26) = constant (F := Ideal) S_ .f32 0x00000000#32 := z26 (R18 V)
  have h : R20 V (Proc.devRef .tc main_v155) = floored (R19 V (Proc.devRef .tc main_cst_26)) (R19 V (Proc.devRef .tc main_v154)) := u155 (R19 V)
  rw [h, hz]
  exact (floored_at _ _ k r).trans (congrArg (fun z : EReal => max z _) zero_bits)

/-- The heights of the intersections. -/
theorem u154 (U : Valuation τ sig (Elt Ideal)) : after hostOps0_18 U (Proc.devRef .tc main_v154) = subf (F := Ideal) (φ := .f32) (U (Proc.devRef .tc main_v151)) (U (Proc.devRef .tc main_v141)) := by
  after_reads_simp

/-- The heights of the intersections. -/
theorem q154 : (R21 V (Proc.devRef .tc main_v154)) = subf (F := Ideal) (φ := .f32) (R21 V (Proc.devRef .tc main_v151)) (R21 V (Proc.devRef .tc main_v141)) := by
  rw [← keep19 V main_v154 (by decide +kernel), ← keep18 V main_v151 (by decide +kernel), ← keep18 V main_v141 (by decide +kernel)]
  exact u154 (R18 V)

/-- A quotient of intersection over union. -/
def quot (a b : FVec Ideal S2000x2000 .f32) (c : FVec Ideal S2000 .f32) : FVec Ideal S2000x2000 .f32 :=
  Host.divf (mulf a b) (addf (subf (addf (down c) (along c)) (mulf a b)) (broadcastInDim S2000x2000 ![] bcast_S_S2000x2000 (constant S_ .f32 0x358637BD#32)))

/-- One quotient. -/
theorem quot_at (a b : FVec Ideal S2000x2000 .f32) (c : FVec Ideal S2000 .f32) (k r : Fin 2000) :
    @Eq EReal (quot a b c (ix2 k r)) (Ideal.div (a (ix2 k r) * b (ix2 k r)) (c (ix1 k) + c (ix1 r) - a (ix2 k r) * b (ix2 k r) + eps)) := by
  unfold quot
  pointwise
  rw [down_at, along_at]

/-- The loop's first value holds the quotients. -/
theorem u167_0 (U : Valuation τ sig (Elt Ideal)) : after hostOps0_20 U (Proc.devRef .tc main_v167_0) = quot (U (Proc.devRef .tc main_v153)) (U (Proc.devRef .tc main_v155)) (U (Proc.devRef .tc main_v131)) := by
  after_reads_simp
  rfl

/-- The loop's last value holds the marks of the candidates that count. -/
theorem u167_4 (U : Valuation τ sig (Elt Ideal)) : after hostOps0_20 U (Proc.devRef .tc main_v167_4) = U (Proc.devRef .tc main_v112) := by
  after_reads_simp
  rfl

/-- The marks of the candidates that count. -/
theorem u112 (U : Valuation τ sig (Elt Ideal)) : after hostOps0_16 U (Proc.devRef .tc main_v112) = cmpf (F := Ideal) (φ := .f32) .ogt (U (Proc.devRef .tc main_values)) (broadcastInDim S2000 ![] bcast_S_S2000 (constant S_ .f32 0x3D4CCCCD#32)) := by
  after_reads_simp

/-- The loop's second value holds the numbers of the candidates. -/
theorem u167_1 (U : Valuation τ sig (Elt Ideal)) (r : Fin 2000) : @Eq (BitVec 32) (after hostOps0_20 U (Proc.devRef .tc main_v167_1) (ix1 r)) (BitVec.ofNat 32 r.val) := by
  after_reads_simp
  rfl

/-- The loop's lower bound. -/
theorem u167_2 (U : Valuation τ sig (Elt Ideal)) : @Eq (BitVec 32) (after hostOps0_20 U (Proc.devRef .tc main_v167_2) ix0) 0#32 := by
  after_reads_simp
  rfl

/-- The loop's counter as it starts. -/
theorem u167_3 (U : Valuation τ sig (Elt Ideal)) : @Eq (BitVec 32) (after hostOps0_20 U (Proc.devRef .tc main_v167_3) ix0) 0#32 := by
  after_reads_simp
  rfl

/-- The overlaps of the candidates. -/
theorem overlaps (k r : Fin 2000) : @Eq EReal (R21 V (Proc.devRef .tc main_v167_0) (ix2 k r)) (ovF (R21 V (Proc.devRef .tc main_arg0)) (R21 V (Proc.devRef .tc main_arg1)) (R21 V (Proc.devRef .tc main_arg2)) (R21 V (Proc.devRef .tc main_v5) ix0) (R21 V (Proc.devRef .tc main_v2) ix0) k r) := by
  have h : R21 V (Proc.devRef .tc main_v167_0) = quot (R20 V (Proc.devRef .tc main_v153)) (R20 V (Proc.devRef .tc main_v155)) (R20 V (Proc.devRef .tc main_v131)) := u167_0 (R20 V)
  rw [h, keep20 V main_v153 (by decide +kernel), keep20 V main_v155 (by decide +kernel), keep20 V main_v131 (by decide +kernel)]
  refine (quot_at _ _ _ k r).trans ?_
  have h1 : @Eq EReal (R21 V (Proc.devRef .tc main_v153) (ix2 k r)) (max (min (moved (R21 V (Proc.devRef .tc main_arg0)) (R21 V (Proc.devRef .tc main_arg1)) (R21 V (Proc.devRef .tc main_arg2)) (R21 V (Proc.devRef .tc main_v5) ix0) (R21 V (Proc.devRef .tc main_v2) ix0) k 2) (moved (R21 V (Proc.devRef .tc main_arg0)) (R21 V (Proc.devRef .tc main_arg1)) (R21 V (Proc.devRef .tc main_arg2)) (R21 V (Proc.devRef .tc main_v5) ix0) (R21 V (Proc.devRef .tc main_v2) ix0) r 2) - max (moved (R21 V (Proc.devRef .tc main_arg0)) (R21 V (Proc.devRef .tc main_arg1)) (R21 V (Proc.devRef .tc main_arg2)) (R21 V (Proc.devRef .tc main_v5) ix0) (R21 V (Proc.devRef .tc main_v2) ix0) k 0) (moved (R21 V (Proc.devRef .tc main_arg0)) (R21 V (Proc.devRef .tc main_arg1)) (R21 V (Proc.devRef .tc main_arg2)) (R21 V (Proc.devRef .tc main_v5) ix0) (R21 V (Proc.devRef .tc main_v2) ix0) r 0)) 0) := by
    rw [q153, q152, max_comm, gap_at, col0_at, col0_at, col2_at, col2_at, p120, p120, p120, p120]
  have h2 : @Eq EReal (R21 V (Proc.devRef .tc main_v155) (ix2 k r)) (max (min (moved (R21 V (Proc.devRef .tc main_arg0)) (R21 V (Proc.devRef .tc main_arg1)) (R21 V (Proc.devRef .tc main_arg2)) (R21 V (Proc.devRef .tc main_v5) ix0) (R21 V (Proc.devRef .tc main_v2) ix0) k 3) (moved (R21 V (Proc.devRef .tc main_arg0)) (R21 V (Proc.devRef .tc main_arg1)) (R21 V (Proc.devRef .tc main_arg2)) (R21 V (Proc.devRef .tc main_v5) ix0) (R21 V (Proc.devRef .tc main_v2) ix0) r 3) - max (moved (R21 V (Proc.devRef .tc main_arg0)) (R21 V (Proc.devRef .tc main_arg1)) (R21 V (Proc.devRef .tc main_arg2)) (R21 V (Proc.devRef .tc main_v5) ix0) (R21 V (Proc.devRef .tc main_v2) ix0) k 1) (moved (R21 V (Proc.devRef .tc main_arg0)) (R21 V (Proc.devRef .tc main_arg1)) (R21 V (Proc.devRef .tc main_arg2)) (R21 V (Proc.devRef .tc main_v5) ix0) (R21 V (Proc.devRef .tc main_v2) ix0) r 1)) 0) := by
    rw [q155, q154, q151, q141, max_comm, gap_at, col1_at, col1_at, col3_at, col3_at, p120, p120, p120, p120]
  have h3 : ∀ s, @Eq EReal (R21 V (Proc.devRef .tc main_v131) (ix1 s)) (area (R21 V (Proc.devRef .tc main_arg0)) (R21 V (Proc.devRef .tc main_arg1)) (R21 V (Proc.devRef .tc main_arg2)) (R21 V (Proc.devRef .tc main_v5) ix0) (R21 V (Proc.devRef .tc main_v2) ix0) s) := fun s => by
    rw [q131, areas_at, p120, p120, p120, p120]
    rfl
  rw [h1, h2, h3, h3]
  rfl

/-- The candidates that count, before the loop. -/
theorem valid (r : Fin 2000) : (R21 V (Proc.devRef .tc main_v167_4) (ix1 r)) = (1#1 : BitVec 1) ↔ thr < score (R21 V (Proc.devRef .tc main_arg0)) r := by
  have h0 : R21 V (Proc.devRef .tc main_v167_4) = R20 V (Proc.devRef .tc main_v112) := u167_4 (R20 V)
  have h1 : R17 V (Proc.devRef .tc main_v112) = cmpf (F := Ideal) (φ := .f32) .ogt (R16 V (Proc.devRef .tc main_values)) _ := u112 (R16 V)
  rw [h0, keep20 V main_v112 (by decide +kernel), ← keep17 V main_v112 (by decide +kernel), h1, keep16 V main_values (by decide +kernel), values]
  exact counts_at _ r

end Cert.RefSide
-- ==== Proof.RefLoop.lean ====
/- The reference loop: after any number of its trips the marks are those of the suppression. -/
module

public import proofs.«01_k».proof.Proof.RefOverlap

@[expose] public section

set_option maxRecDepth 16384

noncomputable section

namespace Cert.RefSide

open Idealize.ShloMosaic Idealize.ShloMosaic.TcCoe Idealize.ShloMosaic.StableHlo
open Cert.ReferenceIdeal Cert.ReferenceIdeal.Gen Cert.ReferenceIdeal.Value Cert.Spec

/-- The place a counter names, counted from the end if it is negative. -/
def place (i : IVec S_ 32) : IVec S_ 32 :=
  select (cmpi .slt i (constantI S_ 32 0#32)) (addi i (constantI S_ 32 2000#32)) i

/-- A small counter names its own place. -/
theorem place_at (i : IVec S_ 32) (k : ℕ) (hk : k < 2000) (h : i ix0 = BitVec.ofNat 32 k) : place i ix0 = BitVec.ofNat 32 k := by
  unfold place
  pointwise
  rw [h]
  exact wrap_word k (by omega) _

/-- The row of an array at a place. -/
def rowAt (M : FVec Ideal S2000x2000 .f32) (i : IVec S_ 32) : FVec Ideal S2000 .f32 :=
  shapeCast S2000 (Host.dynamicSlice S1x2000 M (fun k => (((![place i, place (constantI S_ 32 0#32)] : Fin 2 → (⟨S_, .i32⟩ : BufTy).Contents (Elt Ideal))) k (Shape.Idx.first h_S_)).toInt) sliceFits_S2000x2000_S1x2000) shapeCasts_S1x2000_S2000

/-- The entry of a row at a place. -/
def entryAt (q : IVec S2000 1) (i : IVec S_ 32) : IVec S_ 1 :=
  shapeCast S_ (Host.dynamicSlice S1 q (fun k => (((![place i] : Fin 1 → (⟨S_, .i32⟩ : BufTy).Contents (Elt Ideal))) k (Shape.Idx.first h_S_)).toInt) sliceFits_S2000_S1) shapeCasts_S1_S_

/-- The marks after one more trip. -/
def next (M : FVec Ideal S2000x2000 .f32) (N : IVec S2000 32) (i : IVec S_ 32) (q : IVec S2000 1) : IVec S2000 1 :=
  andi q (noti (andi (andi (cmpf .ogt (rowAt M i) (broadcastInDim S2000 ![] bcast_S_S2000 (constant S_ .f32 0x3F000000#32)))
    (cmpi .sgt N (broadcastInDim S2000 ![] bcast_S_S2000 i))) (broadcastInDim S2000 ![] bcast_S_S2000 (entryAt q i))))

/-- One trip's marks. -/
theorem step_eq (W : Valuation τ sig (Elt Ideal)) : step_main_v167_4 W
    = next (W (Proc.devRef .tc main_v167_0)) (W (Proc.devRef .tc main_v167_1)) (W (Proc.devRef .tc main_v167_3)) (W (Proc.devRef .tc main_v167_4)) := rfl

/-- A rank zero shape has one index. -/
theorem first_eq : Shape.Idx.first h_S_ = ix0 := funext fun a => a.elim0

/-- The step of the counter. -/
theorem count_at (i : IVec S_ 32) (k : ℕ) (h : i ix0 = BitVec.ofNat 32 k) :
    addi i (constantI S_ 32 1#32) ix0 = BitVec.ofNat 32 (k + 1) := by
  pointwise
  rw [h]
  exact (BitVec.ofNat_add k 1).symm

/-- Where a block that starts at a small counter starts. -/
theorem start_at (s t : Shape) (ht : t.rank = s.rank) (f : Fin s.rank → ℤ) (a : Fin s.rank) (k : ℕ) (h : f a = (k : ℤ))
    (hk : k ≤ s.size a - t.size (a.cast ht.symm)) : Host.clampedStart s t ht f a = k := by
  unfold Host.clampedStart
  rw [h]
  omega

/-- The row at a small counter is that row. -/
theorem rowAt_at (M : FVec Ideal S2000x2000 .f32) (i : IVec S_ 32) (k : ℕ) (hk : k < 2000) (h : i ix0 = BitVec.ofNat 32 k) (r : Fin 2000) :
    @Eq EReal (rowAt M i (ix1 r)) (M (ix2 ⟨k, hk⟩ r)) := by
  unfold rowAt
  pointwise
  have e0 : Host.clampedStart S2000x2000 S1x2000 rfl
      (fun k => BitVec.toInt (![place i, place (constantI S_ 32 0#32)] k (Shape.Idx.first h_S_))) 0 = k :=
    start_at _ _ _ _ _ k ((congrArg BitVec.toInt ((congrArg (place i) first_eq).trans (place_at i k hk h))).trans (word_toInt k (by omega)))
      (by show k ≤ 2000 - 1; omega)
  have e1 : Host.clampedStart S2000x2000 S1x2000 rfl
      (fun k => BitVec.toInt (![place i, place (constantI S_ 32 0#32)] k (Shape.Idx.first h_S_))) 1 = 0 :=
    start_at _ _ _ _ _ 0 ((congrArg BitVec.toInt ((congrArg (place (constantI S_ 32 0#32)) first_eq).trans (place_at (constantI S_ 32 0#32) 0 (by omega) rfl))).trans (word_toInt 0 (by omega)))
      (by omega)
  exact congrArg₂ (fun a b => M (ix2 a b)) (Fin.ext e0) (Fin.ext ((congrArg (· + r.val) e1).trans (Nat.zero_add _)))

/-- The entry at a small counter is that entry. -/
theorem entryAt_at (q : IVec S2000 1) (i : IVec S_ 32) (k : ℕ) (hk : k < 2000) (h : i ix0 = BitVec.ofNat 32 k) :
    entryAt q i ix0 = q (ix1 ⟨k, hk⟩) := by
  unfold entryAt
  pointwise
  have e0 : Host.clampedStart S2000 S1 rfl (fun _ => (place i (Shape.Idx.first h_S_)).toInt) 0 = k :=
    start_at _ _ _ _ _ k ((congrArg BitVec.toInt ((congrArg (place i) first_eq).trans (place_at i k hk h))).trans (word_toInt k (by omega)))
      (by show k ≤ 2000 - 1; omega)
  exact congrArg (fun a => q (ix1 a)) (Fin.ext e0)

/-- A mark after one more trip: it was set, and the trip's candidate does not suppress it. -/
theorem next_at (M : FVec Ideal S2000x2000 .f32) (N : IVec S2000 32) (i : IVec S_ 32) (q : IVec S2000 1)
    (hN : ∀ r : Fin 2000, N (ix1 r) = BitVec.ofNat 32 r.val) (k : ℕ) (hk : k < 2000) (h : i ix0 = BitVec.ofNat 32 k) (r : Fin 2000) :
    next M N i q (ix1 r) = 1#1 ↔ q (ix1 r) = 1#1 ∧ ¬ (half < M (ix2 ⟨k, hk⟩ r) ∧ k < r.val ∧ q (ix1 ⟨k, hk⟩) = 1#1) := by
  unfold next
  pointwise
  rw [rowAt_at M i k hk h r, entryAt_at q i k hk h, hN r, h]
  simp only [IntOp.andi_eq_one, IntOp.not_eq_one, IntOp.cmpi_sgt, mark_iff, and_assoc, word_toInt r.val (by omega), word_toInt k (by omega), Nat.cast_lt]

/-- The marks after `k` trips that begin with counter zero, the candidates numbered and marked where
their score counts, are the survivors of the suppression by the first `k` candidates. -/
theorem marks (X : Valuation τ sig (Elt Ideal)) (sc : ℕ → EReal) (ov : ℕ → ℕ → EReal)
    (hM : ∀ k r : Fin 2000, @Eq EReal (X (Proc.devRef .tc main_v167_0) (ix2 k r)) (ov k.val r.val))
    (hN : ∀ r : Fin 2000, @Eq (BitVec 32) (X (Proc.devRef .tc main_v167_1) (ix1 r)) (BitVec.ofNat 32 r.val))
    (h0 : @Eq (BitVec 32) (X (Proc.devRef .tc main_v167_3) ix0) 0#32)
    (hq : ∀ r : Fin 2000, @Eq (BitVec 1) (X (Proc.devRef .tc main_v167_4) (ix1 r)) 1#1 ↔ thr < sc r.val) :
    ∀ k : ℕ, k ≤ 2000 → (STEP^[k] X) (Proc.devRef .tc main_v167_0) = X (Proc.devRef .tc main_v167_0)
      ∧ (STEP^[k] X) (Proc.devRef .tc main_v167_1) = X (Proc.devRef .tc main_v167_1)
      ∧ @Eq (BitVec 32) ((STEP^[k] X) (Proc.devRef .tc main_v167_3) ix0) (BitVec.ofNat 32 k)
      ∧ ∀ r : Fin 2000, @Eq (BitVec 1) ((STEP^[k] X) (Proc.devRef .tc main_v167_4) (ix1 r)) 1#1 ↔ keep sc ov k r.val := by
  intro k
  induction k with
  | zero => exact fun _ => ⟨rfl, rfl, h0, hq⟩
  | succ k ih =>
    intro hk
    obtain ⟨iM, iN, i3, iq⟩ := ih (by omega)
    rw [Function.iterate_succ_apply']
    generalize STEP^[k] X = Y at iM iN i3 iq
    refine ⟨(STEP_main_v167_0 Y).trans iM, (STEP_main_v167_1 Y).trans iN, ?_, fun r => ?_⟩
    · rw [STEP_main_v167_3]
      exact count_at _ k i3
    · rw [STEP_main_v167_4, step_eq]
      refine (next_at _ _ _ _ (fun r => by rw [iN]; exact hN r) k (by omega) i3 r).trans ?_
      rw [iM, iq r, iq ⟨k, by omega⟩]
      rw [hM ⟨k, by omega⟩ r]
      exact Iff.rfl

end Cert.RefSide
-- ==== Proof.RefFinal.lean ====
/- The reference's results as functions of its arguments. -/
module

public import proofs.«01_k».proof.Proof.RefLoop
public import Idealize.ShloMosaic.Lib.StableHlo.RunRead

@[expose] public section

set_option maxRecDepth 16384

noncomputable section

namespace Cert.RefSide

open Idealize.ShloMosaic Idealize.ShloMosaic.TcCoe Idealize.ShloMosaic.StableHlo
open Cert.ReferenceIdeal Cert.ReferenceIdeal.Gen Cert.ReferenceIdeal.Value Cert.Spec

section
variable (U : Valuation τ sig (Elt Ideal))

/-- The constant put in place of a suppressed score. -/
theorem fill : after hostOps0_21 U (Proc.devRef .tc main_cst_30) = constant (F := Ideal) S_ .f32 0xBF800000#32 := by
  after_reads_simp

/-- The scores that come back: the candidate's own where its mark is set, the constant elsewhere. -/
def kept (q : IVec S2000 1) (x : FVec Ideal S2000 .f32) (z : FVec Ideal S_ .f32) : FVec Ideal S2000 .f32 :=
  select q x (broadcastInDim S2000 ![] bcast_S_S2000 z)

/-- The scores that come back, read in one stretch. -/
theorem kept_eq : after hostOps0_22 U (Proc.devRef .tc main_v168) = kept (U (Proc.devRef .tc main_v167_4)) (U (Proc.devRef .tc main_values)) (U (Proc.devRef .tc main_cst_30)) := by
  after_reads_simp
  rfl

/-- One score that comes back. -/
theorem kept_at (q : IVec S2000 1) (x : FVec Ideal S2000 .f32) (r : Fin 2000) :
    @Eq EReal (kept q x (constant (F := Ideal) S_ .f32 0xBF800000#32) (ix1 r)) (if q (ix1 r) = 1#1 then x (ix1 r) else negOne) := by
  unfold kept
  pointwise
  rfl

/-- The last scores are the best of the scores that come back. -/
theorem last_values : after hostOps0_23 U (Proc.devRef .tc main_values_31) = (best (N := 2000) (K := 100) (U (Proc.devRef .tc main_v168)) fits').1 := by
  after_reads_simp

/-- Each last box is the box of the candidate its position names. -/
theorem last_boxes (s : Fin 100) (k : ℕ) (hk : k < 2000)
    (hI : (best (N := 2000) (K := 100) (U (Proc.devRef .tc main_v168)) fits').2 (ix1 s) = BitVec.ofNat 32 k) (j : Fin 4) :
    @Eq EReal (after hostOps0_23 U (Proc.devRef .tc main_v175) (ix2 s j)) (U (Proc.devRef .tc main_v109) (ix2 ⟨k, hk⟩ j)) := by
  generalize hB : U (Proc.devRef .tc main_v109) = B
  generalize hX : (best (N := 2000) (K := 100) (U (Proc.devRef .tc main_v168)) fits').2 = X at hI
  have e : after hostOps0_23 U (Proc.devRef .tc main_v175) = Host.gather gather_S2000x4_S100x1_S100x4_1_0_n_n_0_1_14 B
     (broadcastInDim S100x1 ![0] bcast_S100_S100x1_0 (select (cmpi .slt X (broadcastInDim S100 ![] bcast_S_S100 (constantI S_ 32 0#32)))
       (addi X (broadcastInDim S100 ![] bcast_S_S100 (constantI S_ 32 2000#32))) X)) := by
    rw [← hB, ← hX]
    after_reads_simp
  rw [e]
  refine (gather_rows (by norm_num) _ _ _ s j).trans ?_
  pointwise
  simp only [hI, wrap_word _ (show k < 2 ^ 31 by omega), word_clamp k 1999 (by omega) (by omega)]

/-- Each last class is the class of the candidate its position names. -/
theorem last_classes (s : Fin 100) (k : ℕ) (hk : k < 2000)
    (hI : (best (N := 2000) (K := 100) (U (Proc.devRef .tc main_v168)) fits').2 (ix1 s) = BitVec.ofNat 32 k) :
    @Eq (BitVec 32) (after hostOps0_23 U (Proc.devRef .tc main_v182) (ix1 s)) (U (Proc.devRef .tc main_v110) (ix1 ⟨k, hk⟩)) := by
  generalize hB : U (Proc.devRef .tc main_v110) = B
  generalize hX : (best (N := 2000) (K := 100) (U (Proc.devRef .tc main_v168)) fits').2 = X at hI
  have e : after hostOps0_23 U (Proc.devRef .tc main_v182) = Host.gather gather_S2000_S100x1_S100_n_0_n_n_0_1_1 B
     (broadcastInDim S100x1 ![0] bcast_S100_S100x1_0 (select (cmpi .slt X (broadcastInDim S100 ![] bcast_S_S100 (constantI S_ 32 0#32)))
       (addi X (broadcastInDim S100 ![] bcast_S_S100 (constantI S_ 32 2000#32))) X)) := by
    rw [← hB, ← hX]
    after_reads_simp
  rw [e]
  refine (gather_flat (by norm_num) _ _ _ s).trans ?_
  pointwise
  simp only [hI, wrap_word _ (show k < 2 ^ 31 by omega), word_clamp k 1999 (by omega) (by omega)]

/-- The scores that come back after the loop are the marked candidates' scores, with minus one elsewhere. -/
theorem after_post (q : IVec S2000 1) (x : FVec Ideal S2000 .f32) (hq : U (Proc.devRef .tc main_v167_4) = q) (hx : U (Proc.devRef .tc main_values) = x) :
    after hostOps0_22 (after hostOps0_21 U) (Proc.devRef .tc main_v168) = kept q x (constant (F := Ideal) S_ .f32 0xBF800000#32) := by
  rw [kept_eq, fill, after_of_writes_sub _ _ post0_writes (by decide +kernel : main_v167_4 ∉ post0W),
    after_of_writes_sub _ _ post0_writes (by decide +kernel : main_values ∉ post0W), hq, hx]

/-- A buffer the first two stretches after the loop do not write is as the loop left it. -/
theorem post_same (b : Ref sig .tc) (h0 : b ∉ post0W) (h1 : b ∉ post1W) :
    after hostOps0_22 (after hostOps0_21 U) (Proc.devRef .tc b) = U (Proc.devRef .tc b) := by
  rw [after_of_writes_sub _ _ post1_writes h1, after_of_writes_sub _ _ post0_writes h0]
end

section
variable (m : (ℓ : Loc nD τ sig) → Buf (Elt Ideal) ℓ) (c : Dev nD)

/-- The logits. -/
abbrev in0 := m ((c.tc : Thread nD τ).loc main_arg0)
/-- The deltas. -/
abbrev in1 := m ((c.tc : Thread nD τ).loc main_arg1)
/-- The rois. -/
abbrev in2 := m ((c.tc : Thread nD τ).loc main_arg2)
/-- The image's shape. -/
abbrev in3 := m ((c.tc : Thread nD τ).loc main_arg3)
/-- The image's width. -/
abbrev wd : EReal := FloatOps.sitofp (F := Ideal) .f32 (in3 m c (ix1 3))
/-- The image's height. -/
abbrev ht : EReal := FloatOps.sitofp (F := Ideal) .f32 (in3 m c (ix1 2))

/-- What it holds when the loop has ended. -/
abbrev fin : Valuation τ sig (Elt Ideal) := after condOps (atTrip condOps bodyI (entryContents preI m) 2000 c)

/-- The logits are unchanged when the loop begins. -/
theorem ent_0 : R21 (launchContents m c) (Proc.devRef .tc main_arg0) = in0 m c := (keep0 (launchContents m c) main_arg0 (by decide +kernel)).symm
/-- The deltas are unchanged when the loop begins. -/
theorem ent_1 : R21 (launchContents m c) (Proc.devRef .tc main_arg1) = in1 m c := (keep0 (launchContents m c) main_arg1 (by decide +kernel)).symm
/-- The rois are unchanged when the loop begins. -/
theorem ent_2 : R21 (launchContents m c) (Proc.devRef .tc main_arg2) = in2 m c := (keep0 (launchContents m c) main_arg2 (by decide +kernel)).symm
/-- The image's shape is unchanged when the loop begins. -/
theorem ent_3 : R21 (launchContents m c) (Proc.devRef .tc main_arg3) = in3 m c := (keep0 (launchContents m c) main_arg3 (by decide +kernel)).symm

/-- The width the loop begins with. -/
theorem ent_w : @Eq EReal (R21 (launchContents m c) (Proc.devRef .tc main_v5) ix0) (wd m c) := by
  refine (p5 (launchContents m c)).trans ?_
  rw [ent_3 m c]
/-- The height the loop begins with. -/
theorem ent_h : @Eq EReal (R21 (launchContents m c) (Proc.devRef .tc main_v2) ix0) (ht m c) := by
  refine (p2 (launchContents m c)).trans ?_
  rw [ent_3 m c]

/-- The loop changes nothing but what it carries. -/
theorem fin_keep (b : Ref sig .tc) (hc : b ∉ condOps_W) (hb : b ∉ while0Ops0_W) : fin m c (Proc.devRef .tc b) = R21 (launchContents m c) (Proc.devRef .tc b) :=
  (after_of_writes_sub _ _ condOps_writes hc).trans (trips_keep _ b hc hb c 2000)

/-- The overlaps the loop begins with, in the inputs. -/
theorem ent_overlaps (k r : Fin 2000) : @Eq EReal (R21 (launchContents m c) (Proc.devRef .tc main_v167_0) (ix2 k r))
    (ovN (in0 m c) (in1 m c) (in2 m c) (wd m c) (ht m c) k.val r.val) := by
  refine (overlaps (launchContents m c) k r).trans ?_
  rw [ent_0 m c, ent_1 m c, ent_2 m c, ent_w m c, ent_h m c]
  unfold ovN
  rw [dif_pos (show k.val < 2000 ∧ r.val < 2000 from ⟨k.isLt, r.isLt⟩)]

/-- The marks the loop begins with, in the inputs. -/
theorem ent_marks (r : Fin 2000) : @Eq (BitVec 1) (R21 (launchContents m c) (Proc.devRef .tc main_v167_4) (ix1 r)) 1#1 ↔ thr < scoreN (in0 m c) r.val := by
  refine (valid (launchContents m c) r).trans ?_
  rw [ent_0 m c]
  unfold scoreN
  rw [dif_pos r.isLt]

/-- The marks the loop ends with. -/
theorem fin_marks (r : Fin 2000) : @Eq (BitVec 1) (fin m c (Proc.devRef .tc main_v167_4) (ix1 r)) 1#1
    ↔ keep (scoreN (in0 m c)) (ovN (in0 m c) (in1 m c) (in2 m c) (wd m c) (ht m c)) 2000 r.val := by
  have h : fin m c (Proc.devRef .tc main_v167_4) = (STEP^[2000] (R21 (launchContents m c))) (Proc.devRef .tc main_v167_4) :=
    (cond_keeps _ main_v167_4 (by decide)).trans (atK_agree m c 2000 main_v167_4 (by decide))
  rw [h]
  exact (marks (R21 (launchContents m c)) _ _ (ent_overlaps m c) (u167_1 (R20 (launchContents m c))) (u167_3 (R20 (launchContents m c))) (ent_marks m c) 2000 le_rfl).2.2.2 r

/-- The candidates' scores when the loop has ended. -/
theorem fin_values : fin m c (Proc.devRef .tc main_values) = (best (flatScore (in0 m c)) fits).1 := by
  refine (fin_keep m c main_values (by decide +kernel) (by decide +kernel)).trans ((values (launchContents m c)).trans ?_)
  rw [ent_0 m c]

/-- The scores after the suppression, as the reference computes them. -/
theorem final_at : after hostOps0_22 (after hostOps0_21 (fin m c)) (Proc.devRef .tc main_v168)
    = final (in0 m c) (in1 m c) (in2 m c) (wd m c) (ht m c) := by
  rw [after_post (fin m c) _ _ rfl (fin_values m c)]
  have hm := fin_marks m c
  generalize fin m c (Proc.devRef .tc main_v167_4) = q at hm
  funext i
  idx_vars i
  rename' i0 => r
  refine (kept_at q _ r).trans ?_
  unfold final
  by_cases hk : keep (scoreN (in0 m c)) (ovN (in0 m c) (in1 m c) (in2 m c) (wd m c) (ht m c)) 2000 r.val
  · rw [if_pos ((hm r).mpr hk)]
    exact (if_pos hk).symm
  · rw [if_neg (fun h => hk ((hm r).mp h))]
    exact (if_neg hk).symm

/-- What the reference ends with. -/
abbrev last : Valuation τ sig (Elt Ideal) := finalContents condOps preI bodyI postI 2000 m c

/-- The last scores. -/
theorem result_values : last m c (Proc.devRef .tc main_values_31)
    = (best (N := 2000) (K := 100) (final (in0 m c) (in1 m c) (in2 m c) (wd m c) (ht m c)) fits').1 := by
  rw [← final_at m c]
  exact last_values (after hostOps0_22 (after hostOps0_21 (fin m c)))

/-- Each last box is the box of the candidate its position names. -/
theorem result_boxes (s : Fin 100) (k : ℕ) (hk : k < 2000)
    (hI : (best (N := 2000) (K := 100) (final (in0 m c) (in1 m c) (in2 m c) (wd m c) (ht m c)) fits').2 (ix1 s) = BitVec.ofNat 32 k) (j : Fin 4) :
    @Eq EReal (last m c (Proc.devRef .tc main_v175) (ix2 s j))
      (box (in0 m c) (in1 m c) (in2 m c) (wd m c) (ht m c) ⟨k, hk⟩ j) := by
  rw [← final_at m c] at hI
  refine (last_boxes (after hostOps0_22 (after hostOps0_21 (fin m c))) s k hk hI j).trans ?_
  rw [post_same (fin m c) main_v109 (by decide +kernel) (by decide +kernel), fin_keep m c main_v109 (by decide +kernel) (by decide +kernel)]
  refine (boxes (launchContents m c) ⟨k, hk⟩ j).trans ?_
  rw [ent_0 m c, ent_1 m c, ent_2 m c, ent_w m c, ent_h m c]

/-- Each last class is the class of the candidate its position names. -/
theorem result_classes (s : Fin 100) (k : ℕ) (hk : k < 2000)
    (hI : (best (N := 2000) (K := 100) (final (in0 m c) (in1 m c) (in2 m c) (wd m c) (ht m c)) fits').2 (ix1 s) = BitVec.ofNat 32 k) :
    @Eq (BitVec 32) (last m c (Proc.devRef .tc main_v182) (ix1 s))
      (BitVec.ofNat 32 (pos (in0 m c) ⟨k, hk⟩ % 80)) := by
  rw [← final_at m c] at hI
  refine (last_classes (after hostOps0_22 (after hostOps0_21 (fin m c))) s k hk hI).trans ?_
  rw [post_same (fin m c) main_v110 (by decide +kernel) (by decide +kernel), fin_keep m c main_v110 (by decide +kernel) (by decide +kernel)]
  refine (classes (launchContents m c) ⟨k, hk⟩).trans ?_
  rw [ent_0 m c]

end

end Cert.RefSide
-- ==== Proof.Same.lean ====
/- The two programs' results agree: from equal arguments the kernel and the reference leave the same boxes, the same
   scores and the same classes. -/
module

public import proofs.«01_k».proof.Proof.KernelFinal
public import proofs.«01_k».proof.Proof.RefFinal

@[expose] public section

set_option maxRecDepth 16384

noncomputable section

namespace Cert.Same

open Idealize.ShloMosaic Idealize.ShloMosaic.StableHlo Cert.Spec

/-- The word of every last place names one of the 2000 candidates. -/
theorem last_word (x : (⟨1, ![2000]⟩ : Shape).Idx → EReal) (s : Fin 100) :
    ∃ k : ℕ, k < 2000 ∧ (best (N := 2000) (K := 100) x fits').2 (ix1 s) = BitVec.ofNat 32 k := by
  obtain ⟨k, hk, h⟩ := topK_word (FloatOps.cmpfTotal (F := Ideal) (φ := .f32) .gt) x fits' (ix1 s)
  exact ⟨k, hk, h⟩

variable (m : (ℓ : Loc Cert.KernelIdeal.nD Cert.KernelIdeal.τ Cert.KernelIdeal.sig) → Buf (Elt Ideal) ℓ)
  (ρ : Dev Cert.KernelIdeal.nD → PrngReg)
  (m' : (ℓ : Loc Cert.ReferenceIdeal.nD Cert.ReferenceIdeal.τ Cert.ReferenceIdeal.sig) → Buf (Elt Ideal) ℓ)
  (c : Dev Cert.KernelIdeal.nD)

/-- The arguments of the two programs agree. -/
def Args : Prop :=
  Cert.RefSide.in0 m' c = Cert.KernelSide.in0 m c ∧ Cert.RefSide.in1 m' c = Cert.KernelSide.in1 m c
    ∧ Cert.RefSide.in2 m' c = Cert.KernelSide.in2 m c ∧ Cert.RefSide.in3 m' c = Cert.KernelSide.in3 m c

variable (h : Args m m' c)
include h

/-- The same image width. -/
theorem wd_eq : Cert.RefSide.wd m' c = Cert.KernelSide.wd m c :=
  congrArg (FloatOps.sitofp (F := Ideal) .f32) (congrFun h.2.2.2 (ix1 3))

/-- The same image height. -/
theorem ht_eq : Cert.RefSide.ht m' c = Cert.KernelSide.ht m c :=
  congrArg (FloatOps.sitofp (F := Ideal) .f32) (congrFun h.2.2.2 (ix1 2))

/-- The same scores after the suppression. -/
theorem final_eq : final (Cert.RefSide.in0 m' c) (Cert.RefSide.in1 m' c) (Cert.RefSide.in2 m' c) (Cert.RefSide.wd m' c) (Cert.RefSide.ht m' c)
    = final (Cert.KernelSide.in0 m c) (Cert.KernelSide.in1 m c) (Cert.KernelSide.in2 m c) (Cert.KernelSide.wd m c) (Cert.KernelSide.ht m c) := by
  rw [wd_eq m m' c h, ht_eq m m' c h, h.1, h.2.1, h.2.2.1]

/-- The last scores agree. -/
theorem values_eq : @Eq ((⟨1, ![100]⟩ : Shape).Idx → EReal)
    (Cert.RefSide.last m' c (Proc.devRef .tc Cert.ReferenceIdeal.main_values_31))
    (Cert.KernelIdeal.Gen.W17 m ρ c (Proc.devRef .tc Cert.KernelIdeal.main_values_13)) := by
  refine (Cert.RefSide.result_values m' c).trans ?_
  rw [final_eq m m' c h]
  exact (Cert.KernelSide.result_values m ρ c).symm

/-- The last boxes agree. -/
theorem boxes_eq : @Eq ((⟨2, ![100, 4]⟩ : Shape).Idx → EReal)
    (Cert.RefSide.last m' c (Proc.devRef .tc Cert.ReferenceIdeal.main_v175))
    (Cert.KernelIdeal.Gen.W17 m ρ c (Proc.devRef .tc Cert.KernelIdeal.main_v96)) := by
  funext i
  idx_vars i
  obtain ⟨k, hk, hw⟩ := last_word (final (Cert.KernelSide.in0 m c) (Cert.KernelSide.in1 m c) (Cert.KernelSide.in2 m c) (Cert.KernelSide.wd m c) (Cert.KernelSide.ht m c)) i0
  refine (Cert.RefSide.result_boxes m' c i0 k hk (by rw [final_eq m m' c h]; exact hw) i1).trans ?_
  rw [wd_eq m m' c h, ht_eq m m' c h, h.1, h.2.1, h.2.2.1]
  exact (Cert.KernelSide.result_boxes m ρ c i0 k hk hw i1).symm

/-- The last classes agree. -/
theorem classes_eq : @Eq (IVec ⟨1, ![100]⟩ 32)
    (Cert.RefSide.last m' c (Proc.devRef .tc Cert.ReferenceIdeal.main_v182))
    (Cert.KernelIdeal.Gen.W17 m ρ c (Proc.devRef .tc Cert.KernelIdeal.main_v103)) := by
  funext i
  idx_vars i
  obtain ⟨k, hk, hw⟩ := last_word (final (Cert.KernelSide.in0 m c) (Cert.KernelSide.in1 m c) (Cert.KernelSide.in2 m c) (Cert.KernelSide.wd m c) (Cert.KernelSide.ht m c)) i0
  refine (Cert.RefSide.result_classes m' c i0 k hk (by rw [final_eq m m' c h]; exact hw)).trans ?_
  rw [h.1]
  exact (Cert.KernelSide.result_classes m ρ c i0 k hk hw).symm

end Cert.Same
-- ==== Proof.lean ====
/- The certificate's claim, assembled: the frames of the kernel, of its idealized form and of the reference, the
   idealized kernel against the kernel's own text, and the value claim, whose equalities are in Proof/Same.lean. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.RefFrame
public import proofs.«01_k».proof.Proof.KernelRun
public import proofs.«01_k».proof.Proof.Same
public import Idealize.ShloMosaic.Adequacy
public import Idealize.ShloMosaic.Init

@[expose] public section

noncomputable section

namespace Cert.Proof

open Idealize.ShloMosaic Idealize.SL.Sem Cert.Kernel

/-- The frames of the two kernels and of the reference, the kernel as written against the kernel over the
extended reals, and the value claim: from equal arguments the kernel and the reference end with equal boxes,
scores and classes. -/
theorem claim : Cert.Claim := ⟨Cert.Kernel.Gen.facts, Cert.KernelIdeal.Gen.facts, Cert.ReferenceIdeal.Gen.facts, by
  refine ⟨fun m ρ _ => Cert.Kernel.Gen.frame m ρ, fun m ρ _ => Cert.KernelIdeal.Gen.frame m ρ, fun m ρ _ => ?_, trivial,
    fun m g m' g' _ ha => ⟨fun c => Cert.KernelIdeal.Gen.W17 m g c (Proc.devRef .tc Cert.KernelIdeal.main_v96),
      fun c => Cert.KernelIdeal.Gen.W17 m g c (Proc.devRef .tc Cert.KernelIdeal.main_values_13),
      fun c => Cert.KernelIdeal.Gen.W17 m g c (Proc.devRef .tc Cert.KernelIdeal.main_v103), Cert.KernelIdeal.Launched.run m g, ?_⟩⟩
  · exact (θ_run _ _ _).2 (fun r h => ⟨fun c => (h.1 c).2.2.2, h.2⟩) (Cert.RefSide.run m ρ)
  · refine (θ_run _ _ _).2 (fun r h c => ?_) (Cert.RefSide.run m' g')
    obtain ⟨hb, hv, hc, hargs⟩ := h.1 c
    exact ⟨hb.trans (Cert.Same.boxes_eq m g m' c (ha c)), hv.trans (Cert.Same.values_eq m g m' c (ha c)),
      hc.trans (Cert.Same.classes_eq m g m' c (ha c)), hargs⟩⟩

end Cert.Proof

end
